-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3)
      ∧ r.2.mem ((c.tc : Thread Cert.KernelProj.nD Cert.KernelProj.τ).loc Cert.KernelProj.main_arg4) = m ((c.tc : Thread Cert.KernelProj.nD Cert.KernelProj.τ).loc Cert.KernelProj.main_arg4)
      ∧ r.2.mem ((c.tc : Thread Cert.KernelProj.nD Cert.KernelProj.τ).loc Cert.KernelProj.main_arg5) = m ((c.tc : Thread Cert.KernelProj.nD Cert.KernelProj.τ).loc Cert.KernelProj.main_arg5))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
      ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
      ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3)
      ∧ r.2.mem ((c.tc : Thread Cert.ReferenceProjIdeal.nD Cert.ReferenceProjIdeal.τ).loc Cert.ReferenceProjIdeal.main_arg4) = m ((c.tc : Thread Cert.ReferenceProjIdeal.nD Cert.ReferenceProjIdeal.τ).loc Cert.ReferenceProjIdeal.main_arg4)
      ∧ r.2.mem ((c.tc : Thread Cert.ReferenceProjIdeal.nD Cert.ReferenceProjIdeal.τ).loc Cert.ReferenceProjIdeal.main_arg5) = m ((c.tc : Thread Cert.ReferenceProjIdeal.nD Cert.ReferenceProjIdeal.τ).loc Cert.ReferenceProjIdeal.main_arg5))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7)
      ∧ r.2.mem ((c.tc : Thread Cert.KernelMerge.nD Cert.KernelMerge.τ).loc Cert.KernelMerge.main_arg8) = m ((c.tc : Thread Cert.KernelMerge.nD Cert.KernelMerge.τ).loc Cert.KernelMerge.main_arg8)
      ∧ r.2.mem ((c.tc : Thread Cert.KernelMerge.nD Cert.KernelMerge.τ).loc Cert.KernelMerge.main_arg9) = m ((c.tc : Thread Cert.KernelMerge.nD Cert.KernelMerge.τ).loc Cert.KernelMerge.main_arg9)
      ∧ r.2.mem ((c.tc : Thread Cert.KernelMerge.nD Cert.KernelMerge.τ).loc Cert.KernelMerge.main_arg10) = m ((c.tc : Thread Cert.KernelMerge.nD Cert.KernelMerge.τ).loc Cert.KernelMerge.main_arg10)
      ∧ r.2.mem ((c.tc : Thread Cert.KernelMerge.nD Cert.KernelMerge.τ).loc Cert.KernelMerge.main_arg11) = m ((c.tc : Thread Cert.KernelMerge.nD Cert.KernelMerge.τ).loc Cert.KernelMerge.main_arg11)
      ∧ r.2.mem ((c.tc : Thread Cert.KernelMerge.nD Cert.KernelMerge.τ).loc Cert.KernelMerge.main_arg12) = m ((c.tc : Thread Cert.KernelMerge.nD Cert.KernelMerge.τ).loc Cert.KernelMerge.main_arg12)
      ∧ r.2.mem ((c.tc : Thread Cert.KernelMerge.nD Cert.KernelMerge.τ).loc Cert.KernelMerge.main_arg13) = m ((c.tc : Thread Cert.KernelMerge.nD Cert.KernelMerge.τ).loc Cert.KernelMerge.main_arg13)
      ∧ r.2.mem ((c.tc : Thread Cert.KernelMerge.nD Cert.KernelMerge.τ).loc Cert.KernelMerge.main_arg14) = m ((c.tc : Thread Cert.KernelMerge.nD Cert.KernelMerge.τ).loc Cert.KernelMerge.main_arg14)
      ∧ r.2.mem ((c.tc : Thread Cert.KernelMerge.nD Cert.KernelMerge.τ).loc Cert.KernelMerge.main_arg15) = m ((c.tc : Thread Cert.KernelMerge.nD Cert.KernelMerge.τ).loc Cert.KernelMerge.main_arg15)
      ∧ r.2.mem ((c.tc : Thread Cert.KernelMerge.nD Cert.KernelMerge.τ).loc Cert.KernelMerge.main_arg16) = m ((c.tc : Thread Cert.KernelMerge.nD Cert.KernelMerge.τ).loc Cert.KernelMerge.main_arg16))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
      ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9)
      ∧ r.2.mem ((c.tc : Thread Cert.KernelMergeIdeal.nD Cert.KernelMergeIdeal.τ).loc Cert.KernelMergeIdeal.main_arg10) = m ((c.tc : Thread Cert.KernelMergeIdeal.nD Cert.KernelMergeIdeal.τ).loc Cert.KernelMergeIdeal.main_arg10)
      ∧ r.2.mem ((c.tc : Thread Cert.KernelMergeIdeal.nD Cert.KernelMergeIdeal.τ).loc Cert.KernelMergeIdeal.main_arg11) = m ((c.tc : Thread Cert.KernelMergeIdeal.nD Cert.KernelMergeIdeal.τ).loc Cert.KernelMergeIdeal.main_arg11)
      ∧ r.2.mem ((c.tc : Thread Cert.KernelMergeIdeal.nD Cert.KernelMergeIdeal.τ).loc Cert.KernelMergeIdeal.main_arg12) = m ((c.tc : Thread Cert.KernelMergeIdeal.nD Cert.KernelMergeIdeal.τ).loc Cert.KernelMergeIdeal.main_arg12)
      ∧ r.2.mem ((c.tc : Thread Cert.KernelMergeIdeal.nD Cert.KernelMergeIdeal.τ).loc Cert.KernelMergeIdeal.main_arg13) = m ((c.tc : Thread Cert.KernelMergeIdeal.nD Cert.KernelMergeIdeal.τ).loc Cert.KernelMergeIdeal.main_arg13)
      ∧ r.2.mem ((c.tc : Thread Cert.KernelMergeIdeal.nD Cert.KernelMergeIdeal.τ).loc Cert.KernelMergeIdeal.main_arg14) = m ((c.tc : Thread Cert.KernelMergeIdeal.nD Cert.KernelMergeIdeal.τ).loc Cert.KernelMergeIdeal.main_arg14)
      ∧ r.2.mem ((c.tc : Thread Cert.KernelMergeIdeal.nD Cert.KernelMergeIdeal.τ).loc Cert.KernelMergeIdeal.main_arg15) = m ((c.tc : Thread Cert.KernelMergeIdeal.nD Cert.KernelMergeIdeal.τ).loc Cert.KernelMergeIdeal.main_arg15)
      ∧ r.2.mem ((c.tc : Thread Cert.KernelMergeIdeal.nD Cert.KernelMergeIdeal.τ).loc Cert.KernelMergeIdeal.main_arg16) = m ((c.tc : Thread Cert.KernelMergeIdeal.nD Cert.KernelMergeIdeal.τ).loc Cert.KernelMergeIdeal.main_arg16))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8)
      ∧ r.2.mem ((c.tc : Thread Cert.ReferenceMergeIdeal.nD Cert.ReferenceMergeIdeal.τ).loc Cert.ReferenceMergeIdeal.main_arg9) = m ((c.tc : Thread Cert.ReferenceMergeIdeal.nD Cert.ReferenceMergeIdeal.τ).loc Cert.ReferenceMergeIdeal.main_arg9)
      ∧ r.2.mem ((c.tc : Thread Cert.ReferenceMergeIdeal.nD Cert.ReferenceMergeIdeal.τ).loc Cert.ReferenceMergeIdeal.main_arg10) = m ((c.tc : Thread Cert.ReferenceMergeIdeal.nD Cert.ReferenceMergeIdeal.τ).loc Cert.ReferenceMergeIdeal.main_arg10)
      ∧ r.2.mem ((c.tc : Thread Cert.ReferenceMergeIdeal.nD Cert.ReferenceMergeIdeal.τ).loc Cert.ReferenceMergeIdeal.main_arg11) = m ((c.tc : Thread Cert.ReferenceMergeIdeal.nD Cert.ReferenceMergeIdeal.τ).loc Cert.ReferenceMergeIdeal.main_arg11)
      ∧ r.2.mem ((c.tc : Thread Cert.ReferenceMergeIdeal.nD Cert.ReferenceMergeIdeal.τ).loc Cert.ReferenceMergeIdeal.main_arg12) = m ((c.tc : Thread Cert.ReferenceMergeIdeal.nD Cert.ReferenceMergeIdeal.τ).loc Cert.ReferenceMergeIdeal.main_arg12)
      ∧ r.2.mem ((c.tc : Thread Cert.ReferenceMergeIdeal.nD Cert.ReferenceMergeIdeal.τ).loc Cert.ReferenceMergeIdeal.main_arg13) = m ((c.tc : Thread Cert.ReferenceMergeIdeal.nD Cert.ReferenceMergeIdeal.τ).loc Cert.ReferenceMergeIdeal.main_arg13)
      ∧ r.2.mem ((c.tc : Thread Cert.ReferenceMergeIdeal.nD Cert.ReferenceMergeIdeal.τ).loc Cert.ReferenceMergeIdeal.main_arg14) = m ((c.tc : Thread Cert.ReferenceMergeIdeal.nD Cert.ReferenceMergeIdeal.τ).loc Cert.ReferenceMergeIdeal.main_arg14)
      ∧ r.2.mem ((c.tc : Thread Cert.ReferenceMergeIdeal.nD Cert.ReferenceMergeIdeal.τ).loc Cert.ReferenceMergeIdeal.main_arg15) = m ((c.tc : Thread Cert.ReferenceMergeIdeal.nD Cert.ReferenceMergeIdeal.τ).loc Cert.ReferenceMergeIdeal.main_arg15)
      ∧ r.2.mem ((c.tc : Thread Cert.ReferenceMergeIdeal.nD Cert.ReferenceMergeIdeal.τ).loc Cert.ReferenceMergeIdeal.main_arg16) = m ((c.tc : Thread Cert.ReferenceMergeIdeal.nD Cert.ReferenceMergeIdeal.τ).loc Cert.ReferenceMergeIdeal.main_arg16))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)
      ∧ m' ((c.tc : Thread Cert.ReferenceProjIdeal.nD Cert.ReferenceProjIdeal.τ).loc Cert.ReferenceProjIdeal.main_arg4) = m ((c.tc : Thread Cert.KernelProjIdeal.nD Cert.KernelProjIdeal.τ).loc Cert.KernelProjIdeal.main_arg4)
      ∧ m' ((c.tc : Thread Cert.ReferenceProjIdeal.nD Cert.ReferenceProjIdeal.τ).loc Cert.ReferenceProjIdeal.main_arg5) = m ((c.tc : Thread Cert.KernelProjIdeal.nD Cert.KernelProjIdeal.τ).loc Cert.KernelProjIdeal.main_arg5)) →
    ∃ (v0 : (c : Dev Cert.KernelProjIdeal.nD) → Buf (Elt Ideal) ((c.tc : Thread Cert.KernelProjIdeal.nD Cert.KernelProjIdeal.τ).loc Cert.KernelProjIdeal.main_v10)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v10) = v0 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
          ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
          ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v57) = v0 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3)
          ∧ r.2.mem ((c.tc : Thread Cert.ReferenceProjIdeal.nD Cert.ReferenceProjIdeal.τ).loc Cert.ReferenceProjIdeal.main_arg4) = m' ((c.tc : Thread Cert.ReferenceProjIdeal.nD Cert.ReferenceProjIdeal.τ).loc Cert.ReferenceProjIdeal.main_arg4)
          ∧ r.2.mem ((c.tc : Thread Cert.ReferenceProjIdeal.nD Cert.ReferenceProjIdeal.τ).loc Cert.ReferenceProjIdeal.main_arg5) = m' ((c.tc : Thread Cert.ReferenceProjIdeal.nD Cert.ReferenceProjIdeal.τ).loc Cert.ReferenceProjIdeal.main_arg5))

def preserves_KernelMerge_KernelMergeIdeal : Prop :=
  IdealRules.bf16_pair.BufferStatement Cert.KernelMergeIdeal.S16896x2x256 Cert.KernelMergeIdeal.S16896x1x256
  ∧ IdealRules.bf16_pair.BufferStatement Cert.KernelMergeIdeal.S256x2x256 Cert.KernelMergeIdeal.S256x1x256
  ∧ IdealRules.bf16_pair.Statement Cert.KernelMergeIdeal.S256x2x256 Cert.KernelMergeIdeal.S256x1x256
  ∧ IdealRules.bf16_pack.Statement Cert.KernelMergeIdeal.S256x256

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)
      ∧ m' ((c.tc : Thread Cert.ReferenceMergeIdeal.nD Cert.ReferenceMergeIdeal.τ).loc Cert.ReferenceMergeIdeal.main_arg8) = m ((c.tc : Thread Cert.KernelMergeIdeal.nD Cert.KernelMergeIdeal.τ).loc Cert.KernelMergeIdeal.main_arg8)
      ∧ m' ((c.tc : Thread Cert.ReferenceMergeIdeal.nD Cert.ReferenceMergeIdeal.τ).loc Cert.ReferenceMergeIdeal.main_arg9) = m ((c.tc : Thread Cert.KernelMergeIdeal.nD Cert.KernelMergeIdeal.τ).loc Cert.KernelMergeIdeal.main_arg9)
      ∧ m' ((c.tc : Thread Cert.ReferenceMergeIdeal.nD Cert.ReferenceMergeIdeal.τ).loc Cert.ReferenceMergeIdeal.main_arg10) = m ((c.tc : Thread Cert.KernelMergeIdeal.nD Cert.KernelMergeIdeal.τ).loc Cert.KernelMergeIdeal.main_arg10)
      ∧ m' ((c.tc : Thread Cert.ReferenceMergeIdeal.nD Cert.ReferenceMergeIdeal.τ).loc Cert.ReferenceMergeIdeal.main_arg11) = m ((c.tc : Thread Cert.KernelMergeIdeal.nD Cert.KernelMergeIdeal.τ).loc Cert.KernelMergeIdeal.main_arg11)
      ∧ m' ((c.tc : Thread Cert.ReferenceMergeIdeal.nD Cert.ReferenceMergeIdeal.τ).loc Cert.ReferenceMergeIdeal.main_arg12) = m ((c.tc : Thread Cert.KernelMergeIdeal.nD Cert.KernelMergeIdeal.τ).loc Cert.KernelMergeIdeal.main_arg12)
      ∧ m' ((c.tc : Thread Cert.ReferenceMergeIdeal.nD Cert.ReferenceMergeIdeal.τ).loc Cert.ReferenceMergeIdeal.main_arg13) = m ((c.tc : Thread Cert.KernelMergeIdeal.nD Cert.KernelMergeIdeal.τ).loc Cert.KernelMergeIdeal.main_arg13)
      ∧ m' ((c.tc : Thread Cert.ReferenceMergeIdeal.nD Cert.ReferenceMergeIdeal.τ).loc Cert.ReferenceMergeIdeal.main_arg14) = m ((c.tc : Thread Cert.KernelMergeIdeal.nD Cert.KernelMergeIdeal.τ).loc Cert.KernelMergeIdeal.main_arg14)
      ∧ m' ((c.tc : Thread Cert.ReferenceMergeIdeal.nD Cert.ReferenceMergeIdeal.τ).loc Cert.ReferenceMergeIdeal.main_arg15) = m ((c.tc : Thread Cert.KernelMergeIdeal.nD Cert.KernelMergeIdeal.τ).loc Cert.KernelMergeIdeal.main_arg15)
      ∧ m' ((c.tc : Thread Cert.ReferenceMergeIdeal.nD Cert.ReferenceMergeIdeal.τ).loc Cert.ReferenceMergeIdeal.main_arg16) = m ((c.tc : Thread Cert.KernelMergeIdeal.nD Cert.KernelMergeIdeal.τ).loc Cert.KernelMergeIdeal.main_arg16)) →
    ∃ (v0 : (c : Dev Cert.KernelMergeIdeal.nD) → Buf (Elt Ideal) ((c.tc : Thread Cert.KernelMergeIdeal.nD Cert.KernelMergeIdeal.τ).loc Cert.KernelMergeIdeal.main_v28_0)) (v1 : (c : Dev Cert.KernelMergeIdeal.nD) → Buf (Elt Ideal) ((c.tc : Thread Cert.KernelMergeIdeal.nD Cert.KernelMergeIdeal.τ).loc Cert.KernelMergeIdeal.main_v28_1)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v28_0) = v0 c
          ∧ r.2.mem ((c.tc : Thread Cert.KernelMergeIdeal.nD Cert.KernelMergeIdeal.τ).loc Cert.KernelMergeIdeal.main_v28_1) = v1 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
          ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
          ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9)
          ∧ r.2.mem ((c.tc : Thread Cert.KernelMergeIdeal.nD Cert.KernelMergeIdeal.τ).loc Cert.KernelMergeIdeal.main_arg10) = m ((c.tc : Thread Cert.KernelMergeIdeal.nD Cert.KernelMergeIdeal.τ).loc Cert.KernelMergeIdeal.main_arg10)
          ∧ r.2.mem ((c.tc : Thread Cert.KernelMergeIdeal.nD Cert.KernelMergeIdeal.τ).loc Cert.KernelMergeIdeal.main_arg11) = m ((c.tc : Thread Cert.KernelMergeIdeal.nD Cert.KernelMergeIdeal.τ).loc Cert.KernelMergeIdeal.main_arg11)
          ∧ r.2.mem ((c.tc : Thread Cert.KernelMergeIdeal.nD Cert.KernelMergeIdeal.τ).loc Cert.KernelMergeIdeal.main_arg12) = m ((c.tc : Thread Cert.KernelMergeIdeal.nD Cert.KernelMergeIdeal.τ).loc Cert.KernelMergeIdeal.main_arg12)
          ∧ r.2.mem ((c.tc : Thread Cert.KernelMergeIdeal.nD Cert.KernelMergeIdeal.τ).loc Cert.KernelMergeIdeal.main_arg13) = m ((c.tc : Thread Cert.KernelMergeIdeal.nD Cert.KernelMergeIdeal.τ).loc Cert.KernelMergeIdeal.main_arg13)
          ∧ r.2.mem ((c.tc : Thread Cert.KernelMergeIdeal.nD Cert.KernelMergeIdeal.τ).loc Cert.KernelMergeIdeal.main_arg14) = m ((c.tc : Thread Cert.KernelMergeIdeal.nD Cert.KernelMergeIdeal.τ).loc Cert.KernelMergeIdeal.main_arg14)
          ∧ r.2.mem ((c.tc : Thread Cert.KernelMergeIdeal.nD Cert.KernelMergeIdeal.τ).loc Cert.KernelMergeIdeal.main_arg15) = m ((c.tc : Thread Cert.KernelMergeIdeal.nD Cert.KernelMergeIdeal.τ).loc Cert.KernelMergeIdeal.main_arg15)
          ∧ r.2.mem ((c.tc : Thread Cert.KernelMergeIdeal.nD Cert.KernelMergeIdeal.τ).loc Cert.KernelMergeIdeal.main_arg16) = m ((c.tc : Thread Cert.KernelMergeIdeal.nD Cert.KernelMergeIdeal.τ).loc Cert.KernelMergeIdeal.main_arg16))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v150) = v0 c
          ∧ r.2.mem ((c.tc : Thread Cert.ReferenceMergeIdeal.nD Cert.ReferenceMergeIdeal.τ).loc Cert.ReferenceMergeIdeal.main_v154) = v1 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7)
          ∧ r.2.mem ((c.tc : Thread Cert.ReferenceMergeIdeal.nD Cert.ReferenceMergeIdeal.τ).loc Cert.ReferenceMergeIdeal.main_arg8) = m' ((c.tc : Thread Cert.ReferenceMergeIdeal.nD Cert.ReferenceMergeIdeal.τ).loc Cert.ReferenceMergeIdeal.main_arg8)
          ∧ r.2.mem ((c.tc : Thread Cert.ReferenceMergeIdeal.nD Cert.ReferenceMergeIdeal.τ).loc Cert.ReferenceMergeIdeal.main_arg9) = m' ((c.tc : Thread Cert.ReferenceMergeIdeal.nD Cert.ReferenceMergeIdeal.τ).loc Cert.ReferenceMergeIdeal.main_arg9)
          ∧ r.2.mem ((c.tc : Thread Cert.ReferenceMergeIdeal.nD Cert.ReferenceMergeIdeal.τ).loc Cert.ReferenceMergeIdeal.main_arg10) = m' ((c.tc : Thread Cert.ReferenceMergeIdeal.nD Cert.ReferenceMergeIdeal.τ).loc Cert.ReferenceMergeIdeal.main_arg10)
          ∧ r.2.mem ((c.tc : Thread Cert.ReferenceMergeIdeal.nD Cert.ReferenceMergeIdeal.τ).loc Cert.ReferenceMergeIdeal.main_arg11) = m' ((c.tc : Thread Cert.ReferenceMergeIdeal.nD Cert.ReferenceMergeIdeal.τ).loc Cert.ReferenceMergeIdeal.main_arg11)
          ∧ r.2.mem ((c.tc : Thread Cert.ReferenceMergeIdeal.nD Cert.ReferenceMergeIdeal.τ).loc Cert.ReferenceMergeIdeal.main_arg12) = m' ((c.tc : Thread Cert.ReferenceMergeIdeal.nD Cert.ReferenceMergeIdeal.τ).loc Cert.ReferenceMergeIdeal.main_arg12)
          ∧ r.2.mem ((c.tc : Thread Cert.ReferenceMergeIdeal.nD Cert.ReferenceMergeIdeal.τ).loc Cert.ReferenceMergeIdeal.main_arg13) = m' ((c.tc : Thread Cert.ReferenceMergeIdeal.nD Cert.ReferenceMergeIdeal.τ).loc Cert.ReferenceMergeIdeal.main_arg13)
          ∧ r.2.mem ((c.tc : Thread Cert.ReferenceMergeIdeal.nD Cert.ReferenceMergeIdeal.τ).loc Cert.ReferenceMergeIdeal.main_arg14) = m' ((c.tc : Thread Cert.ReferenceMergeIdeal.nD Cert.ReferenceMergeIdeal.τ).loc Cert.ReferenceMergeIdeal.main_arg14)
          ∧ r.2.mem ((c.tc : Thread Cert.ReferenceMergeIdeal.nD Cert.ReferenceMergeIdeal.τ).loc Cert.ReferenceMergeIdeal.main_arg15) = m' ((c.tc : Thread Cert.ReferenceMergeIdeal.nD Cert.ReferenceMergeIdeal.τ).loc Cert.ReferenceMergeIdeal.main_arg15)
          ∧ r.2.mem ((c.tc : Thread Cert.ReferenceMergeIdeal.nD Cert.ReferenceMergeIdeal.τ).loc Cert.ReferenceMergeIdeal.main_arg16) = m' ((c.tc : Thread Cert.ReferenceMergeIdeal.nD Cert.ReferenceMergeIdeal.τ).loc Cert.ReferenceMergeIdeal.main_arg16))

def Claim : Prop :=
  ∃ (hKernel : Cert.Kernel.Facts) (hKernelIdeal : Cert.KernelIdeal.Facts) (hReferenceIdeal : Cert.ReferenceIdeal.Facts) (hKernelProj : Cert.KernelProj.Facts) (hKernelProjIdeal : Cert.KernelProjIdeal.Facts) (hReferenceProjIdeal : Cert.ReferenceProjIdeal.Facts) (hKernelMerge : Cert.KernelMerge.Facts) (hKernelMergeIdeal : Cert.KernelMergeIdeal.Facts) (hReferenceMergeIdeal : Cert.ReferenceMergeIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelProj_KernelProjIdeal
    ∧ algebraic_KernelProjIdeal_ReferenceProjIdeal (hKernelProjIdeal := hKernelProjIdeal) (hReferenceProjIdeal := hReferenceProjIdeal)
    ∧ preserves_KernelMerge_KernelMergeIdeal
    ∧ algebraic_KernelMergeIdeal_ReferenceMergeIdeal (hKernelMergeIdeal := hKernelMergeIdeal) (hReferenceMergeIdeal := hReferenceMergeIdeal)
-- ==== Pre_finite.lean ====
abbrev S2x8192x8x2x64 : Shape := ⟨5, ![2, 8192, 8, 2, 64]⟩
abbrev S2x256x8x2x64 : Shape := ⟨5, ![2, 256, 8, 2, 64]⟩
abbrev S2x8192x8x128 : Shape := ⟨4, ![2, 8192, 8, 128]⟩
abbrev S2x256x8x128 : Shape := ⟨4, ![2, 256, 8, 128]⟩
abbrev S4x64 : Shape := ⟨2, ![4, 64]⟩
abbrev S128 : Shape := ⟨1, ![128]⟩
abbrev S_ : Shape := ⟨0, ![]⟩

class Facts : Prop where
  bcast_S_S2x8192x8x128 : S_.BroadcastsInDim S2x8192x8x128 (![] : Fin 0 → Fin S2x8192x8x128.rank)
  reducesTo_S2x8192x8x128_S_d0_1_2_3 : S2x8192x8x128.ReducesTo [0, 1, 2, 3] S_
  h_S_ : 0 < S_.numel
  bcast_S_S2x256x8x128 : S_.BroadcastsInDim S2x256x8x128 (![] : Fin 0 → Fin S2x256x8x128.rank)
  reducesTo_S2x256x8x128_S_d0_1_2_3 : S2x256x8x128.ReducesTo [0, 1, 2, 3] S_
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S2x8192x8x2x64 .f32) (main_arg1 : FVec F S2x256x8x2x64 .f32) (main_arg2 : FVec F S2x8192x8x2x64 .f32) (main_arg3 : FVec F S2x256x8x2x64 .f32) (main_arg4 : FVec F S2x8192x8x128 .f32) (main_arg5 : FVec F S2x256x8x128 .f32) (main_arg6 : FVec F S4x64 .f32) (main_arg7 : FVec F S128 .f32) : IVec S_ 1 :=
  let main_v0 : FVec F S2x8192x8x128 .f32 := Host.absf main_arg4
  let main_cst : FVec F S_ .f32 := constant S_ .f32 0x7F800000#32
  let main_v1 : FVec F S2x8192x8x128 .f32 := broadcastInDim S2x8192x8x128 ![] bcast_S_S2x8192x8x128 main_cst
  let main_v2 : IVec S2x8192x8x128 1 := cmpf .olt main_v0 main_v1
  let main_c : IVec S_ 1 := constantI S_ 1 1#1
  let main_v3 : IVec S_ 1 := (fun x v => Host.reduce IntOp.andi x v reducesTo_S2x8192x8x128_S_d0_1_2_3 h_S_) main_v2 main_c
  let main_v4 : FVec F S2x256x8x128 .f32 := Host.absf main_arg5
  let main_cst_0 : FVec F S_ .f32 := constant S_ .f32 0x7F800000#32
  let main_v5 : FVec F S2x256x8x128 .f32 := broadcastInDim S2x256x8x128 ![] bcast_S_S2x256x8x128 main_cst_0
  let main_v6 : IVec S2x256x8x128 1 := cmpf .olt main_v4 main_v5
  let main_c_1 : IVec S_ 1 := constantI S_ 1 1#1
  let main_v7 : IVec S_ 1 := (fun x v => Host.reduce IntOp.andi x v reducesTo_S2x256x8x128_S_d0_1_2_3 h_S_) main_v6 main_c_1
  let main_v8 : IVec S_ 1 := andi main_v3 main_v7
  let main_v9 : FVec F S4x64 .f32 := Host.absf main_arg6
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  main_v13
-- ==== Kernel.lean ====
abbrev S2x8192x8x2x64 : Shape := ⟨5, ![2, 8192, 8, 2, 64]⟩
abbrev S2x256x8x2x64 : Shape := ⟨5, ![2, 256, 8, 2, 64]⟩
abbrev S2x8192x8x128 : Shape := ⟨4, ![2, 8192, 8, 128]⟩
abbrev S2x256x8x128 : Shape := ⟨4, ![2, 256, 8, 128]⟩
abbrev S4x64 : Shape := ⟨2, ![4, 64]⟩
abbrev S128 : Shape := ⟨1, ![128]⟩
abbrev S2x8448x8x2x64 : Shape := ⟨5, ![2, 8448, 8, 2, 64]⟩
abbrev S2x8448x8x1x64 : Shape := ⟨5, ![2, 8448, 8, 1, 64]⟩
abbrev S2x8448x8x64 : Shape := ⟨4, ![2, 8448, 8, 64]⟩
abbrev S_ : Shape := ⟨0, ![]⟩
abbrev S2x8448x8x128 : Shape := ⟨4, ![2, 8448, 8, 128]⟩
abbrev S2x8448x8x1x128 : Shape := ⟨5, ![2, 8448, 8, 1, 128]⟩
abbrev S2x8448x8x2x128 : Shape := ⟨5, ![2, 8448, 8, 2, 128]⟩
abbrev S2x8448x2048 : Shape := ⟨3, ![2, 8448, 2048]⟩
abbrev S2x8448x1024 : Shape := ⟨3, ![2, 8448, 1024]⟩
abbrev S2x1024x8448 : Shape := ⟨3, ![2, 1024, 8448]⟩
abbrev S128x1 : Shape := ⟨2, ![128, 1]⟩
abbrev S16384x1024 : Shape := ⟨2, ![16384, 1024]⟩
abbrev S1x8192x128 : Shape := ⟨3, ![1, 8192, 128]⟩
abbrev S1x8448x128 : Shape := ⟨3, ![1, 8448, 128]⟩
abbrev S1x128x8448 : Shape := ⟨3, ![1, 128, 8448]⟩
abbrev S8192x128 : Shape := ⟨2, ![8192, 128]⟩
abbrev S8448x512 : Shape := ⟨2, ![8448, 512]⟩
abbrev S1x64 : Shape := ⟨2, ![1, 64]⟩
abbrev S1 : Shape := ⟨1, ![1]⟩
abbrev S1x1 : Shape := ⟨2, ![1, 1]⟩
abbrev S1x256x128 : Shape := ⟨3, ![1, 256, 128]⟩
abbrev S256x128 : Shape := ⟨2, ![256, 128]⟩
abbrev S512x128 : Shape := ⟨2, ![512, 128]⟩
abbrev S1x768x128 : Shape := ⟨3, ![1, 768, 128]⟩
abbrev S768x128 : Shape := ⟨2, ![768, 128]⟩
abbrev S768x512 : Shape := ⟨2, ![768, 512]⟩
abbrev S512 : Shape := ⟨1, ![512]⟩
abbrev S1x512 : Shape := ⟨2, ![1, 512]⟩
abbrev S128x512 : Shape := ⟨2, ![128, 512]⟩
abbrev S1x128x768 : Shape := ⟨3, ![1, 128, 768]⟩
abbrev S128x768 : Shape := ⟨2, ![128, 768]⟩
abbrev S128x256 : Shape := ⟨2, ![128, 256]⟩
abbrev S256 : Shape := ⟨1, ![256]⟩
abbrev S1x256 : Shape := ⟨2, ![1, 256]⟩

abbrev nBuf : Space → Nat
  | .hbm => 31
  | .vmem => 13
  | .smem => 0
  | _ => 0

abbrev bufTy : (tb : Table) → Fin (tcTables nBuf tb) → BufTy
  | .hbm, ⟨0, _⟩ => ⟨S2x8192x8x2x64, .f32⟩
  | .hbm, ⟨1, _⟩ => ⟨S2x256x8x2x64, .f32⟩
  | .hbm, ⟨2, _⟩ => ⟨S2x8192x8x2x64, .f32⟩
  | .hbm, ⟨3, _⟩ => ⟨S2x256x8x2x64, .f32⟩
  | .hbm, ⟨4, _⟩ => ⟨S2x8192x8x128, .f32⟩
  | .hbm, ⟨5, _⟩ => ⟨S2x256x8x128, .f32⟩
  | .hbm, ⟨6, _⟩ => ⟨S4x64, .f32⟩
  | .hbm, ⟨7, _⟩ => ⟨S128, .f32⟩
  | .hbm, ⟨8, _⟩ => ⟨S2x8448x8x2x64, .f32⟩
  | .hbm, ⟨9, _⟩ => ⟨S2x8448x8x1x64, .f32⟩
  | .hbm, ⟨10, _⟩ => ⟨S2x8448x8x64, .f32⟩
  | .hbm, ⟨11, _⟩ => ⟨S2x8448x8x1x64, .f32⟩
  | .hbm, ⟨12, _⟩ => ⟨S2x8448x8x64, .f32⟩
  | .hbm, ⟨13, _⟩ => ⟨S_, .f32⟩
  | .hbm, ⟨14, _⟩ => ⟨S2x8448x8x64, .f32⟩
  | .hbm, ⟨15, _⟩ => ⟨S2x8448x8x128, .f32⟩
  | .hbm, ⟨16, _⟩ => ⟨S2x8448x8x128, .f32⟩
  | .hbm, ⟨17, _⟩ => ⟨S2x8448x8x1x128, .f32⟩
  | .hbm, ⟨18, _⟩ => ⟨S2x8448x8x1x128, .f32⟩
  | .hbm, ⟨19, _⟩ => ⟨S2x8448x8x2x128, .f32⟩
  | .hbm, ⟨20, _⟩ => ⟨S2x8448x2048, .f32⟩
  | .hbm, ⟨21, _⟩ => ⟨S2x8448x2048, .bf16⟩
  | .hbm, ⟨22, _⟩ => ⟨S2x8448x8x2x64, .f32⟩
  | .hbm, ⟨23, _⟩ => ⟨S2x8448x1024, .f32⟩
  | .hbm, ⟨24, _⟩ => ⟨S2x8448x1024, .bf16⟩
  | .hbm, ⟨25, _⟩ => ⟨S2x8448x8x128, .f32⟩
  | .hbm, ⟨26, _⟩ => ⟨S2x8448x1024, .f32⟩
  | .hbm, ⟨27, _⟩ => ⟨S2x1024x8448, .f32⟩
  | .hbm, ⟨28, _⟩ => ⟨S2x1024x8448, .bf16⟩
  | .hbm, ⟨29, _⟩ => ⟨S128x1, .f32⟩
  | .hbm, ⟨30, _⟩ => ⟨S16384x1024, .bf16⟩
  | .local _ .vmem, ⟨0, _⟩ => ⟨S4x64, .f32⟩
  | .local _ .vmem, ⟨1, _⟩ => ⟨S128x1, .f32⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x8448x128, .bf16⟩
  | .local _ .vmem, ⟨7, _⟩ => ⟨S1x8448x128, .bf16⟩
  | .local _ .vmem, ⟨8, _⟩ => ⟨S1x128x8448, .bf16⟩
  | .local _ .vmem, ⟨9, _⟩ => ⟨S1x128x8448, .bf16⟩
  | .local _ .vmem, ⟨10, _⟩ => ⟨S8192x128, .bf16⟩
  | .local _ .vmem, ⟨11, _⟩ => ⟨S8192x128, .bf16⟩
  | .local _ .vmem, ⟨12, _⟩ => ⟨S8448x512, .f32⟩
  | _, _ => ⟨S2x8192x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![2, 8, 1], ![false, false, false]⟩

def k0_mult1 : BitVec 32 :=
  let c0_i32 : BitVec 32 := 0#32
  c0_i32
@[reducible] def k0_t1_loop : Scf.Loop 32 :=
  let c0_i32_75 : BitVec 32 := 0#32
  let c32_i32 : BitVec 32 := 32#32
  let v126 : BitVec 32 := Scalar.addi c0_i32_75 c32_i32
  let c1_i32 : BitVec 32 := 1#32
  ⟨c0_i32_75, v126, c1_i32⟩
def k0_mult2 (k0_t1 : Fin k0_t1_loop.trips) : BitVec 32 :=
  let c0_i32_75 : BitVec 32 := 0#32
  let c1_i32 : BitVec 32 := 1#32
  let arg11 : BitVec 32 := Scf.iv c0_i32_75 c1_i32 k0_t1
  let c1_i32_77 : BitVec 32 := 1#32
  let v128 : BitVec 32 := Scalar.addi arg11 c1_i32_77
  let c31_i32 : BitVec 32 := 31#32
  let v129 : BitVec 32 := Scalar.minsi v128 c31_i32
  let c256_i32 : BitVec 32 := 256#32
  let v130 : BitVec 32 := Scalar.muli v129 c256_i32
  v130
def k0_off1 (k0_t1 : Fin k0_t1_loop.trips) : Fin 3 → Nat :=
  let c0_78 : Index := 0#32
  let c0_i32_75 : BitVec 32 := 0#32
  let c1_i32 : BitVec 32 := 1#32
  let arg11 : BitVec 32 := Scf.iv c0_i32_75 c1_i32 k0_t1
  let c1_i32_77 : BitVec 32 := 1#32
  let v128 : BitVec 32 := Scalar.addi arg11 c1_i32_77
  let c31_i32 : BitVec 32 := 31#32
  let v129 : BitVec 32 := Scalar.minsi v128 c31_i32
  let c256_i32 : BitVec 32 := 256#32
  let v130 : BitVec 32 := Scalar.muli v129 c256_i32
  let v131 : BitVec 32 := v130
  let v132 : Index := Scalar.indexCast v131
  let c0_79 : Index := 0#32
  ![0, v132.toNat, 0]
def k0_mult3 (k0_t1 : Fin k0_t1_loop.trips) : BitVec 32 :=
  let c0_i32_75 : BitVec 32 := 0#32
  let c1_i32 : BitVec 32 := 1#32
  let arg11 : BitVec 32 := Scf.iv c0_i32_75 c1_i32 k0_t1
  let c256_i32_245 : BitVec 32 := 256#32
  let v400 : BitVec 32 := Scalar.muli arg11 c256_i32_245
  v400
def k0_off2 (k0_t1 : Fin k0_t1_loop.trips) : Fin 2 → Nat :=
  let c0_i32_75 : BitVec 32 := 0#32
  let c1_i32 : BitVec 32 := 1#32
  let arg11 : BitVec 32 := Scf.iv c0_i32_75 c1_i32 k0_t1
  let c256_i32_245 : BitVec 32 := 256#32
  let v400 : BitVec 32 := Scalar.muli arg11 c256_i32_245
  let v401 : BitVec 32 := v400
  let v402 : Index := Scalar.indexCast v401
  let c0_246 : Index := 0#32
  ![v402.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c2_i32 : BitVec 32 := 2#32
  let v1 : BitVec 32 := Scalar.muli c2_i32 arg1
  let c0_i32_0 : BitVec 32 := 0#32
  ![arg0.toNat, v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c2_i32 : BitVec 32 := 2#32
  let v1 : BitVec 32 := Scalar.muli c2_i32 arg1
  let c1_i32 : BitVec 32 := 1#32
  let v2 : BitVec 32 := Scalar.addi v1 c1_i32
  let c0_i32_0 : BitVec 32 := 0#32
  ![arg0.toNat, v0.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8448x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x128x8448 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "scale" => some (((1 / 8) * (Real.log 2)⁻¹ : ℝ) : EReal)
  | _ => none
-- ==== ReferenceIdeal.lean ====
abbrev S2x8192x8x2x64 : Shape := ⟨5, ![2, 8192, 8, 2, 64]⟩
abbrev S2x256x8x2x64 : Shape := ⟨5, ![2, 256, 8, 2, 64]⟩
abbrev S2x8192x8x128 : Shape := ⟨4, ![2, 8192, 8, 128]⟩
abbrev S2x256x8x128 : Shape := ⟨4, ![2, 256, 8, 128]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S2x8448x8x2x64 : Shape := ⟨5, ![2, 8448, 8, 2, 64]⟩
abbrev S2x8448x8x128 : Shape := ⟨4, ![2, 8448, 8, 128]⟩
abbrev S2x8x2x8192x8448 : Shape := ⟨5, ![2, 8, 2, 8192, 8448]⟩
abbrev S2x8x2x8192 : Shape := ⟨4, ![2, 8, 2, 8192]⟩
abbrev S2x8x2x8192x1 : Shape := ⟨5, ![2, 8, 2, 8192, 1]⟩
abbrev S2x8x1x8192x8448 : Shape := ⟨5, ![2, 8, 1, 8192, 8448]⟩
abbrev S2x8x8192x8448 : Shape := ⟨4, ![2, 8, 8192, 8448]⟩
abbrev S2x8x128x8192 : Shape := ⟨4, ![2, 8, 128, 8192]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩
abbrev S16384x1024 : Shape := ⟨2, ![16384, 1024]⟩

abbrev nBuf : Space → Nat
  | .hbm => 77
  | .vmem => 0
  | .smem => 0
  | _ => 0

abbrev bufTy : (tb : Table) → Fin (tcTables nBuf tb) → BufTy
  | .hbm, ⟨0, _⟩ => ⟨S2x8192x8x2x64, .f32⟩
  | .hbm, ⟨1, _⟩ => ⟨S2x256x8x2x64, .f32⟩
  | .hbm, ⟨2, _⟩ => ⟨S2x8192x8x2x64, .f32⟩
  | .hbm, ⟨3, _⟩ => ⟨S2x256x8x2x64, .f32⟩
  | .hbm, ⟨4, _⟩ => ⟨S2x8192x8x128, .f32⟩
  | .hbm, ⟨5, _⟩ => ⟨S2x256x8x128, .f32⟩
  | .hbm, ⟨6, _⟩ => ⟨S4x64, .f32⟩
  | .hbm, ⟨7, _⟩ => ⟨S128, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S2x8448x8x2x64, .f32⟩
  | .hbm, ⟨28, _⟩ => ⟨S2x8448x8x128, .f32⟩
  | .hbm, ⟨29, _⟩ => ⟨S2x8x2x8192x8448, .f32⟩
  | .hbm, ⟨30, _⟩ => ⟨S_, .f32⟩
  | .hbm, ⟨31, _⟩ => ⟨S2x8x2x8192x8448, .f32⟩
  | .hbm, ⟨32, _⟩ => ⟨S2x8x2x8192x8448, .f32⟩
  | .hbm, ⟨33, _⟩ => ⟨S_, .f32⟩
  | .hbm, ⟨34, _⟩ => ⟨S2x8x2x8192, .f32⟩
  | .hbm, ⟨35, _⟩ => ⟨S_, .f32⟩
  | .hbm, ⟨36, _⟩ => ⟨S2x8x2x8192, .f32⟩
  | .hbm, ⟨37, _⟩ => ⟨S2x8x2x8192, .f32⟩
  | .hbm, ⟨38, _⟩ => ⟨S2x8x2x8192x1, .f32⟩
  | .hbm, ⟨39, _⟩ => ⟨S2x8x2x8192x8448, .f32⟩
  | .hbm, ⟨40, _⟩ => ⟨S2x8x2x8192x8448, .f32⟩
  | .hbm, ⟨41, _⟩ => ⟨S2x8x2x8192x8448, .f32⟩
  | .hbm, ⟨42, _⟩ => ⟨S_, .f32⟩
  | .hbm, ⟨43, _⟩ => ⟨S2x8x2x8192, .f32⟩
  | .hbm, ⟨44, _⟩ => ⟨S2x8x2x8192x1, .f32⟩
  | .hbm, ⟨45, _⟩ => ⟨S2x8x2x8192x8448, .f32⟩
  | .hbm, ⟨46, _⟩ => ⟨S2x8x2x8192x8448, .f32⟩
  | .hbm, ⟨47, _⟩ => ⟨S2x8x1x8192x8448, .f32⟩
  | .hbm, ⟨48, _⟩ => ⟨S2x8x8192x8448, .f32⟩
  | .hbm, ⟨49, _⟩ => ⟨S2x8x1x8192x8448, .f32⟩
  | .hbm, ⟨50, _⟩ => ⟨S2x8x8192x8448, .f32⟩
  | .hbm, ⟨51, _⟩ => ⟨S2x8x8192x8448, .f32⟩
  | .hbm, ⟨52, _⟩ => ⟨S2x8x8192x8448, .f32⟩
  | .hbm, ⟨53, _⟩ => ⟨S2x8x8192x8448, .f32⟩
  | .hbm, ⟨54, _⟩ => ⟨S2x8x128x8192, .f32⟩
  | .hbm, ⟨55, _⟩ => ⟨S2x8192x8x128, .f32⟩
  | .hbm, ⟨56, _⟩ => ⟨S2x8192x8x128, .f32⟩
  | .hbm, ⟨57, _⟩ => ⟨S_, .f32⟩
  | .hbm, ⟨58, _⟩ => ⟨S2x8192x8, .f32⟩
  | .hbm, ⟨59, _⟩ => ⟨S2x8192x8x1, .f32⟩
  | .hbm, ⟨60, _⟩ => ⟨S_, .f32⟩
  | .hbm, ⟨61, _⟩ => ⟨S2x8192x8x1, .f32⟩
  | .hbm, ⟨62, _⟩ => ⟨S2x8192x8x1, .f32⟩
  | .hbm, ⟨63, _⟩ => ⟨S_, .f32⟩
  | .hbm, ⟨64, _⟩ => ⟨S2x8192x8x1, .f32⟩
  | .hbm, ⟨65, _⟩ => ⟨S2x8192x8x1, .f32⟩
  | .hbm, ⟨66, _⟩ => ⟨S2x8192x8x1, .f32⟩
  | .hbm, ⟨67, _⟩ => ⟨S2x8192x8x128, .f32⟩
  | .hbm, ⟨68, _⟩ => ⟨S2x8192x8x128, .f32⟩
  | .hbm, ⟨69, _⟩ => ⟨S1x1x1x128, .f32⟩
  | .hbm, ⟨70, _⟩ => ⟨S2x8192x8x128, .f32⟩
  | .hbm, ⟨71, _⟩ => ⟨S2x8192x8x128, .f32⟩
  | .hbm, ⟨72, _⟩ => ⟨S_, .f32⟩
  | .hbm, ⟨73, _⟩ => ⟨S2x8192x8x128, .f32⟩
  | .hbm, ⟨74, _⟩ => ⟨S2x8192x8x128, .f32⟩
  | .hbm, ⟨75, _⟩ => ⟨S16384x1024, .f32⟩
  | .hbm, ⟨76, _⟩ => ⟨S16384x1024, .bf16⟩
  | _, _ => ⟨S2x8192x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]
-- ==== KernelProj.lean ====
abbrev S2x8192x1024 : Shape := ⟨3, ![2, 8192, 1024]⟩
abbrev S2x256x1024 : Shape := ⟨3, ![2, 256, 1024]⟩
abbrev S2x6144 : Shape := ⟨2, ![2, 6144]⟩
abbrev S6144 : Shape := ⟨1, ![6144]⟩
abbrev S1024 : Shape := ⟨1, ![1024]⟩
abbrev S1024x9216 : Shape := ⟨2, ![1024, 9216]⟩
abbrev S1x6144 : Shape := ⟨2, ![1, 6144]⟩
abbrev S3x6144 : Shape := ⟨2, ![3, 6144]⟩
abbrev S_ : Shape := ⟨0, ![]⟩
abbrev S5x6144 : Shape := ⟨2, ![5, 6144]⟩
abbrev S8x6144 : Shape := ⟨2, ![8, 6144]⟩
abbrev S16384x1024 : Shape := ⟨2, ![16384, 1024]⟩
abbrev S512x1024 : Shape := ⟨2, ![512, 1024]⟩
abbrev S16896x1024 : Shape := ⟨2, ![16896, 1024]⟩
abbrev S8x6x1x1024 : Shape := ⟨4, ![8, 6, 1, 1024]⟩
abbrev S1x1024 : Shape := ⟨2, ![1, 1024]⟩
abbrev S16896x9216 : Shape := ⟨2, ![16896, 9216]⟩
abbrev S1x1x1x1024 : Shape := ⟨4, ![1, 1, 1, 1024]⟩
abbrev S1024x3072 : Shape := ⟨2, ![1024, 3072]⟩
abbrev S512x3072 : Shape := ⟨2, ![512, 3072]⟩
abbrev S512 : Shape := ⟨1, ![512]⟩
abbrev S512x1 : Shape := ⟨2, ![512, 1]⟩

abbrev nBuf : Space → Nat
  | .hbm => 18
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S2x256x1024, .f32⟩
  | .hbm, ⟨2, _⟩ => ⟨S2x6144, .f32⟩
  | .hbm, ⟨3, _⟩ => ⟨S6144, .f32⟩
  | .hbm, ⟨4, _⟩ => ⟨S1024, .f32⟩
  | .hbm, ⟨5, _⟩ => ⟨S1024x9216, .f32⟩
  | .hbm, ⟨6, _⟩ => ⟨S1x6144, .f32⟩
  | .hbm, ⟨7, _⟩ => ⟨S3x6144, .f32⟩
  | .hbm, ⟨8, _⟩ => ⟨S_, .f32⟩
  | .hbm, ⟨9, _⟩ => ⟨S5x6144, .f32⟩
  | .hbm, ⟨10, _⟩ => ⟨S8x6144, .f32⟩
  | .hbm, ⟨11, _⟩ => ⟨S16384x1024, .f32⟩
  | .hbm, ⟨12, _⟩ => ⟨S512x1024, .f32⟩
  | .hbm, ⟨13, _⟩ => ⟨S16896x1024, .f32⟩
  | .hbm, ⟨14, _⟩ => ⟨S8x6x1x1024, .f32⟩
  | .hbm, ⟨15, _⟩ => ⟨S1024x9216, .bf16⟩
  | .hbm, ⟨16, _⟩ => ⟨S1x1024, .f32⟩
  | .hbm, ⟨17, _⟩ => ⟨S16896x9216, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1024x3072, .bf16⟩
  | .local _ .vmem, ⟨8, _⟩ => ⟨S1024x3072, .bf16⟩
  | .local _ .vmem, ⟨9, _⟩ => ⟨S512x3072, .bf16⟩
  | .local _ .vmem, ⟨10, _⟩ => ⟨S512x3072, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![3, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  let c0_i32_7 : BitVec 32 := 0#32
  ![v17.toNat, c0_i32_4.toNat, c0_i32_5.toNat, c0_i32_6.toNat]

def cc0_transform_3 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c1_i32_4 : BitVec 32 := 1#32
  let c0_i32_5 : BitVec 32 := 0#32
  let c0_i32_6 : BitVec 32 := 0#32
  let c0_i32_7 : BitVec 32 := 0#32
  ![v17.toNat, c1_i32_4.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceProjIdeal.lean ====
abbrev S2x8192x1024 : Shape := ⟨3, ![2, 8192, 1024]⟩
abbrev S2x256x1024 : Shape := ⟨3, ![2, 256, 1024]⟩
abbrev S2x6144 : Shape := ⟨2, ![2, 6144]⟩
abbrev S6144 : Shape := ⟨1, ![6144]⟩
abbrev S1024 : Shape := ⟨1, ![1024]⟩
abbrev S1024x9216 : Shape := ⟨2, ![1024, 9216]⟩
abbrev S2x1x6144 : Shape := ⟨3, ![2, 1, 6144]⟩
abbrev S2x1x1024 : Shape := ⟨3, ![2, 1, 1024]⟩
abbrev S1x1x6144 : Shape := ⟨3, ![1, 1, 6144]⟩
abbrev S1x1x1024 : Shape := ⟨3, ![1, 1, 1024]⟩
abbrev S_ : Shape := ⟨0, ![]⟩
abbrev S2x8192 : Shape := ⟨2, ![2, 8192]⟩
abbrev S2x8192x1 : Shape := ⟨3, ![2, 8192, 1]⟩
abbrev S2x8192x9216 : Shape := ⟨3, ![2, 8192, 9216]⟩
abbrev S2x256 : Shape := ⟨2, ![2, 256]⟩
abbrev S2x256x1 : Shape := ⟨3, ![2, 256, 1]⟩
abbrev S2x256x9216 : Shape := ⟨3, ![2, 256, 9216]⟩
abbrev S16384x9216 : Shape := ⟨2, ![16384, 9216]⟩
abbrev S512x9216 : Shape := ⟨2, ![512, 9216]⟩
abbrev S16896x9216 : Shape := ⟨2, ![16896, 9216]⟩

abbrev nBuf : Space → Nat
  | .hbm => 72
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x256x1024, .f32⟩
  | .hbm, ⟨2, _⟩ => ⟨S2x6144, .f32⟩
  | .hbm, ⟨3, _⟩ => ⟨S6144, .f32⟩
  | .hbm, ⟨4, _⟩ => ⟨S1024, .f32⟩
  | .hbm, ⟨5, _⟩ => ⟨S1024x9216, .f32⟩
  | .hbm, ⟨6, _⟩ => ⟨S2x1x6144, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S1x1x6144, .f32⟩
  | .hbm, ⟨14, _⟩ => ⟨S1x1x1024, .f32⟩
  | .hbm, ⟨15, _⟩ => ⟨S1x1x1024, .f32⟩
  | .hbm, ⟨16, _⟩ => ⟨S1x1x1024, .f32⟩
  | .hbm, ⟨17, _⟩ => ⟨S1x1x1024, .f32⟩
  | .hbm, ⟨18, _⟩ => ⟨S1x1x1024, .f32⟩
  | .hbm, ⟨19, _⟩ => ⟨S1x1x1024, .f32⟩
  | .hbm, ⟨20, _⟩ => ⟨S2x8192x1024, .f32⟩
  | .hbm, ⟨21, _⟩ => ⟨S_, .f32⟩
  | .hbm, ⟨22, _⟩ => ⟨S2x8192, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S2x8192x1, .f32⟩
  | .hbm, ⟨31, _⟩ => ⟨S2x8192x1024, .f32⟩
  | .hbm, ⟨32, _⟩ => ⟨S2x8192x1024, .f32⟩
  | .hbm, ⟨33, _⟩ => ⟨S1x1x1024, .f32⟩
  | .hbm, ⟨34, _⟩ => ⟨S2x8192x1024, .f32⟩
  | .hbm, ⟨35, _⟩ => ⟨S2x8192x1024, .f32⟩
  | .hbm, ⟨36, _⟩ => ⟨S_, .f32⟩
  | .hbm, ⟨37, _⟩ => ⟨S2x1x1024, .f32⟩
  | .hbm, ⟨38, _⟩ => ⟨S2x1x1024, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S2x8192x1024, .f32⟩
  | .hbm, ⟨43, _⟩ => ⟨S2x8192x9216, .f32⟩
  | .hbm, ⟨44, _⟩ => ⟨S2x256x1024, .f32⟩
  | .hbm, ⟨45, _⟩ => ⟨S_, .f32⟩
  | .hbm, ⟨46, _⟩ => ⟨S2x256, .f32⟩
  | .hbm, ⟨47, _⟩ => ⟨S2x256x1, .f32⟩
  | .hbm, ⟨48, _⟩ => ⟨S_, .f32⟩
  | .hbm, ⟨49, _⟩ => ⟨S2x256x1, .f32⟩
  | .hbm, ⟨50, _⟩ => ⟨S2x256x1, .f32⟩
  | .hbm, ⟨51, _⟩ => ⟨S_, .f32⟩
  | .hbm, ⟨52, _⟩ => ⟨S2x256x1, .f32⟩
  | .hbm, ⟨53, _⟩ => ⟨S2x256x1, .f32⟩
  | .hbm, ⟨54, _⟩ => ⟨S2x256x1, .f32⟩
  | .hbm, ⟨55, _⟩ => ⟨S2x256x1024, .f32⟩
  | .hbm, ⟨56, _⟩ => ⟨S2x256x1024, .f32⟩
  | .hbm, ⟨57, _⟩ => ⟨S1x1x1024, .f32⟩
  | .hbm, ⟨58, _⟩ => ⟨S2x256x1024, .f32⟩
  | .hbm, ⟨59, _⟩ => ⟨S2x256x1024, .f32⟩
  | .hbm, ⟨60, _⟩ => ⟨S_, .f32⟩
  | .hbm, ⟨61, _⟩ => ⟨S1x1x1024, .f32⟩
  | .hbm, ⟨62, _⟩ => ⟨S1x1x1024, .f32⟩
  | .hbm, ⟨63, _⟩ => ⟨S2x256x1024, .f32⟩
  | .hbm, ⟨64, _⟩ => ⟨S2x256x1024, .f32⟩
  | .hbm, ⟨65, _⟩ => ⟨S2x256x1024, .f32⟩
  | .hbm, ⟨66, _⟩ => ⟨S2x256x1024, .f32⟩
  | .hbm, ⟨67, _⟩ => ⟨S2x256x9216, .f32⟩
  | .hbm, ⟨68, _⟩ => ⟨S16384x9216, .f32⟩
  | .hbm, ⟨69, _⟩ => ⟨S512x9216, .f32⟩
  | .hbm, ⟨70, _⟩ => ⟨S16896x9216, .f32⟩
  | .hbm, ⟨71, _⟩ => ⟨S16896x9216, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]
-- ==== KernelMerge.lean ====
abbrev S2x8192x1024 : Shape := ⟨3, ![2, 8192, 1024]⟩
abbrev S2x256x1024 : Shape := ⟨3, ![2, 256, 1024]⟩
abbrev S2x8192x9216 : Shape := ⟨3, ![2, 8192, 9216]⟩
abbrev S2x256x9216 : Shape := ⟨3, ![2, 256, 9216]⟩
abbrev S1024x1024 : Shape := ⟨2, ![1024, 1024]⟩
abbrev S2x6144 : Shape := ⟨2, ![2, 6144]⟩
abbrev S6144 : Shape := ⟨1, ![6144]⟩
abbrev S1024 : Shape := ⟨1, ![1024]⟩
abbrev S1x6144 : Shape := ⟨2, ![1, 6144]⟩
abbrev S3x6144 : Shape := ⟨2, ![3, 6144]⟩
abbrev S_ : Shape := ⟨0, ![]⟩
abbrev S5x6144 : Shape := ⟨2, ![5, 6144]⟩
abbrev S8x6144 : Shape := ⟨2, ![8, 6144]⟩
abbrev S8x6x1x1024 : Shape := ⟨4, ![8, 6, 1, 1024]⟩
abbrev S16384x1024 : Shape := ⟨2, ![16384, 1024]⟩
abbrev S512x1024 : Shape := ⟨2, ![512, 1024]⟩
abbrev S16896x1024 : Shape := ⟨2, ![16896, 1024]⟩
abbrev S16384x9216 : Shape := ⟨2, ![16384, 9216]⟩
abbrev S512x9216 : Shape := ⟨2, ![512, 9216]⟩
abbrev S16896x9216 : Shape := ⟨2, ![16896, 9216]⟩
abbrev S1x1024 : Shape := ⟨2, ![1, 1024]⟩
abbrev S16896x256 : Shape := ⟨2, ![16896, 256]⟩
abbrev S256x1024 : Shape := ⟨2, ![256, 1024]⟩
abbrev S1x1x1x1024 : Shape := ⟨4, ![1, 1, 1, 1024]⟩
abbrev S256x256 : Shape := ⟨2, ![256, 256]⟩
abbrev S256 : Shape := ⟨1, ![256]⟩
abbrev S256x1 : Shape := ⟨2, ![256, 1]⟩
abbrev S256x512 : Shape := ⟨2, ![256, 512]⟩

abbrev nBuf : Space → Nat
  | .hbm => 50
  | .vmem => 39
  | .smem => 0
  | _ => 0

abbrev bufTy : (tb : Table) → Fin (tcTables nBuf tb) → BufTy
  | .hbm, ⟨0, _⟩ => ⟨S2x8192x1024, .f32⟩
  | .hbm, ⟨1, _⟩ => ⟨S2x256x1024, .f32⟩
  | .hbm, ⟨2, _⟩ => ⟨S2x8192x1024, .f32⟩
  | .hbm, ⟨3, _⟩ => ⟨S2x256x1024, .f32⟩
  | .hbm, ⟨4, _⟩ => ⟨S2x8192x1024, .f32⟩
  | .hbm, ⟨5, _⟩ => ⟨S2x256x1024, .f32⟩
  | .hbm, ⟨6, _⟩ => ⟨S2x8192x1024, .f32⟩
  | .hbm, ⟨7, _⟩ => ⟨S2x256x1024, .f32⟩
  | .hbm, ⟨8, _⟩ => ⟨S2x8192x9216, .f32⟩
  | .hbm, ⟨9, _⟩ => ⟨S2x256x9216, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S2x6144, .f32⟩
  | .hbm, ⟨15, _⟩ => ⟨S6144, .f32⟩
  | .hbm, ⟨16, _⟩ => ⟨S1024, .f32⟩
  | .hbm, ⟨17, _⟩ => ⟨S1x6144, .f32⟩
  | .hbm, ⟨18, _⟩ => ⟨S3x6144, .f32⟩
  | .hbm, ⟨19, _⟩ => ⟨S_, .f32⟩
  | .hbm, ⟨20, _⟩ => ⟨S5x6144, .f32⟩
  | .hbm, ⟨21, _⟩ => ⟨S8x6144, .f32⟩
  | .hbm, ⟨22, _⟩ => ⟨S8x6x1x1024, .f32⟩
  | .hbm, ⟨23, _⟩ => ⟨S16384x1024, .f32⟩
  | .hbm, ⟨24, _⟩ => ⟨S512x1024, .f32⟩
  | .hbm, ⟨25, _⟩ => ⟨S16896x1024, .f32⟩
  | .hbm, ⟨26, _⟩ => ⟨S16384x1024, .f32⟩
  | .hbm, ⟨27, _⟩ => ⟨S16384x1024, .bf16⟩
  | .hbm, ⟨28, _⟩ => ⟨S512x1024, .f32⟩
  | .hbm, ⟨29, _⟩ => ⟨S512x1024, .bf16⟩
  | .hbm, ⟨30, _⟩ => ⟨S16384x1024, .f32⟩
  | .hbm, ⟨31, _⟩ => ⟨S512x1024, .f32⟩
  | .hbm, ⟨32, _⟩ => ⟨S16896x1024, .f32⟩
  | .hbm, ⟨33, _⟩ => ⟨S16384x1024, .f32⟩
  | .hbm, ⟨34, _⟩ => ⟨S16384x1024, .bf16⟩
  | .hbm, ⟨35, _⟩ => ⟨S512x1024, .f32⟩
  | .hbm, ⟨36, _⟩ => ⟨S512x1024, .bf16⟩
  | .hbm, ⟨37, _⟩ => ⟨S16384x9216, .f32⟩
  | .hbm, ⟨38, _⟩ => ⟨S512x9216, .f32⟩
  | .hbm, ⟨39, _⟩ => ⟨S16896x9216, .f32⟩
  | .hbm, ⟨40, _⟩ => ⟨S16896x9216, .bf16⟩
  | .hbm, ⟨41, _⟩ => ⟨S1024x1024, .bf16⟩
  | .hbm, ⟨42, _⟩ => ⟨S1024x1024, .bf16⟩
  | .hbm, ⟨43, _⟩ => ⟨S1024x1024, .bf16⟩
  | .hbm, ⟨44, _⟩ => ⟨S1024x1024, .bf16⟩
  | .hbm, ⟨45, _⟩ => ⟨S1x1024, .f32⟩
  | .hbm, ⟨46, _⟩ => ⟨S16896x1024, .f32⟩
  | .hbm, ⟨47, _⟩ => ⟨S16896x1024, .bf16⟩
  | .hbm, ⟨48, _⟩ => ⟨S16896x256, .i32⟩
  | .hbm, ⟨49, _⟩ => ⟨S16896x256, .i32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1x1x1x1024, .f32⟩
  | .local _ .vmem, ⟨25, _⟩ => ⟨S1x1x1x1024, .f32⟩
  | .local _ .vmem, ⟨26, _⟩ => ⟨S1x1024, .f32⟩
  | .local _ .vmem, ⟨27, _⟩ => ⟨S1x1x1x1024, .f32⟩
  | .local _ .vmem, ⟨28, _⟩ => ⟨S1x1x1x1024, .f32⟩
  | .local _ .vmem, ⟨29, _⟩ => ⟨S1x1x1x1024, .f32⟩
  | .local _ .vmem, ⟨30, _⟩ => ⟨S1x1x1x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .bf16⟩
  | .local _ .vmem, ⟨34, _⟩ => ⟨S256x1024, .bf16⟩
  | .local _ .vmem, ⟨35, _⟩ => ⟨S256x256, .i32⟩
  | .local _ .vmem, ⟨36, _⟩ => ⟨S256x256, .i32⟩
  | .local _ .vmem, ⟨37, _⟩ => ⟨S256x256, .i32⟩
  | .local _ .vmem, ⟨38, _⟩ => ⟨S256x256, .i32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28_0 : Ref sig .tc := ⟨.hbm, 46, rfl⟩
abbrev main_v28_1 : Ref sig .tc := ⟨.hbm, 47, rfl⟩
abbrev main_v28_2 : Ref sig .tc := ⟨.hbm, 48, rfl⟩
abbrev main_v28_3 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38

abbrev nD : Nat := 1
abbrev τ : Topo := Topo.v7x

variable {F : FTy → Type} [BitOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_8 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_9 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c2_i32_4 : BitVec 32 := 2#32
  let c0_i32_5 : BitVec 32 := 0#32
  let c0_i32_6 : BitVec 32 := 0#32
  let c0_i32_7 : BitVec 32 := 0#32
  ![v17.toNat, c2_i32_4.toNat, c0_i32_5.toNat, c0_i32_6.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c3_i32 : BitVec 32 := 3#32
  let c0_i32_4 : BitVec 32 := 0#32
  let c0_i32_5 : BitVec 32 := 0#32
  let c0_i32_6 : BitVec 32 := 0#32
  ![v17.toNat, c3_i32.toNat, c0_i32_4.toNat, c0_i32_5.toNat]

def cc0_transform_17 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c4_i32 : BitVec 32 := 4#32
  let c0_i32_4 : BitVec 32 := 0#32
  let c0_i32_5 : BitVec 32 := 0#32
  let c0_i32_6 : BitVec 32 := 0#32
  ![v17.toNat, c4_i32.toNat, c0_i32_4.toNat, c0_i32_5.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x256 .i32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x256 .i32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== KernelMergeIdeal.lean ====
abbrev S2x8192x1024 : Shape := ⟨3, ![2, 8192, 1024]⟩
abbrev S2x256x1024 : Shape := ⟨3, ![2, 256, 1024]⟩
abbrev S2x8192x9216 : Shape := ⟨3, ![2, 8192, 9216]⟩
abbrev S2x256x9216 : Shape := ⟨3, ![2, 256, 9216]⟩
abbrev S1024x1024 : Shape := ⟨2, ![1024, 1024]⟩
abbrev S2x6144 : Shape := ⟨2, ![2, 6144]⟩
abbrev S6144 : Shape := ⟨1, ![6144]⟩
abbrev S1024 : Shape := ⟨1, ![1024]⟩
abbrev S1x6144 : Shape := ⟨2, ![1, 6144]⟩
abbrev S3x6144 : Shape := ⟨2, ![3, 6144]⟩
abbrev S_ : Shape := ⟨0, ![]⟩
abbrev S5x6144 : Shape := ⟨2, ![5, 6144]⟩
abbrev S8x6144 : Shape := ⟨2, ![8, 6144]⟩
abbrev S8x6x1x1024 : Shape := ⟨4, ![8, 6, 1, 1024]⟩
abbrev S16384x1024 : Shape := ⟨2, ![16384, 1024]⟩
abbrev S512x1024 : Shape := ⟨2, ![512, 1024]⟩
abbrev S16896x1024 : Shape := ⟨2, ![16896, 1024]⟩
abbrev S16384x9216 : Shape := ⟨2, ![16384, 9216]⟩
abbrev S512x9216 : Shape := ⟨2, ![512, 9216]⟩
abbrev S16896x9216 : Shape := ⟨2, ![16896, 9216]⟩
abbrev S1x1024 : Shape := ⟨2, ![1, 1024]⟩
abbrev S16896x2x256 : Shape := ⟨3, ![16896, 2, 256]⟩
abbrev S16896x1x256 : Shape := ⟨3, ![16896, 1, 256]⟩
abbrev S16896x256 : Shape := ⟨2, ![16896, 256]⟩
abbrev S256x1024 : Shape := ⟨2, ![256, 1024]⟩
abbrev S1x1x1x1024 : Shape := ⟨4, ![1, 1, 1, 1024]⟩
abbrev S256x256 : Shape := ⟨2, ![256, 256]⟩
abbrev S256x2x256 : Shape := ⟨3, ![256, 2, 256]⟩
abbrev S256x1x256 : Shape := ⟨3, ![256, 1, 256]⟩
abbrev S256 : Shape := ⟨1, ![256]⟩
abbrev S256x1 : Shape := ⟨2, ![256, 1]⟩
abbrev S256x512 : Shape := ⟨2, ![256, 512]⟩

abbrev nBuf : Space → Nat
  | .hbm => 50
  | .vmem => 39
  | .smem => 0
  | _ => 0

abbrev bufTy : (tb : Table) → Fin (tcTables nBuf tb) → BufTy
  | .hbm, ⟨0, _⟩ => ⟨S2x8192x1024, .f32⟩
  | .hbm, ⟨1, _⟩ => ⟨S2x256x1024, .f32⟩
  | .hbm, ⟨2, _⟩ => ⟨S2x8192x1024, .f32⟩
  | .hbm, ⟨3, _⟩ => ⟨S2x256x1024, .f32⟩
  | .hbm, ⟨4, _⟩ => ⟨S2x8192x1024, .f32⟩
  | .hbm, ⟨5, _⟩ => ⟨S2x256x1024, .f32⟩
  | .hbm, ⟨6, _⟩ => ⟨S2x8192x1024, .f32⟩
  | .hbm, ⟨7, _⟩ => ⟨S2x256x1024, .f32⟩
  | .hbm, ⟨8, _⟩ => ⟨S2x8192x9216, .f32⟩
  | .hbm, ⟨9, _⟩ => ⟨S2x256x9216, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S2x6144, .f32⟩
  | .hbm, ⟨15, _⟩ => ⟨S6144, .f32⟩
  | .hbm, ⟨16, _⟩ => ⟨S1024, .f32⟩
  | .hbm, ⟨17, _⟩ => ⟨S1x6144, .f32⟩
  | .hbm, ⟨18, _⟩ => ⟨S3x6144, .f32⟩
  | .hbm, ⟨19, _⟩ => ⟨S_, .f32⟩
  | .hbm, ⟨20, _⟩ => ⟨S5x6144, .f32⟩
  | .hbm, ⟨21, _⟩ => ⟨S8x6144, .f32⟩
  | .hbm, ⟨22, _⟩ => ⟨S8x6x1x1024, .f32⟩
  | .hbm, ⟨23, _⟩ => ⟨S16384x1024, .f32⟩
  | .hbm, ⟨24, _⟩ => ⟨S512x1024, .f32⟩
  | .hbm, ⟨25, _⟩ => ⟨S16896x1024, .f32⟩
  | .hbm, ⟨26, _⟩ => ⟨S16384x1024, .f32⟩
  | .hbm, ⟨27, _⟩ => ⟨S16384x1024, .bf16⟩
  | .hbm, ⟨28, _⟩ => ⟨S512x1024, .f32⟩
  | .hbm, ⟨29, _⟩ => ⟨S512x1024, .bf16⟩
  | .hbm, ⟨30, _⟩ => ⟨S16384x1024, .f32⟩
  | .hbm, ⟨31, _⟩ => ⟨S512x1024, .f32⟩
  | .hbm, ⟨32, _⟩ => ⟨S16896x1024, .f32⟩
  | .hbm, ⟨33, _⟩ => ⟨S16384x1024, .f32⟩
  | .hbm, ⟨34, _⟩ => ⟨S16384x1024, .bf16⟩
  | .hbm, ⟨35, _⟩ => ⟨S512x1024, .f32⟩
  | .hbm, ⟨36, _⟩ => ⟨S512x1024, .bf16⟩
  | .hbm, ⟨37, _⟩ => ⟨S16384x9216, .f32⟩
  | .hbm, ⟨38, _⟩ => ⟨S512x9216, .f32⟩
  | .hbm, ⟨39, _⟩ => ⟨S16896x9216, .f32⟩
  | .hbm, ⟨40, _⟩ => ⟨S16896x9216, .bf16⟩
  | .hbm, ⟨41, _⟩ => ⟨S1024x1024, .bf16⟩
  | .hbm, ⟨42, _⟩ => ⟨S1024x1024, .bf16⟩
  | .hbm, ⟨43, _⟩ => ⟨S1024x1024, .bf16⟩
  | .hbm, ⟨44, _⟩ => ⟨S1024x1024, .bf16⟩
  | .hbm, ⟨45, _⟩ => ⟨S1x1024, .f32⟩
  | .hbm, ⟨46, _⟩ => ⟨S16896x1024, .f32⟩
  | .hbm, ⟨47, _⟩ => ⟨S16896x1024, .bf16⟩
  | .hbm, ⟨48, _⟩ => ⟨S16896x2x256, .bf16⟩
  | .hbm, ⟨49, _⟩ => ⟨S16896x2x256, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1x1x1x1024, .f32⟩
  | .local _ .vmem, ⟨25, _⟩ => ⟨S1x1x1x1024, .f32⟩
  | .local _ .vmem, ⟨26, _⟩ => ⟨S1x1024, .f32⟩
  | .local _ .vmem, ⟨27, _⟩ => ⟨S1x1x1x1024, .f32⟩
  | .local _ .vmem, ⟨28, _⟩ => ⟨S1x1x1x1024, .f32⟩
  | .local _ .vmem, ⟨29, _⟩ => ⟨S1x1x1x1024, .f32⟩
  | .local _ .vmem, ⟨30, _⟩ => ⟨S1x1x1x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .bf16⟩
  | .local _ .vmem, ⟨34, _⟩ => ⟨S256x1024, .bf16⟩
  | .local _ .vmem, ⟨35, _⟩ => ⟨S256x2x256, .bf16⟩
  | .local _ .vmem, ⟨36, _⟩ => ⟨S256x2x256, .bf16⟩
  | .local _ .vmem, ⟨37, _⟩ => ⟨S256x2x256, .bf16⟩
  | .local _ .vmem, ⟨38, _⟩ => ⟨S256x2x256, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28_0 : Ref sig .tc := ⟨.hbm, 46, rfl⟩
abbrev main_v28_1 : Ref sig .tc := ⟨.hbm, 47, rfl⟩
abbrev main_v28_2 : Ref sig .tc := ⟨.hbm, 48, rfl⟩
abbrev main_v28_3 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_8 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_9 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c2_i32_4 : BitVec 32 := 2#32
  let c0_i32_5 : BitVec 32 := 0#32
  let c0_i32_6 : BitVec 32 := 0#32
  let c0_i32_7 : BitVec 32 := 0#32
  ![v17.toNat, c2_i32_4.toNat, c0_i32_5.toNat, c0_i32_6.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c3_i32 : BitVec 32 := 3#32
  let c0_i32_4 : BitVec 32 := 0#32
  let c0_i32_5 : BitVec 32 := 0#32
  let c0_i32_6 : BitVec 32 := 0#32
  ![v17.toNat, c3_i32.toNat, c0_i32_4.toNat, c0_i32_5.toNat]

def cc0_transform_17 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c4_i32 : BitVec 32 := 4#32
  let c0_i32_4 : BitVec 32 := 0#32
  let c0_i32_5 : BitVec 32 := 0#32
  let c0_i32_6 : BitVec 32 := 0#32
  ![v17.toNat, c4_i32.toNat, c0_i32_4.toNat, c0_i32_5.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_21 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x2x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x2x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== ReferenceMergeIdeal.lean ====
abbrev S2x8192x1024 : Shape := ⟨3, ![2, 8192, 1024]⟩
abbrev S2x256x1024 : Shape := ⟨3, ![2, 256, 1024]⟩
abbrev S2x8192x9216 : Shape := ⟨3, ![2, 8192, 9216]⟩
abbrev S2x256x9216 : Shape := ⟨3, ![2, 256, 9216]⟩
abbrev S1024x1024 : Shape := ⟨2, ![1024, 1024]⟩
abbrev S2x6144 : Shape := ⟨2, ![2, 6144]⟩
abbrev S6144 : Shape := ⟨1, ![6144]⟩
abbrev S1024 : Shape := ⟨1, ![1024]⟩
abbrev S2x1x6144 : Shape := ⟨3, ![2, 1, 6144]⟩
abbrev S2x1x1024 : Shape := ⟨3, ![2, 1, 1024]⟩
abbrev S1x1x6144 : Shape := ⟨3, ![1, 1, 6144]⟩
abbrev S1x1x1024 : Shape := ⟨3, ![1, 1, 1024]⟩
abbrev S_ : Shape := ⟨0, ![]⟩
abbrev S2x8192 : Shape := ⟨2, ![2, 8192]⟩
abbrev S2x8192x1 : Shape := ⟨3, ![2, 8192, 1]⟩
abbrev S2x256 : Shape := ⟨2, ![2, 256]⟩
abbrev S2x256x1 : Shape := ⟨3, ![2, 256, 1]⟩
abbrev S16384x1024 : Shape := ⟨2, ![16384, 1024]⟩
abbrev S512x1024 : Shape := ⟨2, ![512, 1024]⟩
abbrev S16896x1024 : Shape := ⟨2, ![16896, 1024]⟩

abbrev nBuf : Space → Nat
  | .hbm => 200
  | .vmem => 0
  | .smem => 0
  | _ => 0

abbrev hbmTy0_0 (i : Nat) : BufTy := match i % 128 with
  | 0 => ⟨S2x8192x1024, .f32⟩
  | 1 => ⟨S2x256x1024, .f32⟩
  | 2 => ⟨S2x8192x1024, .f32⟩
  | 3 => ⟨S2x256x1024, .f32⟩
  | 4 => ⟨S2x8192x1024, .f32⟩
  | 5 => ⟨S2x256x1024, .f32⟩
  | 6 => ⟨S2x8192x1024, .f32⟩
  | 7 => ⟨S2x256x1024, .f32⟩
  | 8 => ⟨S2x8192x9216, .f32⟩
  | 9 => ⟨S2x256x9216, .f32⟩
  | 10 => ⟨S1024x1024, .f32⟩
  | 11 => ⟨S1024x1024, .f32⟩
  | 12 => ⟨S1024x1024, .f32⟩
  | 13 => ⟨S1024x1024, .f32⟩
  | 14 => ⟨S2x6144, .f32⟩
  | 15 => ⟨S6144, .f32⟩
  | 16 => ⟨S1024, .f32⟩
  | 17 => ⟨S2x1x6144, .f32⟩
  | 18 => ⟨S2x1x1024, .f32⟩
  | 19 => ⟨S2x1x1024, .f32⟩
  | 20 => ⟨S2x1x1024, .f32⟩
  | 21 => ⟨S2x1x1024, .f32⟩
  | 22 => ⟨S2x1x1024, .f32⟩
  | 23 => ⟨S2x1x1024, .f32⟩
  | 24 => ⟨S1x1x6144, .f32⟩
  | 25 => ⟨S1x1x1024, .f32⟩
  | 26 => ⟨S1x1x1024, .f32⟩
  | 27 => ⟨S1x1x1024, .f32⟩
  | 28 => ⟨S1x1x1024, .f32⟩
  | 29 => ⟨S1x1x1024, .f32⟩
  | 30 => ⟨S1x1x1024, .f32⟩
  | 31 => ⟨S2x8192x1024, .f32⟩
  | 32 => ⟨S2x8192x1024, .f32⟩
  | 33 => ⟨S2x8192x1024, .f32⟩
  | 34 => ⟨S_, .f32⟩
  | 35 => ⟨S2x8192x1024, .f32⟩
  | 36 => ⟨S2x8192x1024, .f32⟩
  | 37 => ⟨S2x8192x1024, .f32⟩
  | 38 => ⟨S_, .f32⟩
  | 39 => ⟨S2x8192x1024, .f32⟩
  | 40 => ⟨S2x8192x1024, .f32⟩
  | 41 => ⟨S2x8192x1024, .f32⟩
  | 42 => ⟨S_, .f32⟩
  | 43 => ⟨S2x8192x1024, .f32⟩
  | 44 => ⟨S2x8192x1024, .f32⟩
  | 45 => ⟨S_, .f32⟩
  | 46 => ⟨S2x8192x1024, .f32⟩
  | 47 => ⟨S2x8192x1024, .f32⟩
  | 48 => ⟨S2x8192x1024, .f32⟩
  | 49 => ⟨S2x8192x1024, .f32⟩
  | 50 => ⟨S2x8192x1024, .f32⟩
  | 51 => ⟨S2x8192x1024, .f32⟩
  | 52 => ⟨S2x8192x1024, .f32⟩
  | 53 => ⟨S2x8192x1024, .f32⟩
  | 54 => ⟨S_, .f32⟩
  | 55 => ⟨S2x8192x1024, .f32⟩
  | 56 => ⟨S2x8192x1024, .f32⟩
  | 57 => ⟨S_, .f32⟩
  | 58 => ⟨S2x8192x1024, .f32⟩
  | 59 => ⟨S2x8192x1024, .f32⟩
  | 60 => ⟨S2x8192x1024, .f32⟩
  | 61 => ⟨S2x8192x1024, .f32⟩
  | 62 => ⟨S2x8192x1024, .f32⟩
  | 63 => ⟨S2x8192x1024, .f32⟩
  | 64 => ⟨S2x8192x1024, .f32⟩
  | 65 => ⟨S_, .f32⟩
  | 66 => ⟨S2x8192x1024, .f32⟩
  | 67 => ⟨S2x8192x1024, .f32⟩
  | 68 => ⟨S_, .f32⟩
  | 69 => ⟨S2x8192x1024, .f32⟩
  | 70 => ⟨S2x8192x1024, .f32⟩
  | 71 => ⟨S2x8192x1024, .f32⟩
  | 72 => ⟨S2x8192x1024, .f32⟩
  | 73 => ⟨S2x8192x1024, .f32⟩
  | 74 => ⟨S2x8192x1024, .f32⟩
  | 75 => ⟨S2x8192x1024, .f32⟩
  | 76 => ⟨S_, .f32⟩
  | 77 => ⟨S2x8192x1024, .f32⟩
  | 78 => ⟨S2x8192x1024, .f32⟩
  | 79 => ⟨S_, .f32⟩
  | 80 => ⟨S2x8192x1024, .f32⟩
  | 81 => ⟨S2x8192x1024, .f32⟩
  | 82 => ⟨S2x8192x1024, .f32⟩
  | 83 => ⟨S2x8192x1024, .f32⟩
  | 84 => ⟨S2x8192x1024, .f32⟩
  | 85 => ⟨S2x8192x1024, .f32⟩
  | 86 => ⟨S2x8192x1024, .f32⟩
  | 87 => ⟨S2x8192x1024, .f32⟩
  | 88 => ⟨S2x8192x1024, .f32⟩
  | 89 => ⟨S2x256x1024, .f32⟩
  | 90 => ⟨S2x256x1024, .f32⟩
  | 91 => ⟨S2x256x1024, .f32⟩
  | 92 => ⟨S_, .f32⟩
  | 93 => ⟨S2x256x1024, .f32⟩
  | 94 => ⟨S2x256x1024, .f32⟩
  | 95 => ⟨S2x256x1024, .f32⟩
  | 96 => ⟨S_, .f32⟩
  | 97 => ⟨S2x256x1024, .f32⟩
  | 98 => ⟨S2x256x1024, .f32⟩
  | 99 => ⟨S2x256x1024, .f32⟩
  | 100 => ⟨S_, .f32⟩
  | 101 => ⟨S2x256x1024, .f32⟩
  | 102 => ⟨S2x256x1024, .f32⟩
  | 103 => ⟨S_, .f32⟩
  | 104 => ⟨S2x256x1024, .f32⟩
  | 105 => ⟨S2x256x1024, .f32⟩
  | 106 => ⟨S2x256x1024, .f32⟩
  | 107 => ⟨S2x256x1024, .f32⟩
  | 108 => ⟨S2x256x1024, .f32⟩
  | 109 => ⟨S2x256x1024, .f32⟩
  | 110 => ⟨S2x256x1024, .f32⟩
  | 111 => ⟨S2x256x1024, .f32⟩
  | 112 => ⟨S_, .f32⟩
  | 113 => ⟨S2x256x1024, .f32⟩
  | 114 => ⟨S2x256x1024, .f32⟩
  | 115 => ⟨S_, .f32⟩
  | 116 => ⟨S2x256x1024, .f32⟩
  | 117 => ⟨S2x256x1024, .f32⟩
  | 118 => ⟨S2x256x1024, .f32⟩
  | 119 => ⟨S2x256x1024, .f32⟩
  | 120 => ⟨S2x256x1024, .f32⟩
  | 121 => ⟨S2x256x1024, .f32⟩
  | 122 => ⟨S2x256x1024, .f32⟩
  | 123 => ⟨S_, .f32⟩
  | 124 => ⟨S2x256x1024, .f32⟩
  | 125 => ⟨S2x256x1024, .f32⟩
  | 126 => ⟨S_, .f32⟩
  | 127 => ⟨S2x256x1024, .f32⟩
  | _ => ⟨S2x8192x1024, .f32⟩

abbrev hbmTy0_1 (i : Nat) : BufTy := match i % 128 with
  | 0 => ⟨S2x256x1024, .f32⟩
  | 1 => ⟨S2x256x1024, .f32⟩
  | 2 => ⟨S2x256x1024, .f32⟩
  | 3 => ⟨S2x256x1024, .f32⟩
  | 4 => ⟨S2x256x1024, .f32⟩
  | 5 => ⟨S2x256x1024, .f32⟩
  | 6 => ⟨S_, .f32⟩
  | 7 => ⟨S2x256x1024, .f32⟩
  | 8 => ⟨S2x256x1024, .f32⟩
  | 9 => ⟨S_, .f32⟩
  | 10 => ⟨S2x256x1024, .f32⟩
  | 11 => ⟨S2x256x1024, .f32⟩
  | 12 => ⟨S2x256x1024, .f32⟩
  | 13 => ⟨S2x256x1024, .f32⟩
  | 14 => ⟨S2x256x1024, .f32⟩
  | 15 => ⟨S2x256x1024, .f32⟩
  | 16 => ⟨S2x256x1024, .f32⟩
  | 17 => ⟨S2x256x1024, .f32⟩
  | 18 => ⟨S2x256x1024, .f32⟩
  | 19 => ⟨S2x8192x1024, .f32⟩
  | 20 => ⟨S_, .f32⟩
  | 21 => ⟨S2x8192, .f32⟩
  | 22 => ⟨S2x8192x1, .f32⟩
  | 23 => ⟨S_, .f32⟩
  | 24 => ⟨S2x8192x1, .f32⟩
  | 25 => ⟨S2x8192x1, .f32⟩
  | 26 => ⟨S_, .f32⟩
  | 27 => ⟨S2x8192x1, .f32⟩
  | 28 => ⟨S2x8192x1, .f32⟩
  | 29 => ⟨S2x8192x1, .f32⟩
  | 30 => ⟨S2x8192x1024, .f32⟩
  | 31 => ⟨S2x8192x1024, .f32⟩
  | 32 => ⟨S1x1x1024, .f32⟩
  | 33 => ⟨S2x8192x1024, .f32⟩
  | 34 => ⟨S2x8192x1024, .f32⟩
  | 35 => ⟨S_, .f32⟩
  | 36 => ⟨S2x1x1024, .f32⟩
  | 37 => ⟨S2x1x1024, .f32⟩
  | 38 => ⟨S2x8192x1024, .f32⟩
  | 39 => ⟨S2x8192x1024, .f32⟩
  | 40 => ⟨S2x8192x1024, .f32⟩
  | 41 => ⟨S2x8192x1024, .f32⟩
  | 42 => ⟨S2x256x1024, .f32⟩
  | 43 => ⟨S_, .f32⟩
  | 44 => ⟨S2x256, .f32⟩
  | 45 => ⟨S2x256x1, .f32⟩
  | 46 => ⟨S_, .f32⟩
  | 47 => ⟨S2x256x1, .f32⟩
  | 48 => ⟨S2x256x1, .f32⟩
  | 49 => ⟨S_, .f32⟩
  | 50 => ⟨S2x256x1, .f32⟩
  | 51 => ⟨S2x256x1, .f32⟩
  | 52 => ⟨S2x256x1, .f32⟩
  | 53 => ⟨S2x256x1024, .f32⟩
  | 54 => ⟨S2x256x1024, .f32⟩
  | 55 => ⟨S1x1x1024, .f32⟩
  | 56 => ⟨S2x256x1024, .f32⟩
  | 57 => ⟨S2x256x1024, .f32⟩
  | 58 => ⟨S_, .f32⟩
  | 59 => ⟨S1x1x1024, .f32⟩
  | 60 => ⟨S1x1x1024, .f32⟩
  | 61 => ⟨S2x256x1024, .f32⟩
  | 62 => ⟨S2x256x1024, .f32⟩
  | 63 => ⟨S2x256x1024, .f32⟩
  | 64 => ⟨S2x256x1024, .f32⟩
  | 65 => ⟨S16384x1024, .f32⟩
  | 66 => ⟨S512x1024, .f32⟩
  | 67 => ⟨S16896x1024, .f32⟩
  | 68 => ⟨S16384x1024, .f32⟩
  | 69 => ⟨S512x1024, .f32⟩
  | 70 => ⟨S16896x1024, .f32⟩
  | 71 => ⟨S16896x1024, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_1 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_3 : Ref sig .tc := ⟨.hbm, 54, rfl⟩
abbrev main_v33 : Ref sig .tc := ⟨.hbm, 55, rfl⟩
abbrev main_v34 : Ref sig .tc := ⟨.hbm, 56, rfl⟩
abbrev main_cst_4 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_5 : Ref sig .tc := ⟨.hbm, 65, rfl⟩
abbrev main_v42 : Ref sig .tc := ⟨.hbm, 66, rfl⟩
abbrev main_v43 : Ref sig .tc := ⟨.hbm, 67, rfl⟩
abbrev main_cst_6 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_7 : Ref sig .tc := ⟨.hbm, 76, rfl⟩
abbrev main_v51 : Ref sig .tc := ⟨.hbm, 77, rfl⟩
abbrev main_v52 : Ref sig .tc := ⟨.hbm, 78, rfl⟩
abbrev main_cst_8 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_9 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_10 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_11 : Ref sig .tc := ⟨.hbm, 100, rfl⟩
abbrev main_v71 : Ref sig .tc := ⟨.hbm, 101, rfl⟩
abbrev main_v72 : Ref sig .tc := ⟨.hbm, 102, rfl⟩
abbrev main_cst_12 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_13 : Ref sig .tc := ⟨.hbm, 112, rfl⟩
abbrev main_v81 : Ref sig .tc := ⟨.hbm, 113, rfl⟩
abbrev main_v82 : Ref sig .tc := ⟨.hbm, 114, rfl⟩
abbrev main_cst_14 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_15 : Ref sig .tc := ⟨.hbm, 123, rfl⟩
abbrev main_v90 : Ref sig .tc := ⟨.hbm, 124, rfl⟩
abbrev main_v91 : Ref sig .tc := ⟨.hbm, 125, rfl⟩
abbrev main_cst_16 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_17 : Ref sig .tc := ⟨.hbm, 134, rfl⟩
abbrev main_v99 : Ref sig .tc := ⟨.hbm, 135, rfl⟩
abbrev main_v100 : Ref sig .tc := ⟨.hbm, 136, rfl⟩
abbrev main_cst_18 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_cst_19 : Ref sig .tc := ⟨.hbm, 148, rfl⟩
abbrev main_v111 : Ref sig .tc := ⟨.hbm, 149, rfl⟩
abbrev main_v112 : Ref sig .tc := ⟨.hbm, 150, rfl⟩
abbrev main_cst_20 : Ref sig .tc := ⟨.hbm, 151, rfl⟩
abbrev main_v113 : Ref sig .tc := ⟨.hbm, 152, rfl⟩
abbrev main_v114 : Ref sig .tc := ⟨.hbm, 153, rfl⟩
abbrev main_cst_21 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_cst_22 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_cst_23 : Ref sig .tc := ⟨.hbm, 171, rfl⟩
abbrev main_v130 : Ref sig .tc := ⟨.hbm, 172, rfl⟩
abbrev main_v131 : Ref sig .tc := ⟨.hbm, 173, rfl⟩
abbrev main_cst_24 : Ref sig .tc := ⟨.hbm, 174, rfl⟩
abbrev main_v132 : Ref sig .tc := ⟨.hbm, 175, rfl⟩
abbrev main_v133 : Ref sig .tc := ⟨.hbm, 176, rfl⟩
abbrev main_cst_25 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_cst_26 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩

abbrev nD : Nat := 1
abbrev τ : Topo := Topo.v7x

variable {F : FTy → Type} [FloatOps F]
-- ==== Proof.Body.lean ====
module

public import proofs.«01_k».proof.Proof.Gen.KernelIdeal.Frame.Runs

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- The body's run, from staging buffers holding the six blocks `x0 … x5` and an output buffer and a score buffer
    holding anything: it ends with the blocks as they were and the output buffer with the pieces written that the
    run finds. The pieces are a function of what the output buffer and the score buffer held at the start,
    since the loop's trips read the score buffer back. -/
def bodyRun (c : Dev nD) (i : grid0.Coords) (arg3 : Memref sig .tc .vmem S4x64 .f32) (harg3 : arg3.IsWhole) (arg4 : Memref sig .tc .vmem S128x1 .f32) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x8448x128 .bf16) (harg7 : arg7.IsWhole) (arg8 : Memref sig .tc .vmem S1x128x8448 .bf16) (harg8 : arg8.IsWhole) (arg9 : Memref sig .tc .vmem S8192x128 .bf16) (harg9 : arg9.IsWhole) (arg10 : Memref sig .tc .vmem S8448x512 .f32) (harg10 : arg10.IsWhole)
    (x0 : Vec F S4x64 .f32) (x1 : Vec F S128x1 .f32) (x2 : Vec F S1x8192x128 .bf16) (x3 : Vec F S1x8192x128 .bf16) (x4 : Vec F S1x8448x128 .bf16) (x5 : Vec F S1x128x8448 .bf16) :
    { L6 : BufTy.Contents (Elt F) arg9.view.ty → BufTy.Contents (Elt F) arg10.view.ty → List (View.Piece (Elt F) S8192x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f g, arg9.view.loc (c : Thread nD τ) ↦[arg9.view.set]{fullShare} arg9.view.writes (Elt F) f (L6 f g)) ∗ (∃ d, owns (c : Thread nD τ) arg10 fullShare d)) -∗ K ⟨⟩))
          ⊢ wp frame (wpE (defs₀ (F := F)) Variants.none c none) E (cc0_diff_attention i arg3 harg3 arg4 harg4 arg5 harg5 arg6 harg6 arg7 harg7 arg8 harg8 arg9 harg9 arg10 harg10) K } := by
  refine ⟨?_, fun E K => ?run⟩
  case run =>
    simp only [cc0_diff_attention_eq_skeleton]; unfold cc0_diff_attention_skel
    simp only [k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists f6, fs0; iexact H6
    iexists _, _; isplitr; swap; · iexact HS0
    ipureintro; rfl

end Cert.KernelIdeal.Own

end
-- ==== Proof.State.lean ====
module

public import proofs.«01_k».proof.Proof.Body
public import Idealize.ShloMosaic.Lib.Pointwise
public import Idealize.ShloMosaic.Lib.WritesUnit
public import Idealize.ShloMosaic.Lib.VecWindow

@[expose] public section

set_option maxRecDepth 16384

noncomputable section

namespace Cert.KernelIdeal.Own

open Idealize.ShloMosaic Idealize.ShloMosaic.TcCoe Idealize.ShloMosaic.Tactic
open Cert.KernelIdeal Cert.KernelIdeal.Gen

variable {F : FTy → Type} [FloatOps F] [Named F]

/-! ## The blocks' chunks and what the body computes of them -/

/-- Every chunk of 768 key rows lies inside the keys' block. -/
theorem kc_inb (n : Fin 11) : ∀ a, (![0, 768 * n.val, 0] : Fin 3 → ℕ) a + S1x768x128.size a ≤ S1x8448x128.size a := by
  have := n.isLt
  intro a; fin_cases a
  · show 0 + 1 ≤ 1; omega
  · show 768 * n.val + 768 ≤ 8448; omega
  · show 0 + 128 ≤ 128; omega

/-- Every chunk of 768 value columns lies inside the transposed values' block. -/
theorem vc_inb (n : Fin 11) : ∀ a, (![0, 0, 768 * n.val] : Fin 3 → ℕ) a + S1x128x768.size a ≤ S1x128x8448.size a := by
  have := n.isLt
  intro a; fin_cases a
  · show 0 + 1 ≤ 1; omega
  · show 0 + 128 ≤ 128; omega
  · show 768 * n.val + 768 ≤ 8448; omega

/-- Every tile of 256 query rows lies inside the queries' block. -/
theorem qc_inb (j : Fin 32) : ∀ a, (![0, 256 * j.val, 0] : Fin 3 → ℕ) a + S1x256x128.size a ≤ S1x8192x128.size a := by
  have := j.isLt
  intro a; fin_cases a
  · show 0 + 1 ≤ 1; omega
  · show 256 * j.val + 256 ≤ 8192; omega
  · show 0 + 128 ≤ 128; omega

/-- Every chunk of 768 score rows lies inside the score buffer. -/
theorem sc_inb (n : Fin 11) : ∀ a, (![768 * n.val, 0] : Fin 2 → ℕ) a + S768x512.size a ≤ S8448x512.size a := by
  have := n.isLt
  intro a; fin_cases a
  · show 768 * n.val + 768 ≤ 8448; omega
  · show 0 + 512 ≤ 512; omega

/-- Chunk `n` of the keys' block: its rows `768 n … 768 n + 767`. -/
def kc (x4 : Vec F S1x8448x128 .bf16) (n : Fin 11) : Vec F S1x768x128 .bf16 :=
  View.ld (Val := Elt F) (e' := .bf16) x4 (Rect.unit (s := S1x8448x128) ![0, 768 * n.val, 0] S1x768x128.size (kc_inb n))

/-- Chunk `n` of the transposed values' block: its columns `768 n … 768 n + 767`. -/
def vc (x5 : Vec F S1x128x8448 .bf16) (n : Fin 11) : Vec F S1x128x768 .bf16 :=
  View.ld (Val := Elt F) (e' := .bf16) x5 (Rect.unit (s := S1x128x8448) ![0, 0, 768 * n.val] S1x128x768.size (vc_inb n))

/-- Tile `j` of a query block: its rows `256 j … 256 j + 255`. -/
def qc (x2 : Vec F S1x8192x128 .bf16) (j : Fin 32) : Vec F S1x256x128 .bf16 :=
  View.ld (Val := Elt F) (e' := .bf16) x2 (Rect.unit (s := S1x8192x128) ![0, 256 * j.val, 0] S1x256x128.size (qc_inb j))

/-- The scores of query tile `j` against key chunk `n`. -/
def sc (x2 x3 : Vec F S1x8192x128 .bf16) (x4 : Vec F S1x8448x128 .bf16) (j : Fin 32) (n : Fin 11) : FVec F S768x512 .f32 :=
  k0_pay1 (k0_pay10 (qc x2 j) (qc x3 j)) (kc x4 n)

/-- A chunk's largest score, query by query. -/
def cmx (s : FVec F S768x512 .f32) : FVec F S1x512 .f32 :=
  shapeCast S1x512 (multiReduction .maximumf [0] S512 s 0xFF800000#32 reduces_S768x512_S512 (.inl rfl) rfl) shapeCasts_S512_S1x512

/-- The largest score over the eleven chunks. -/
def mx (s : Fin 11 → FVec F S768x512 .f32) : FVec F S1x512 .f32 :=
  maximumf (maximumf (maximumf (maximumf (maximumf (maximumf (maximumf (maximumf (maximumf (maximumf
    (cmx (s 0)) (cmx (s 1))) (cmx (s 2))) (cmx (s 3))) (cmx (s 4))) (cmx (s 5))) (cmx (s 6))) (cmx (s 7))) (cmx (s 8))) (cmx (s 9))) (cmx (s 10))

/-- A chunk's sum of weights, query by query. -/
def cl (m : FVec F S1x512 .f32) (s : FVec F S768x512 .f32) : FVec F S1x512 .f32 :=
  shapeCast S1x512 (multiReduction .add [0] S512 (k0_pay11 m s) 0x00000000#32 reduces_S768x512_S512 (.inl rfl) rfl) shapeCasts_S512_S1x512

/-- The sum of weights over the eleven chunks. -/
def lsum (m : FVec F S1x512 .f32) (s : Fin 11 → FVec F S768x512 .f32) : FVec F S1x512 .f32 :=
  addf (addf (addf (addf (addf (addf (addf (addf (addf (addf (addf (broadcast S1x512 (Scalar.ofBits .f32 0x00000000#32))
    (cl m (s 0))) (cl m (s 1))) (cl m (s 2))) (cl m (s 3))) (cl m (s 4))) (cl m (s 5))) (cl m (s 6))) (cl m (s 7))) (cl m (s 8))) (cl m (s 9))) (cl m (s 10))

/-- A chunk's weighted sum of values. -/
def ca (m : FVec F S1x512 .f32) (s : FVec F S768x512 .f32) (v : Vec F S1x128x768 .bf16) : FVec F S128x512 .f32 :=
  matmul dot_S128x768_S768x512_S128x512_1_0_0_1_n_n none (shapeCast S128x768 v shapeCasts_S1x128x768_S128x768)
    (truncf .bf16 (k0_pay11 m s) bitsLt_bf16_f32) (constant S128x512 .f32 0x00000000#32)

/-- The weighted sum of values over the eleven chunks. -/
def asum (m : FVec F S1x512 .f32) (s : Fin 11 → FVec F S768x512 .f32) (v : Fin 11 → Vec F S1x128x768 .bf16) : FVec F S128x512 .f32 :=
  addf (addf (addf (addf (addf (addf (addf (addf (addf (addf (addf (broadcast S128x512 (Scalar.ofBits .f32 0x00000000#32))
    (ca m (s 0) (v 0))) (ca m (s 1) (v 1))) (ca m (s 2) (v 2))) (ca m (s 3) (v 3))) (ca m (s 4) (v 4))) (ca m (s 5) (v 5)))
    (ca m (s 6) (v 6))) (ca m (s 7) (v 7))) (ca m (s 8) (v 8))) (ca m (s 9) (v 9))) (ca m (s 10) (v 10))

/-- Tile `j` of the output block. -/
def otile (x0 : Vec F S4x64 .f32) (x1 : Vec F S128x1 .f32) (x2 x3 : Vec F S1x8192x128 .bf16) (x4 : Vec F S1x8448x128 .bf16)
    (x5 : Vec F S1x128x8448 .bf16) (j : Fin 32) : FVec F S256x128 .bf16 :=
  k0_pay9 (k0_pay66 x0) (lsum (mx (sc x2 x3 x4 j)) (sc x2 x3 x4 j)) (asum (mx (sc x2 x3 x4 j)) (sc x2 x3 x4 j) (vc x5)) x1

/-- A number below `b * c`, divided by `c`, is below `b`. -/
theorem div_lt {a b c : ℕ} (h : a < b * c) : a / c < b := Nat.div_lt_of_lt_mul (by rw [Nat.mul_comm]; exact h)

/-- The score buffer holding query tile `j`'s scores, chunk over chunk. -/
def sbuf (s : Fin 11 → FVec F S768x512 .f32) : Vec F S8448x512 .f32 := fun y =>
  s ⟨(y (0 : Fin 2)).val / 768, div_lt (b := 11) (c := 768) (y (0 : Fin 2)).isLt⟩
    (ix2 (⟨(y (0 : Fin 2)).val % 768, Nat.mod_lt _ (by omega)⟩ : Fin 768) (⟨(y (1 : Fin 2)).val, (y (1 : Fin 2)).isLt⟩ : Fin 512))

/-- The output block: tile over tile. -/
def oblk (x0 : Vec F S4x64 .f32) (x1 : Vec F S128x1 .f32) (x2 x3 : Vec F S1x8192x128 .bf16) (x4 : Vec F S1x8448x128 .bf16)
    (x5 : Vec F S1x128x8448 .bf16) : Vec F S8192x128 .bf16 := fun y =>
  otile x0 x1 x2 x3 x4 x5 ⟨(y (0 : Fin 2)).val / 256, div_lt (b := 32) (c := 256) (y (0 : Fin 2)).isLt⟩
    (ix2 (⟨(y (0 : Fin 2)).val % 256, Nat.mod_lt _ (by omega)⟩ : Fin 256) (⟨(y (1 : Fin 2)).val, (y (1 : Fin 2)).isLt⟩ : Fin 128))

/-! ## Reading the buffers -/

/-- The loop computes a chunk's scores as the first tile's code does. -/
theorem pay2_eq (q : FVec F S512x128 .bf16) (k : Vec F S1x768x128 .bf16) : k0_pay2 q k = k0_pay1 q k :=
  shapeCast_id _ _

/-- The score buffer at row `768 n + x` and column `y` is chunk `n`'s score there. -/
theorem sbuf_at (s : Fin 11 → FVec F S768x512 .f32) (n : Fin 11) (x : S768x512.Idx) (y : S8448x512.Idx)
    (h0 : (y (0 : Fin 2)).val = 768 * n.val + (x (0 : Fin 2)).val) (h1 : (y (1 : Fin 2)).val = (x (1 : Fin 2)).val) :
    sbuf s y = s n x := by
  have hx : (x (0 : Fin 2)).val < 768 := (x (0 : Fin 2)).isLt
  have e1 : (⟨(y (0 : Fin 2)).val / 768, div_lt (b := 11) (c := 768) (y (0 : Fin 2)).isLt⟩ : Fin 11) = n :=
    Fin.ext (by show _ / 768 = _; omega)
  have e2 : (ix2 (⟨(y (0 : Fin 2)).val % 768, Nat.mod_lt _ (by omega)⟩ : Fin 768) (⟨(y (1 : Fin 2)).val, (y (1 : Fin 2)).isLt⟩ : Fin 512)) = x := by
    conv_rhs => rw [eq_ix2 (n0 := 768) (n1 := 512) x]
    congr 1
    · exact Fin.ext (by show _ % 768 = _; omega)
    · exact Fin.ext h1
  unfold sbuf
  rw [e1]; exact congrArg (s n) e2

/-- A load of chunk `n` of a score buffer that holds the chunks `s` reads `s n`. -/
theorem ld_sbuf (s : Fin 11 → FVec F S768x512 .f32) (n : Fin 11) :
    View.ld (Val := Elt F) (e' := .f32) (sbuf s) (Rect.unit (s := S8448x512) ![768 * n.val, 0] S768x512.size (sc_inb n)) = s n := by
  funext x
  exact sbuf_at s n x _ (by show 768 * n.val + 1 * (x (0 : Fin 2)).val = _; omega) (by show 0 + 1 * (x (1 : Fin 2)).val = _; omega)

/-- The stores of the first `k` chunks, last first. -/
def pieces (w : Fin 11 → FVec F S768x512 .f32) : (k : ℕ) → k ≤ 11 → List (View.Piece (Elt F) S8448x512 .f32)
  | 0, _ => []
  | k + 1, h => ⟨Rect.unit (s := S8448x512) ![768 * k, 0] S768x512.size (sc_inb ⟨k, h⟩), w ⟨k, h⟩⟩ :: pieces w k (by omega)

/-- A buffer after the stores of the first `k` chunks holds them. -/
theorem read_pieces {sp : Space} (v : View sig .tc sp S8448x512 .f32) (f : v.ty.Contents (Elt F)) (w : Fin 11 → FVec F S768x512 .f32)
    (k : ℕ) (hk : k ≤ 11) (y : S8448x512.Idx) (hy : (y (0 : Fin 2)).val < 768 * k) :
    v.read (Elt F) (v.writes (Elt F) f (pieces w k hk)) y = sbuf w y := by
  induction k with
  | zero => omega
  | succ k ih =>
    by_cases h : (y (0 : Fin 2)).val < 768 * k
    · exact (View.read_writes_cons_rows_of_not_mem v f (sc_inb ⟨k, hk⟩) _ _ y rfl rfl (Or.inl h)).trans (ih (by omega) h)
    · have h1 : (y (1 : Fin 2)).val < 512 := (y (1 : Fin 2)).isLt
      have e0 : (y (0 : Fin 2)).val = 768 * k + ((y (0 : Fin 2)).val - 768 * k) := by omega
      refine (View.read_writes_cons_rows_of_mem v f (sc_inb ⟨k, hk⟩) _ _ y
        (ix2 (⟨(y (0 : Fin 2)).val - 768 * k, by omega⟩ : Fin 768) (⟨(y (1 : Fin 2)).val, h1⟩ : Fin 512)) rfl e0 rfl).trans ?_
      exact (sbuf_at w ⟨k, hk⟩ _ y e0 rfl).symm

/-! ## What one trip of the loop over the tiles leaves -/

/-- The tile whose scores trip `k` computes: the next one, the last trip the last tile again. -/
def jn (k : Fin k0_t1_loop.trips) : Fin 32 := ⟨min (k.val + 1) 31, by omega⟩

/-- The queries' offset at trip `k` is the next tile's first row. -/
theorem off1_eq : ∀ k : Fin k0_t1_loop.trips, k0_off1 k = ![0, 256 * (jn k).val, 0] := by decide

/-- The output's offset at trip `k` is tile `k`'s first row. -/
theorem off2_eq : ∀ k : Fin k0_t1_loop.trips, k0_off2 k = ![256 * k.val, 0] := by decide

section Trip

variable (c : Dev nD) (i : grid0.Coords) (arg3 : Memref sig .tc .vmem S4x64 .f32) (harg3 : arg3.IsWhole) (arg4 : Memref sig .tc .vmem S128x1 .f32) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x8448x128 .bf16) (harg7 : arg7.IsWhole) (arg8 : Memref sig .tc .vmem S1x128x8448 .bf16) (harg8 : arg8.IsWhole) (arg9 : Memref sig .tc .vmem S8192x128 .bf16) (harg9 : arg9.IsWhole) (arg10 : Memref sig .tc .vmem S8448x512 .f32) (harg10 : arg10.IsWhole)
  (x0 : Vec F S4x64 .f32) (x1 : Vec F S128x1 .f32) (x2 x3 : Vec F S1x8192x128 .bf16) (x4 : Vec F S1x8448x128 .bf16) (x5 : Vec F S1x128x8448 .bf16)

include harg7 in
/-- Loading rows `768 n … 768 n + 767` of the keys' buffer gives chunk `n`. -/
theorem read_kc (n : Fin 11) :
    View.readAt (Elt F) arg7.view (Rect.unit (s := S1x8448x128) ![0, 768 * n.val, 0] S1x768x128.size (kc_inb n)).toLoadRect (harg7.unread x4) = kc x4 n :=
  congrArg (fun X => View.ld (Val := Elt F) (e' := .bf16) X (Rect.unit (s := S1x8448x128) ![0, 768 * n.val, 0] S1x768x128.size (kc_inb n))) (harg7.read_unread x4)

/-- Loading columns `768 n … 768 n + 767` of the values' buffer gives chunk `n`. -/
theorem read_vc (n : Fin 11) :
    View.readAt (Elt F) arg8.view (Rect.unit (s := S1x128x8448) ![0, 0, 768 * n.val] S1x128x768.size (vc_inb n)).toLoadRect (harg8.unread x5) = vc x5 n :=
  congrArg (fun X => View.ld (Val := Elt F) (e' := .bf16) X (Rect.unit (s := S1x128x8448) ![0, 0, 768 * n.val] S1x128x768.size (vc_inb n))) (harg8.read_unread x5)

/-- Loading the 256 rows from `256 j` of the queries' buffer gives tile `j`. -/
theorem read_qc (j : Fin 32) (off : Fin 3 → ℕ) (h : off = ![0, 256 * j.val, 0]) (inb : ∀ a, off a + S1x256x128.size a ≤ S1x8192x128.size a) :
    View.readAt (Elt F) arg5.view (Rect.unit (s := S1x8192x128) off S1x256x128.size inb).toLoadRect (harg5.unread x2) = qc x2 j := by
  subst h
  exact congrArg (fun X => View.ld (Val := Elt F) (e' := .bf16) X (Rect.unit (s := S1x8192x128) ![0, 256 * j.val, 0] S1x256x128.size (qc_inb j))) (harg5.read_unread x2)

/-- Loading chunk `n` of a score buffer that holds `s` gives `s n`. -/
theorem read_sc (s : Fin 11 → FVec F S768x512 .f32) (f10 : BufTy.Contents (Elt F) arg10.view.ty) (hf : arg10.view.read (Elt F) f10 = sbuf s) (n : Fin 11) :
    View.readAt (Elt F) arg10.view (Rect.unit (s := S8448x512) ![768 * n.val, 0] S768x512.size (sc_inb n)).toLoadRect f10 = s n :=
  (congrArg (fun X => View.ld (Val := Elt F) (e' := .f32) X (Rect.unit (s := S8448x512) ![768 * n.val, 0] S768x512.size (sc_inb n))) hf).trans (ld_sbuf s n)

/-- A trip carries on the largest scores of the tile whose scores it computed. -/
theorem trip_r (v15 : FVec F S1x1 .f32) (k : Fin k0_t1_loop.trips) (acc : FVec F S1x512 .f32) (f9 : BufTy.Contents (Elt F) arg9.view.ty) (f10 : BufTy.Contents (Elt F) arg10.view.ty) :
    tripR_k0_t1 Variants.none c none i arg3 harg3 arg4 harg4 arg5 harg5 arg6 harg6 arg7 harg7 arg8 harg8 arg9 harg9 arg10 harg10 v15 (harg4.unread x1) (harg5.unread x2) (harg6.unread x3) (harg7.unread x4) (harg8.unread x5) k acc f9 f10
      = mx (sc x2 x3 x4 (jn k)) := by
  unfold tripR_k0_t1 trip_k0_t1
  dsimp only
  have hq := read_qc arg5 harg5 x2 (jn k) (k0_off1 k) (off1_eq k) (k0_off1_inb k)
  have hq' := read_qc arg6 harg6 x3 (jn k) (k0_off1 k) (off1_eq k) (k0_off1_inb k)
  have hk := read_kc (F := F) arg7 harg7 x4
  unfold sc
  rw [← hq, ← hq', ← funext hk]
  rfl

/-- A trip writes one tile of the output: the closing payload of the sums that it takes over the scores it finds. -/
theorem trip_l9 (k : Fin k0_t1_loop.trips) (acc : FVec F S1x512 .f32) (f9 : BufTy.Contents (Elt F) arg9.view.ty) (f10 : BufTy.Contents (Elt F) arg10.view.ty)
    (s : Fin 11 → FVec F S768x512 .f32) (hf : arg10.view.read (Elt F) f10 = sbuf s) (v15 : FVec F S1x1 .f32) :
    (tripL_k0_t1 Variants.none c none i arg3 harg3 arg4 harg4 arg5 harg5 arg6 harg6 arg7 harg7 arg8 harg8 arg9 harg9 arg10 harg10 v15 (harg4.unread x1) (harg5.unread x2) (harg6.unread x3) (harg7.unread x4) (harg8.unread x5) k acc f9 f10).1
      = [⟨Rect.unit (s := S8192x128) (k0_off2 k) S256x128.size (k0_off2_inb k), k0_pay9 v15 (lsum acc s) (asum acc s (vc x5)) x1⟩] := by
  unfold tripL_k0_t1 trip_k0_t1
  dsimp only
  have hv := read_vc (F := F) arg8 harg8 x5
  have hs := read_sc (F := F) arg10 s f10 hf
  have h1 : View.readAt (Elt F) arg4.view (Rect.unit (s := S128x1) ![0, 0] S128x1.size inb_S128x1_S128x1_0_0).toLoadRect (harg4.unread x1) = x1 :=
    (View.readAt_full arg4.view (harg4.unread x1) inb_S128x1_S128x1_0_0).trans (harg4.read_unread x1)
  conv_rhs => rw [← h1, ← funext hv, ← funext hs]
  rfl

/-- A trip writes the next tile's scores, chunk over chunk, into the score buffer. -/
theorem trip_l10 (v15 : FVec F S1x1 .f32) (k : Fin k0_t1_loop.trips) (acc : FVec F S1x512 .f32) (f9 : BufTy.Contents (Elt F) arg9.view.ty) (f10 : BufTy.Contents (Elt F) arg10.view.ty) :
    (tripL_k0_t1 Variants.none c none i arg3 harg3 arg4 harg4 arg5 harg5 arg6 harg6 arg7 harg7 arg8 harg8 arg9 harg9 arg10 harg10 v15 (harg4.unread x1) (harg5.unread x2) (harg6.unread x3) (harg7.unread x4) (harg8.unread x5) k acc f9 f10).2
      = pieces (sc x2 x3 x4 (jn k)) 11 (Nat.le_refl 11) := by
  have e : sc x2 x3 x4 (jn k) = fun n => k0_pay2 (k0_pay10 (qc x2 (jn k)) (qc x3 (jn k))) (kc x4 n) := funext fun n => (pay2_eq _ _).symm
  rw [e]
  unfold tripL_k0_t1 trip_k0_t1
  dsimp only
  have hq := read_qc arg5 harg5 x2 (jn k) (k0_off1 k) (off1_eq k) (k0_off1_inb k)
  have hq' := read_qc arg6 harg6 x3 (jn k) (k0_off1 k) (off1_eq k) (k0_off1_inb k)
  have hk := read_kc (F := F) arg7 harg7 x4
  rw [← hq, ← hq', ← funext hk]
  rfl

/-- The output block at row `256 j + x` is tile `j` at row `x`. -/
theorem oblk_at (j : Fin 32) (x : S256x128.Idx) (y : S8192x128.Idx)
    (h0 : (y (0 : Fin 2)).val = 256 * j.val + (x (0 : Fin 2)).val) (h1 : (y (1 : Fin 2)).val = (x (1 : Fin 2)).val) :
    oblk x0 x1 x2 x3 x4 x5 y = otile x0 x1 x2 x3 x4 x5 j x := by
  have hx : (x (0 : Fin 2)).val < 256 := (x (0 : Fin 2)).isLt
  have e1 : (⟨(y (0 : Fin 2)).val / 256, div_lt (b := 32) (c := 256) (y (0 : Fin 2)).isLt⟩ : Fin 32) = j :=
    Fin.ext (by show _ / 256 = _; omega)
  have e2 : (ix2 (⟨(y (0 : Fin 2)).val % 256, Nat.mod_lt _ (by omega)⟩ : Fin 256) (⟨(y (1 : Fin 2)).val, (y (1 : Fin 2)).isLt⟩ : Fin 128)) = x := by
    conv_rhs => rw [eq_ix2 (n0 := 256) (n1 := 128) x]
    congr 1
    · exact Fin.ext (by show _ % 256 = _; omega)
    · exact Fin.ext h1
  unfold oblk
  rw [e1]; exact congrArg (otile x0 x1 x2 x3 x4 x5 j) e2

/-- The tile whose scores the buffer holds before trip `k`. -/
def jt (k : ℕ) : Fin 32 := ⟨min k 31, by omega⟩

/-- Before trip `k` the loop carries the largest scores of tile `k`, the score buffer holds that tile's scores, and
    the output block's tiles before it are written. -/
theorem state_at (G9 : BufTy.Contents (Elt F) arg9.view.ty) (G10 : BufTy.Contents (Elt F) arg10.view.ty)
    (hG : arg10.view.read (Elt F) G10 = sbuf (sc x2 x3 x4 0)) (k : ℕ) (hk : k ≤ 32) :
    (st_k0_t1 Variants.none c none i arg3 harg3 arg4 harg4 arg5 harg5 arg6 harg6 arg7 harg7 arg8 harg8 arg9 harg9 arg10 harg10 (k0_pay66 x0) (harg4.unread x1) (harg5.unread x2) (harg6.unread x3) (harg7.unread x4) (harg8.unread x5) G9 G10 (mx (sc x2 x3 x4 0)) k).1
        = mx (sc x2 x3 x4 (jt k))
      ∧ arg10.view.read (Elt F) (arg10.view.writes (Elt F) G10 (st_k0_t1 Variants.none c none i arg3 harg3 arg4 harg4 arg5 harg5 arg6 harg6 arg7 harg7 arg8 harg8 arg9 harg9 arg10 harg10 (k0_pay66 x0) (harg4.unread x1) (harg5.unread x2) (harg6.unread x3) (harg7.unread x4) (harg8.unread x5) G9 G10 (mx (sc x2 x3 x4 0)) k).2.2)
        = sbuf (sc x2 x3 x4 (jt k))
      ∧ ∀ y : S8192x128.Idx, (y (0 : Fin 2)).val < 256 * k →
        arg9.view.read (Elt F) (arg9.view.writes (Elt F) G9 (st_k0_t1 Variants.none c none i arg3 harg3 arg4 harg4 arg5 harg5 arg6 harg6 arg7 harg7 arg8 harg8 arg9 harg9 arg10 harg10 (k0_pay66 x0) (harg4.unread x1) (harg5.unread x2) (harg6.unread x3) (harg7.unread x4) (harg8.unread x5) G9 G10 (mx (sc x2 x3 x4 0)) k).2.1) y
          = oblk x0 x1 x2 x3 x4 x5 y := by
  induction k with
  | zero => exact ⟨rfl, hG, fun y hy => by omega⟩
  | succ k ih =>
    obtain ⟨ih1, ih2, ih3⟩ := ih (by omega)
    have hlt : k < k0_t1_loop.trips := hk
    rw [st_k0_t1_succ Variants.none c none i arg3 harg3 arg4 harg4 arg5 harg5 arg6 harg6 arg7 harg7 arg8 harg8 arg9 harg9 arg10 harg10 (k0_pay66 x0) (harg4.unread x1) (harg5.unread x2) (harg6.unread x3) (harg7.unread x4) (harg8.unread x5) G9 G10 (mx (sc x2 x3 x4 0)) ⟨k, hlt⟩]
    generalize st_k0_t1 Variants.none c none i arg3 harg3 arg4 harg4 arg5 harg5 arg6 harg6 arg7 harg7 arg8 harg8 arg9 harg9 arg10 harg10 (k0_pay66 x0) (harg4.unread x1) (harg5.unread x2) (harg6.unread x3) (harg7.unread x4) (harg8.unread x5) G9 G10 (mx (sc x2 x3 x4 0)) k = st at ih1 ih2 ih3 ⊢
    have hr := trip_r c i arg3 harg3 arg4 harg4 arg5 harg5 arg6 harg6 arg7 harg7 arg8 harg8 arg9 harg9 arg10 harg10 x1 x2 x3 x4 x5 (k0_pay66 x0) ⟨k, hlt⟩ st.1
      (arg9.view.writes (Elt F) G9 st.2.1) (arg10.view.writes (Elt F) G10 st.2.2)
    have h10 := trip_l10 c i arg3 harg3 arg4 harg4 arg5 harg5 arg6 harg6 arg7 harg7 arg8 harg8 arg9 harg9 arg10 harg10 x1 x2 x3 x4 x5 (k0_pay66 x0) ⟨k, hlt⟩ st.1
      (arg9.view.writes (Elt F) G9 st.2.1) (arg10.view.writes (Elt F) G10 st.2.2)
    have h9 := trip_l9 c i arg3 harg3 arg4 harg4 arg5 harg5 arg6 harg6 arg7 harg7 arg8 harg8 arg9 harg9 arg10 harg10 x1 x2 x3 x4 x5 ⟨k, hlt⟩ st.1
      (arg9.view.writes (Elt F) G9 st.2.1) (arg10.view.writes (Elt F) G10 st.2.2) _ ih2 (k0_pay66 x0)
    refine ⟨hr, ?_, ?_⟩
    · refine (congrArg (fun L => arg10.view.read (Elt F) (arg10.view.writes (Elt F) G10 (L ++ st.2.2))) h10).trans ?_
      rw [View.writes_append]
      funext y
      exact read_pieces arg10.view _ _ 11 (Nat.le_refl 11) y (y (0 : Fin 2)).isLt
    · intro y hy
      refine (congrArg (fun L => arg9.view.read (Elt F) (arg9.view.writes (Elt F) G9 (L ++ st.2.1)) y) h9).trans ?_
      rw [View.writes_append, ih1]
      by_cases h : (y (0 : Fin 2)).val < 256 * k
      · exact (View.read_writes_cons_rows_of_not_mem arg9.view _ (k0_off2_inb ⟨k, hlt⟩) _ _ y (off2_eq ⟨k, hlt⟩) rfl (Or.inl h)).trans (ih3 y h)
      · have h1 : (y (1 : Fin 2)).val < 128 := (y (1 : Fin 2)).isLt
        have e0 : (y (0 : Fin 2)).val = 256 * k + ((y (0 : Fin 2)).val - 256 * k) := by omega
        refine (View.read_writes_cons_rows_of_mem arg9.view _ (k0_off2_inb ⟨k, hlt⟩) _ _ y
          (ix2 (⟨(y (0 : Fin 2)).val - 256 * k, by omega⟩ : Fin 256) (⟨(y (1 : Fin 2)).val, h1⟩ : Fin 128)) (off2_eq ⟨k, hlt⟩) e0 rfl).trans ?_
        have hk31 : min k 31 = k := by omega
        exact (oblk_at x0 x1 x2 x3 x4 x5 (jt k) _ y (by show _ = 256 * min k 31 + _; rw [hk31]; exact e0) rfl).symm

/-- The body's pieces leave the output block, whatever the output and score buffers held before. -/
theorem read_bodyRun (f6 : BufTy.Contents (Elt F) arg9.view.ty) (fs : BufTy.Contents (Elt F) arg10.view.ty) :
    arg9.view.read (Elt F) (arg9.view.writes (Elt F) f6
        ((bodyRun c i arg3 harg3 arg4 harg4 arg5 harg5 arg6 harg6 arg7 harg7 arg8 harg8 arg9 harg9 arg10 harg10 x0 x1 x2 x3 x4 x5).1 f6 fs))
      = oblk x0 x1 x2 x3 x4 x5 := by
  have hq := read_qc arg5 harg5 x2 0 ![0, 0, 0] rfl inb_S1x8192x128_S1x256x128_0_0_0
  have hq' := read_qc arg6 harg6 x3 0 ![0, 0, 0] rfl inb_S1x8192x128_S1x256x128_0_0_0
  have hk := read_kc (F := F) arg7 harg7 x4
  have h0 : View.readAt (Elt F) arg3.view (Rect.unit (s := S4x64) ![0, 0] S4x64.size inb_S4x64_S4x64_0_0).toLoadRect (harg3.unread x0) = x0 :=
    (View.readAt_full arg3.view (harg3.unread x0) inb_S4x64_S4x64_0_0).trans (harg3.read_unread x0)
  have hG : arg10.view.read (Elt F) (arg10.view.writes (Elt F) arg10.view.junk (bodyRun.sl.HS0_11 c arg5 harg5 arg6 harg6 arg7 harg7 x2 x3 x4)) = sbuf (sc x2 x3 x4 0) := by
    have e : bodyRun.sl.HS0_11 c arg5 harg5 arg6 harg6 arg7 harg7 x2 x3 x4 = pieces (sc x2 x3 x4 0) 11 (Nat.le_refl 11) := by
      have e : sc x2 x3 x4 0 = fun n => k0_pay2 (k0_pay10 (qc x2 0) (qc x3 0)) (kc x4 n) := funext fun n => (pay2_eq _ _).symm
      rw [e, ← hq, ← hq', ← funext hk]
      rfl
    rw [e]
    funext y
    exact read_pieces arg10.view _ _ 11 (Nat.le_refl 11) y (y (0 : Fin 2)).isLt
  have hinit : mx (sc x2 x3 x4 0) = (k0_pay7 (bodyRun.sl.r_1 c arg5 harg5 arg6 harg6 x2 x3)
            (bodyRun.sl.r_5 c arg5 harg5 arg6 harg6 arg7 harg7 x2 x3 x4)
            (View.readAt (Elt F) arg7.view
              (Rect.unit (s := S1x8448x128) ![0, 6144, 0] S1x768x128.size inb_S1x8448x128_S1x768x128_0_6144_0).toLoadRect (harg7.unread x4))
            (View.readAt (Elt F) arg7.view
              (Rect.unit (s := S1x8448x128) ![0, 6912, 0] S1x768x128.size inb_S1x8448x128_S1x768x128_0_6912_0).toLoadRect (harg7.unread x4))
            (View.readAt (Elt F) arg7.view
              (Rect.unit (s := S1x8448x128) ![0, 7680, 0] S1x768x128.size inb_S1x8448x128_S1x768x128_0_7680_0).toLoadRect
              (harg7.unread x4))) := by
    unfold sc
    rw [← hq, ← hq', ← funext hk]
    rfl
  have h15 : bodyRun.sl.r c arg3 harg3 x0 = k0_pay66 x0 := congrArg k0_pay66 h0
  have key := (state_at c i arg3 harg3 arg4 harg4 arg5 harg5 arg6 harg6 arg7 harg7 arg8 harg8 arg9 harg9 arg10 harg10 x0 x1 x2 x3 x4 x5 f6 _ hG 32 (Nat.le_refl 32)).2.2
  rw [hinit, ← h15] at key
  unfold bodyRun
  funext y
  exact key y (y (0 : Fin 2)).isLt

end Trip

end Cert.KernelIdeal.Own

end
-- ==== Proof.Math.lean ====
module

public import Idealize.ShloMosaic.Lib.Pointwise

@[expose] public section

noncomputable section

namespace Cert.Attn

open Finset Idealize.ShloMosaic

/-- A sum of reals, read as extended reals, is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A real over a nonzero real is their quotient. -/
theorem div_real (a : ℝ) {b : ℝ} (hb : b ≠ 0) : Ideal.div (a : EReal) (b : EReal) = ((a / b : ℝ) : EReal) := by
  rw [Ideal.div_coe hb, ← EReal.coe_mul, mul_one_div]

/-- The difference of two heads' means, scaled to unit mean square over the 128 columns, times the scale `g` and the constant. -/
def norm (D : Fin 128 → EReal) (g : EReal) (e : Fin 128) : EReal :=
  D e * Ideal.rsqrt (Ideal.div (∑ x, D x * D x) (Ideal.ofBits .f32 0x43000000#32)
      + Ideal.ofBits .f32 0x358637BD#32) * g
    * Ideal.ofBits .f32 0x3F4CCCCD#32

/-- The mixing coefficient of a 4×64 array. -/
def lamOf (x : Fin 4 → Fin 64 → EReal) : EReal :=
  Ideal.exp (∑ k, x 0 k * x 1 k) - Ideal.exp (∑ k, x 2 k * x 3 k)
    + Ideal.ofBits .f32 0x3E4CCCCD#32

/-- Row `768 n + k` of the kernel's key order (latent rows first) is this row of the reference's (context rows first). -/
def row (n : Fin 11) (k : Fin 768) : Fin 8448 := ⟨(768 * n.val + k.val + 256) % 8448, Nat.mod_lt _ (by norm_num)⟩

/-- Summing over the kernel's eleven chunks of 768 rows is summing over all the rows in the reference's order. -/
theorem sum_rows {M : Type*} [AddCommMonoid M] (f : Fin 8448 → M) : ∑ n, ∑ k, f (row n k) = ∑ i, f i := by
  rw [← Fintype.sum_prod_type' (f := fun n k => f (row n k))]
  refine Fintype.sum_equiv ⟨fun p => row p.1 p.2,
    fun i => (⟨((i.val + 8192) % 8448) / 768, by omega⟩, ⟨((i.val + 8192) % 8448) % 768, by omega⟩), ?_, ?_⟩ _ _ fun p => rfl
  · rintro ⟨n, k⟩
    have hn := n.isLt; have hk := k.isLt
    refine Prod.ext (Fin.ext ?_) (Fin.ext ?_) <;> simp only [row] <;> omega
  · intro i
    have hi := i.isLt
    refine Fin.ext ?_
    simp only [row]; omega

/-- Each row of the reference's order is one of the kernel's. -/
theorem row_surj (i : Fin 8448) : ∃ n k, row n k = i := by
  have hi := i.isLt
  refine ⟨⟨((i.val + 8192) % 8448) / 768, by omega⟩, ⟨((i.val + 8192) % 8448) % 768, by omega⟩, Fin.ext ?_⟩
  simp only [row]; omega

/-- Context rows first, then latent rows. -/
def cat {α : Type*} (c : Fin 256 → α) (l : Fin 8192 → α) (i : Fin 8448) : α :=
  if hi : i.val < 256 then c ⟨i.val, hi⟩ else l ⟨i.val - 256, by omega⟩

/-- The row that the kernel has at place `768 n + k`: a latent one before place 8192, a context one after. -/
theorem cat_row {α : Type*} (c : Fin 256 → α) (l : Fin 8192 → α) (n : Fin 11) (k : Fin 768) :
    cat c l (row n k) = if h : 768 * n.val + k.val < 8192 then l ⟨768 * n.val + k.val, h⟩ else c ⟨768 * n.val + k.val - 8192, by omega⟩ := by
  have hn := n.isLt
  have hk := k.isLt
  unfold cat
  by_cases h : 768 * n.val + k.val < 8192
  · rw [dif_pos h, dif_neg (by simp only [row]; omega)]
    exact congrArg l (Fin.ext (by simp only [row]; omega))
  · rw [dif_neg h, dif_pos (by simp only [row]; omega)]
    exact congrArg c (Fin.ext (by simp only [row]; omega))

/-- A sum over 128 columns is the sum over the first 64 and the sum over the last 64. -/
theorem sum_halves (f : Fin 128 → EReal) : ∑ x, f x = ∑ x : Fin 64, f ⟨x.val, by omega⟩ + ∑ x : Fin 64, f ⟨64 + x.val, by omega⟩ :=
  Fin.sum_univ_add (a := 64) (b := 64) f

/-- The mixing coefficient of real entries is a real. -/
theorem lamOf_real (x : Fin 4 → Fin 64 → EReal) (hx : ∀ a b, ∃ r : ℝ, x a b = r) : ∃ l : ℝ, lamOf x = l := by
  choose f hf using hx
  have hc : ∃ r : ℝ, Ideal.ofBits .f32 0x3E4CCCCD#32 = (r : EReal) := by
    simp only [Ideal.ofBits, Ideal.ieee]
    exact ⟨_, by norm_num; rfl⟩
  obtain ⟨r, hr⟩ := hc
  refine ⟨Real.exp (∑ k, f 0 k * f 1 k) - Real.exp (∑ k, f 2 k * f 3 k) + r, ?_⟩
  unfold lamOf
  simp only [hf, ← EReal.coe_mul, coe_sum, Ideal.exp_coe, hr, ← EReal.coe_sub, ← EReal.coe_add]

/-- The reference's scale is one eighth. -/
theorem eighth : Ideal.ofBits .f32 0x3E000000#32 = (((1 / 8 : ℝ)) : EReal) := by
  simp [Ideal.ofBits, Ideal.ieee, -EReal.coe_mul]; norm_num

end Cert.Attn

end
-- ==== Proof.Weights.lean ====
module

public import proofs.«01_k».proof.Proof.Math

@[expose] public section

noncomputable section

namespace Cert.Attn

open Finset Idealize.ShloMosaic

/-! ## The softmax weights of scores that need not be finite -/

/-- The weight of key `i`: the exponential of its score over eight, less the largest of the scores over eight. -/
def weight (T : Fin 8448 → EReal) (i : Fin 8448) : EReal :=
  Ideal.exp (T i * ((1 / 8 : ℝ) : EReal) - (univ : Finset (Fin 8448)).sup T * ((1 / 8 : ℝ) : EReal))

/-- One of the scores is the largest. -/
theorem sup_attained (T : Fin 8448 → EReal) : ∃ i, (univ : Finset (Fin 8448)).sup T = T i := by
  obtain ⟨i, -, h⟩ := Finset.exists_mem_eq_sup univ ⟨(0 : Fin 8448), mem_univ _⟩ T
  exact ⟨i, h⟩

/-- Scaling the scores by a positive real scales their largest. -/
theorem sup_scale (T : Fin 8448 → EReal) {c : ℝ} (hc : 0 ≤ c) :
    (univ : Finset (Fin 8448)).sup (fun i => T i * (c : EReal)) = (univ : Finset (Fin 8448)).sup T * (c : EReal) := by
  have h0 : (0 : EReal) ≤ (c : EReal) := by exact_mod_cast hc
  obtain ⟨i, hi⟩ := sup_attained T
  refine le_antisymm (Finset.sup_le fun j _ => ?_) ?_
  · exact mul_le_mul_of_nonneg_right (Finset.le_sup (f := T) (mem_univ j)) h0
  · rw [hi]
    exact Finset.le_sup (f := fun i => T i * (c : EReal)) (mem_univ i)

/-- A sum of extended reals times a nonnegative real is the sum of the products. -/
theorem sum_scale {ι : Type*} (s : Finset ι) (f : ι → EReal) {c : ℝ} (hc : 0 ≤ c) : (∑ i ∈ s, f i) * (c : EReal) = ∑ i ∈ s, f i * (c : EReal) := by
  classical
  have h0 : (0 : EReal) ≤ (c : EReal) := by exact_mod_cast hc
  induction s using Finset.induction_on with
  | empty => simp
  | insert a s ha ih =>
    rw [Finset.sum_insert ha, Finset.sum_insert ha, EReal.right_distrib_of_nonneg_of_ne_top h0 (EReal.coe_ne_top c), ih]

/-- A power of two of a difference scaled by `(1/8)/log 2` is the exponential of the difference over eight, whatever the two
    extended reals are. -/
theorem pow_eq_exp (x y : EReal) :
    Ideal.exp2 (x * (((1 / 8) * (Real.log 2)⁻¹ : ℝ) : EReal) - y * (((1 / 8) * (Real.log 2)⁻¹ : ℝ) : EReal))
      = Ideal.exp (x * ((1 / 8 : ℝ) : EReal) - y * ((1 / 8 : ℝ) : EReal)) := by
  have hlog : 0 < Real.log 2 := Real.log_pos (by norm_num)
  have hc : (0 : ℝ) < (1 / 8) * (Real.log 2)⁻¹ := by positivity
  have hd : (0 : ℝ) < 1 / 8 := by norm_num
  induction x with
  | bot => rw [EReal.bot_mul_coe_of_pos hc, EReal.bot_mul_coe_of_pos hd, EReal.bot_sub, EReal.bot_sub]; rfl
  | top =>
    rw [EReal.top_mul_coe_of_pos hc, EReal.top_mul_coe_of_pos hd]
    induction y with
    | bot => rw [EReal.bot_mul_coe_of_pos hc, EReal.bot_mul_coe_of_pos hd, EReal.top_sub_bot]; rfl
    | top => rw [EReal.top_mul_coe_of_pos hc, EReal.top_mul_coe_of_pos hd, EReal.sub_top]; rfl
    | coe y => rw [← EReal.coe_mul, ← EReal.coe_mul, EReal.top_sub_coe, EReal.top_sub_coe]; rfl
  | coe x =>
    rw [← EReal.coe_mul, ← EReal.coe_mul]
    induction y with
    | bot => rw [EReal.bot_mul_coe_of_pos hc, EReal.bot_mul_coe_of_pos hd, EReal.coe_sub_bot, EReal.coe_sub_bot]; rfl
    | top => rw [EReal.top_mul_coe_of_pos hc, EReal.top_mul_coe_of_pos hd, EReal.sub_top, EReal.sub_top]; rfl
    | coe y =>
      rw [← EReal.coe_mul, ← EReal.coe_mul, ← EReal.coe_sub, ← EReal.coe_sub, Ideal.exp2_coe, Ideal.exp_coe]
      congr 1
      rw [Real.rpow_eq_pow, Real.rpow_def_of_pos (by norm_num)]
      congr 1
      field_simp

/-- The weights are reals. Either their sum is not zero, or, where the largest score is infinite, each of them is zero. -/
theorem weight_real (T : Fin 8448 → EReal) :
    ∃ u : Fin 8448 → ℝ, (∀ i, weight T i = ((u i : ℝ) : EReal)) ∧ (∑ i, u i ≠ 0 ∨ ∀ i, u i = 0) := by
  have hd : (0 : ℝ) < 1 / 8 := by norm_num
  obtain ⟨i₀, hM⟩ := sup_attained T
  have hle : ∀ i, T i ≤ T i₀ := fun i => hM ▸ Finset.le_sup (f := T) (mem_univ i)
  unfold weight
  rw [hM]
  generalize hm : T i₀ = M at hle
  induction M with
  | bot =>
    refine ⟨fun _ => 0, fun i => ?_, Or.inr fun _ => rfl⟩
    rw [le_bot_iff.1 (hle i), EReal.bot_mul_coe_of_pos hd, EReal.bot_sub]; rfl
  | top =>
    refine ⟨fun _ => 0, fun i => ?_, Or.inr fun _ => rfl⟩
    rw [EReal.top_mul_coe_of_pos hd, EReal.sub_top]; rfl
  | coe M =>
    have hr : ∀ i, ∃ r : ℝ, Ideal.exp (T i * ((1 / 8 : ℝ) : EReal) - (M : EReal) * ((1 / 8 : ℝ) : EReal)) = (r : EReal) ∧ 0 ≤ r := fun i => by
      have h := hle i
      induction hT : T i with
      | bot => exact ⟨0, by rw [EReal.bot_mul_coe_of_pos hd, EReal.bot_sub]; rfl, le_rfl⟩
      | top => rw [hT] at h; exact absurd (top_le_iff.1 h) (EReal.coe_ne_top M)
      | coe x => exact ⟨Real.exp (x * (1 / 8) - M * (1 / 8)), by rw [← EReal.coe_mul, ← EReal.coe_mul, ← EReal.coe_sub, Ideal.exp_coe], (Real.exp_pos _).le⟩
    choose u hu hp using hr
    refine ⟨u, hu, Or.inl (ne_of_gt ?_)⟩
    refine lt_of_lt_of_le ?_ (Finset.single_le_sum (f := u) (fun i _ => hp i) (mem_univ i₀))
    have h := hu i₀
    rw [hm, ← EReal.coe_mul, ← EReal.coe_sub, Ideal.exp_coe, EReal.coe_eq_coe_iff] at h
    rw [← h]
    exact Real.exp_pos _

/-! ## A row that has an infinite column -/

/-- Zero or an infinity. -/
def Extreme (x : EReal) : Prop := x = 0 ∨ x = ⊤ ∨ x = ⊥

/-- An infinity times a real is zero or an infinity. -/
theorem extreme_mul (r : ℝ) {J : EReal} (hJ : J = ⊤ ∨ J = ⊥) : Extreme ((r : EReal) * J) := by
  rcases lt_trichotomy r 0 with h | rfl | h
  · rcases hJ with rfl | rfl
    · exact Or.inr (Or.inr (EReal.coe_mul_top_of_neg h))
    · exact Or.inr (Or.inl (EReal.coe_mul_bot_of_neg h))
  · exact Or.inl (by simp)
  · rcases hJ with rfl | rfl
    · exact Or.inr (Or.inl (EReal.coe_mul_top_of_pos h))
    · exact Or.inr (Or.inr (EReal.coe_mul_bot_of_pos h))

/-- A sum of zeros and infinities is one of them. -/
theorem extreme_sum {ι : Type*} (s : Finset ι) (f : ι → EReal) (hf : ∀ i, Extreme (f i)) : Extreme (∑ i ∈ s, f i) := by
  classical
  induction s using Finset.induction_on with
  | empty => exact Or.inl (by simp)
  | insert a s ha ih =>
    rw [Finset.sum_insert ha]
    rcases hf a with h | h | h <;> rcases ih with h' | h' | h' <;> rw [h, h'] <;> simp [Extreme]

/-- The square of an extended real is not negative. -/
theorem square_nonneg (x : EReal) : 0 ≤ x * x := by
  induction x with
  | bot => simp
  | top => simp
  | coe r => rw [← EReal.coe_mul]; exact_mod_cast mul_self_nonneg r

/-- The norm takes a column that is zero or infinite to zero: an infinite column makes the mean square infinite. -/
theorem norm_extreme (D : Fin 128 → EReal) (g : EReal) (e : Fin 128) (h : Extreme (D e)) : norm D g e = 0 := by
  unfold norm
  rcases h with h | h
  · rw [h]; simp
  · have hsq : D e * D e = ⊤ := by rcases h with h | h <;> rw [h] <;> simp
    have hs : ∑ x, D x * D x = ⊤ :=
      top_le_iff.1 (hsq ▸ Finset.single_le_sum (f := fun x => D x * D x) (fun x _ => square_nonneg (D x)) (mem_univ e))
    have hn : Ideal.ofBits .f32 0x43000000#32 = ((128 : ℝ) : EReal) := by
      simp [Ideal.ofBits, Ideal.ieee, -EReal.coe_mul]; norm_num
    have he : ∃ r : ℝ, Ideal.ofBits .f32 0x358637BD#32 = (r : EReal) := by
      simp only [Ideal.ofBits, Ideal.ieee]
      exact ⟨_, by norm_num; rfl⟩
    obtain ⟨r, he⟩ := he
    rw [hs, hn, he, Ideal.div_coe (by norm_num), EReal.top_mul_coe_of_pos (by norm_num), EReal.top_add_coe, Ideal.rsqrt_top]
    simp

/-! ## The two ways of reading the values -/

/-- The kernel's readout of one column of values: each map's weighted sum over its sum of weights, the second times `l` taken from
    the first. -/
def readApart (T0 T1 : Fin 8448 → EReal) (l : EReal) (V : Fin 8448 → EReal) : EReal :=
  Ideal.div (∑ i, V i * weight T0 i) (∑ i, weight T0 i) - l * Ideal.div (∑ i, V i * weight T1 i) (∑ i, weight T1 i)

/-- The reference's readout of one column of values: the sum of the values times the difference of the two softmaxes. -/
def readDiff (T0 T1 : Fin 8448 → EReal) (l : EReal) (V : Fin 8448 → EReal) : EReal :=
  ∑ i, V i * (Ideal.div (weight T0 i) (∑ j, weight T0 j) - l * Ideal.div (weight T1 i) (∑ j, weight T1 j))

/-- Zero over zero is minus infinity. -/
theorem div_zero_zero : Ideal.div 0 0 = (⊥ : EReal) := by simp [Ideal.div]

/-- For real values and a real coefficient, and any scores, the two readouts have the same norm: they are equal where both maps'
    sums of weights are positive, and elsewhere both rows become zero, or the map without weights has the coefficient zero. -/
theorem norm_read (T0 T1 : Fin 8448 → EReal) (l : ℝ) (V : Fin 128 → Fin 8448 → ℝ) (g : EReal) (e : Fin 128) :
    norm (fun x => readApart T0 T1 l fun i => ((V x i : ℝ) : EReal)) g e = norm (fun x => readDiff T0 T1 l fun i => ((V x i : ℝ) : EReal)) g e := by
  obtain ⟨u, hu, h0⟩ := weight_real T0
  obtain ⟨v, hv, h1⟩ := weight_real T1
  unfold readApart readDiff
  simp only [hu, hv, ← EReal.coe_mul, coe_sum]
  by_cases hU : ∑ i, u i = 0
  · have hz : ∀ i, u i = 0 := h0.resolve_left (not_not.2 hU)
    rw [norm_extreme, norm_extreme]
    · refine extreme_sum _ _ fun i => ?_
      rw [hU, hz i, EReal.coe_zero, div_zero_zero, EReal.bot_sub]
      exact extreme_mul _ (Or.inr rfl)
    · simp only [hz, mul_zero, Finset.sum_const_zero, EReal.coe_zero, div_zero_zero, EReal.bot_sub]
      exact Or.inr (Or.inr rfl)
  by_cases hV : ∑ i, v i = 0
  · have hz : ∀ i, v i = 0 := h1.resolve_left (not_not.2 hV)
    simp only [hz, mul_zero, Finset.sum_const_zero, EReal.coe_zero, div_zero_zero, div_real _ hU]
    rcases eq_or_ne l 0 with rfl | hl
    · refine congrArg (fun D => norm D g e) (funext fun x => ?_)
      simp only [EReal.coe_zero, zero_mul, sub_zero, ← EReal.coe_mul, coe_sum]
      refine EReal.coe_eq_coe_iff.2 ?_
      rw [Finset.sum_div]
      exact Finset.sum_congr rfl fun i _ => by ring
    · have hJ : ∀ a : ℝ, (a : EReal) - (l : EReal) * ⊥ = ⊤ ∨ (a : EReal) - (l : EReal) * ⊥ = ⊥ := fun a => by
        rcases lt_or_gt_of_ne hl with h | h
        · right; rw [EReal.coe_mul_bot_of_neg h, EReal.sub_top]
        · left; rw [EReal.coe_mul_bot_of_pos h, EReal.coe_sub_bot]
      rw [norm_extreme, norm_extreme]
      · exact extreme_sum _ _ fun i => extreme_mul _ (hJ _)
      · exact Or.inr (hJ _)
  · refine congrArg (fun D => norm D g e) (funext fun x => ?_)
    simp only [div_real _ hU, div_real _ hV, ← EReal.coe_mul, ← EReal.coe_sub, coe_sum]
    refine EReal.coe_eq_coe_iff.2 ?_
    rw [Finset.sum_div, Finset.sum_div, Finset.mul_sum, ← Finset.sum_sub_distrib]
    exact Finset.sum_congr rfl fun i _ => by ring

end Cert.Attn

end
-- ==== Proof.Kern.lean ====
module

public import proofs.«01_k».proof.Proof.State
public import proofs.«01_k».proof.Proof.Weights

@[expose] public section

set_option maxRecDepth 16384

noncomputable section

namespace Cert.KernelIdeal.Own

open Idealize.ShloMosaic Idealize.ShloMosaic.TcCoe Idealize.ShloMosaic.Tactic
open Cert.KernelIdeal Cert.KernelIdeal.Gen Cert.Attn

/-- The constant the maxima start from is minus infinity. -/
theorem neg_inf : Ideal.ofBits .f32 0xFF800000#32 = (⊥ : EReal) := by
  simp [Ideal.ofBits, Ideal.ieee]

/-- A chunk's largest score, read at a query. -/
theorem cmx_at (s : FVec Ideal S768x512 .f32) (w : Fin 512) :
    cmx s (ix2 0 w) = Finset.fold max (⊥ : EReal) (fun k : Fin 768 => s (ix2 k w)) Finset.univ := by
  pointwise [cmx]
  rw [neg_inf]

/-- A chunk's sum of weights, read at a query. -/
theorem cl_at (m : FVec Ideal S1x512 .f32) (s : FVec Ideal S768x512 .f32) (w : Fin 512) :
    cl m s (ix2 0 w) = ∑ k : Fin 768, Ideal.exp2 (s (ix2 k w) - m (ix2 0 w)) := by
  pointwise [cl, k0_pay11]
  rfl

/-- A chunk's weighted sum of values, read at a value column and a query. -/
theorem ca_at (m : FVec Ideal S1x512 .f32) (s : FVec Ideal S768x512 .f32) (v : Vec Ideal S1x128x768 .bf16) (e : Fin 128) (w : Fin 512) :
    ca m s v (ix2 e w) = ∑ k : Fin 768, v (ix3 0 e k) * Ideal.exp2 (s (ix2 k w) - m (ix2 0 w)) := by
  pointwise [ca, k0_pay11]
  rfl

/-- The sum of weights is the sum of the chunks' sums. -/
theorem lsum_eq (m : FVec Ideal S1x512 .f32) (s : Fin 11 → FVec Ideal S768x512 .f32) (w : Fin 512) :
    lsum m s (ix2 0 w) = ∑ n, cl m (s n) (ix2 0 w) := by
  simp only [Fin.sum_univ_succ, Fin.sum_univ_zero]
  pointwise [lsum]
  simp only [add_assoc, zero_add, add_zero]
  rfl

/-- The weighted sum of values is the sum of the chunks' sums. -/
theorem asum_eq (m : FVec Ideal S1x512 .f32) (s : Fin 11 → FVec Ideal S768x512 .f32) (v : Fin 11 → Vec Ideal S1x128x768 .bf16)
    (e : Fin 128) (w : Fin 512) : asum m s v (ix2 e w) = ∑ n, ca m (s n) (v n) (ix2 e w) := by
  simp only [Fin.sum_univ_succ, Fin.sum_univ_zero]
  pointwise [asum]
  simp only [add_assoc, zero_add, add_zero]
  rfl

/-- Each chunk's largest score is at most the largest of all. -/
theorem cmx_le (s : Fin 11 → FVec Ideal S768x512 .f32) (w : Fin 512) (n : Fin 11) : (cmx (s n) (ix2 0 w) : EReal) ≤ mx s (ix2 0 w) := by
  show (cmx (s n) (ix2 0 w) : EReal) ≤ max (max (max (max (max (max (max (max (max (max (cmx (s 0) (ix2 0 w)) (cmx (s 1) (ix2 0 w)))
    (cmx (s 2) (ix2 0 w))) (cmx (s 3) (ix2 0 w))) (cmx (s 4) (ix2 0 w))) (cmx (s 5) (ix2 0 w))) (cmx (s 6) (ix2 0 w))) (cmx (s 7) (ix2 0 w)))
    (cmx (s 8) (ix2 0 w))) (cmx (s 9) (ix2 0 w))) (cmx (s 10) (ix2 0 w))
  fin_cases n <;> simp [le_max_iff]

/-- A bound of each chunk's largest score is one of the largest of all. -/
theorem mx_le (s : Fin 11 → FVec Ideal S768x512 .f32) (w : Fin 512) (b : EReal) (h : ∀ n, (cmx (s n) (ix2 0 w) : EReal) ≤ b) :
    (mx s (ix2 0 w) : EReal) ≤ b :=
  max_le (max_le (max_le (max_le (max_le (max_le (max_le (max_le (max_le (max_le (h 0) (h 1)) (h 2)) (h 3)) (h 4)) (h 5)) (h 6)) (h 7)) (h 8)) (h 9)) (h 10)

section Heads

variable (s : Fin 11 → FVec Ideal S768x512 .f32) (v : Fin 11 → Vec Ideal S1x128x768 .bf16)
variable (T : Fin 8448 → EReal) (V : Fin 8448 → EReal) (w : Fin 512)

/-- The largest score over the chunks is the largest over the keys in the reference's order. -/
theorem mx_at (hs : ∀ n k, s n (ix2 k w) = T (row n k)) : mx s (ix2 0 w) = (Finset.univ : Finset (Fin 8448)).sup T := by
  have hc : ∀ n, (cmx (s n) (ix2 0 w) : EReal) = (Finset.univ : Finset (Fin 768)).sup fun k => T (row n k) := fun n => by
    rw [cmx_at]
    simp only [hs]
    rfl
  refine le_antisymm (mx_le s w _ fun n => ?_) (Finset.sup_le fun i _ => ?_)
  · rw [hc]
    exact Finset.sup_le fun k _ => Finset.le_sup (f := T) (Finset.mem_univ _)
  · obtain ⟨n, k, rfl⟩ := row_surj i
    refine le_trans ?_ (cmx_le s w n)
    rw [hc]
    exact Finset.le_sup (f := fun k => T (row n k)) (Finset.mem_univ k)

/-- The weighted sum of values over the sum of weights, in the reference's terms: the kernel's scores carry the factor
    `(1/8)/log 2`, its weights are powers of two, and they are the softmax's weights. -/
theorem head_at (hs : ∀ n k, s n (ix2 k w) = T (row n k) * (((1 / 8) * (Real.log 2)⁻¹ : ℝ) : EReal)) (e : Fin 128)
    (hv : ∀ n k, v n (ix3 0 e k) = V (row n k)) :
    Ideal.div (asum (mx s) s v (ix2 e w)) (lsum (mx s) s (ix2 0 w)) = Ideal.div (∑ i, V i * weight T i) (∑ i, weight T i) := by
  have hc : (0 : ℝ) ≤ (1 / 8) * (Real.log 2)⁻¹ := by
    have : 0 < Real.log 2 := Real.log_pos (by norm_num)
    positivity
  have hM : mx s (ix2 0 w) = (Finset.univ : Finset (Fin 8448)).sup T * (((1 / 8) * (Real.log 2)⁻¹ : ℝ) : EReal) :=
    (mx_at s (fun i => T i * (((1 / 8) * (Real.log 2)⁻¹ : ℝ) : EReal)) w hs).trans (sup_scale T hc)
  have hw : ∀ n k, Ideal.exp2 (s n (ix2 k w) - mx s (ix2 0 w)) = weight T (row n k) := fun n k => by
    rw [hs, hM]
    exact pow_eq_exp _ _
  have hl : lsum (mx s) s (ix2 0 w) = ∑ i, weight T i := by
    rw [lsum_eq, ← sum_rows]
    refine Finset.sum_congr rfl fun n _ => ?_
    rw [cl_at]
    exact Finset.sum_congr rfl fun k _ => hw n k
  have ha : asum (mx s) s v (ix2 e w) = ∑ i, V i * weight T i := by
    rw [asum_eq, ← sum_rows]
    refine Finset.sum_congr rfl fun n _ => ?_
    rw [ca_at]
    exact Finset.sum_congr rfl fun k _ => by rw [hw n k, hv]
  rw [ha, hl]

end Heads

/-- The kernel's mixing coefficient. -/
theorem lam_at (x0 : Vec Ideal S4x64 .f32) : k0_pay66 x0 (ix2 0 0) = lamOf fun a b => x0 (ix2 a b) := by
  pointwise [k0_pay66]
  rfl

/-- The closing payload, read at a query and a column: the difference of the two means, normalised. -/
theorem close_at (v15 : FVec Ideal S1x1 .f32) (l : FVec Ideal S1x512 .f32) (a : FVec Ideal S128x512 .f32) (g : Vec Ideal S128x1 .f32)
    (r : Fin 256) (e : Fin 128) :
    k0_pay9 v15 l a g (ix2 r e) = norm (fun x => Ideal.div (a (ix2 x ⟨r.val, by omega⟩)) (l (ix2 0 ⟨r.val, by omega⟩))
      - v15 (ix2 0 0) * Ideal.div (a (ix2 x ⟨256 + r.val, by omega⟩)) (l (ix2 0 ⟨256 + r.val, by omega⟩))) (g (ix2 e 0)) e := by
  pointwise [k0_pay9]
  rfl

/-- The scores of query tile `j` against key chunk `n`, read at a key and a query: the dot product of the rows, scaled. -/
theorem sc_at (x2 x3 : Vec Ideal S1x8192x128 .bf16) (x4 : Vec Ideal S1x8448x128 .bf16) (j : Fin 32) (n : Fin 11) (k : Fin 768) (w : Fin 512) :
    sc x2 x3 x4 j n (ix2 k w) = ∑ x : Fin 128, x4 (ix3 0 ⟨768 * n.val + k.val, by omega⟩ x)
      * ((if h : w.val < 256 then x2 (ix3 0 ⟨256 * j.val + w.val, by omega⟩ x) else x3 (ix3 0 ⟨256 * j.val + (w.val - 256), by omega⟩ x))
        * (((1 / 8) * (Real.log 2)⁻¹ : ℝ) : EReal)) := by
  pointwise [sc, k0_pay1, k0_pay10, qc, kc]
  rfl

/-- A value chunk, read at an index. -/
theorem vc_at (x5 : Vec Ideal S1x128x8448 .bf16) (n : Fin 11) (e : Fin 128) (k : Fin 768) :
    vc x5 n (ix3 0 e k) = x5 (ix3 0 e ⟨768 * n.val + k.val, by omega⟩) := by
  pointwise [vc]

end Cert.KernelIdeal.Own

end
-- ==== Proof.Tile.lean ====
module

public import proofs.«01_k».proof.Proof.Kern

@[expose] public section

set_option maxRecDepth 16384

noncomputable section

namespace Cert.KernelIdeal.Own

open Idealize.ShloMosaic Idealize.ShloMosaic.TcCoe Idealize.ShloMosaic.Tactic
open Cert.KernelIdeal Cert.KernelIdeal.Gen Cert.Attn

section Block

variable (x0 : Vec Ideal S4x64 .f32) (x1 : Vec Ideal S128x1 .f32) (x2 x3 : Vec Ideal S1x8192x128 .bf16) (x4 : Vec Ideal S1x8448x128 .bf16)
  (x5 : Vec Ideal S1x128x8448 .bf16)
variable (q0 q1 : Fin 8192 → Fin 64 → EReal) (K : Fin 2 → Fin 8448 → Fin 64 → EReal) (W : Fin 128 → Fin 8448 → ℝ)

/-- The scores of query tile `j`: columns below 256 are the first map's, the others the second's. -/
def tileScore (j : Fin 32) (w : Fin 512) (i : Fin 8448) : EReal :=
  if h : w.val < 256 then ∑ x, q0 ⟨256 * j.val + w.val, by omega⟩ x * K 0 i x
  else ∑ x, q1 ⟨256 * j.val + (w.val - 256), by omega⟩ x * K 1 i x

/-- Where the queries are padded with zeros on the other map's side, the body's scores are the scaled dot products of 64-column
    rows. -/
theorem score_at (hk : ∀ n k p x, x4 (ix3 0 (⟨768 * n.val + k.val, by have := n.isLt; have := k.isLt; omega⟩ : Fin 8448)
      (⟨64 * p.val + x.val, by have := p.isLt; have := x.isLt; omega⟩ : Fin 128)) = K p (row n k) x)
    (h2 : ∀ s x, x2 (ix3 0 s x) = if h : x.val < 64 then q0 s ⟨x.val, h⟩ else 0)
    (h3 : ∀ s x, x3 (ix3 0 s x) = if h : x.val < 64 then (0 : EReal) else q1 s ⟨x.val - 64, by have := x.isLt; omega⟩)
    (j : Fin 32) (n : Fin 11) (k : Fin 768) (w : Fin 512) :
    sc x2 x3 x4 j n (ix2 k w) = tileScore q0 q1 K j w (row n k) * (((1 / 8) * (Real.log 2)⁻¹ : ℝ) : EReal) := by
  have hc : (0 : ℝ) ≤ (1 / 8) * (Real.log 2)⁻¹ := by
    have : 0 < Real.log 2 := Real.log_pos (by norm_num)
    positivity
  have k0 : ∀ x : Fin 64, x4 (ix3 0 (⟨768 * n.val + k.val, by have := n.isLt; have := k.isLt; omega⟩ : Fin 8448)
      (⟨x.val, by have := x.isLt; omega⟩ : Fin 128)) = K 0 (row n k) x := fun x => by
    rw [← hk n k 0 x]; congr 2; ext; simp
  have k1 : ∀ x : Fin 64, x4 (ix3 0 (⟨768 * n.val + k.val, by have := n.isLt; have := k.isLt; omega⟩ : Fin 8448)
      (⟨64 + x.val, by have := x.isLt; omega⟩ : Fin 128)) = K 1 (row n k) x := fun x => by
    rw [← hk n k 1 x]; congr 2
  rw [sc_at, sum_halves]
  unfold tileScore
  by_cases h : w.val < 256
  · simp only [dif_pos h, h2, k0, k1]
    have e1 : ∀ x : Fin 64, (if h : 64 + x.val < 64 then q0 ⟨256 * j.val + w.val, by omega⟩ ⟨64 + x.val, h⟩ else 0) = 0 :=
      fun x => dif_neg (by omega)
    have e0 : ∀ x : Fin 64, (if h : x.val < 64 then q0 ⟨256 * j.val + w.val, by omega⟩ ⟨x.val, h⟩ else 0)
        = q0 ⟨256 * j.val + w.val, by omega⟩ x := fun x => dif_pos x.isLt
    simp only [e0, e1, zero_mul, mul_zero, Finset.sum_const_zero, add_zero]
    rw [sum_scale _ _ hc]
    exact Finset.sum_congr rfl fun x _ => by rw [← mul_assoc, mul_comm (K 0 _ _)]
  · simp only [dif_neg h, h3, k0, k1]
    have e1 : ∀ x : Fin 64, (if h : 64 + x.val < 64 then (0 : EReal) else q1 ⟨256 * j.val + (w.val - 256), by omega⟩ ⟨64 + x.val - 64, by omega⟩)
        = q1 ⟨256 * j.val + (w.val - 256), by omega⟩ x := fun x => by
      rw [dif_neg (by omega)]; congr 1; ext; simp
    have e0 : ∀ x : Fin 64, (if h : x.val < 64 then (0 : EReal) else q1 ⟨256 * j.val + (w.val - 256), by omega⟩ ⟨x.val - 64, by omega⟩) = 0 :=
      fun x => dif_pos x.isLt
    simp only [e0, e1, zero_mul, mul_zero, Finset.sum_const_zero, zero_add]
    rw [sum_scale _ _ hc]
    exact Finset.sum_congr rfl fun x _ => by rw [← mul_assoc, mul_comm (K 1 _ _)]

/-- Where the queries are padded so, the values are real and so is the mixing coefficient, a tile of the output is the normalised
    differential readout. -/
theorem otile_at (hk : ∀ n k p x, x4 (ix3 0 (⟨768 * n.val + k.val, by have := n.isLt; have := k.isLt; omega⟩ : Fin 8448)
      (⟨64 * p.val + x.val, by have := p.isLt; have := x.isLt; omega⟩ : Fin 128)) = K p (row n k) x)
    (h2 : ∀ s x, x2 (ix3 0 s x) = if h : x.val < 64 then q0 s ⟨x.val, h⟩ else 0)
    (h3 : ∀ s x, x3 (ix3 0 s x) = if h : x.val < 64 then (0 : EReal) else q1 s ⟨x.val - 64, by have := x.isLt; omega⟩)
    (hv : ∀ n e k, x5 (ix3 0 e (⟨768 * n.val + k.val, by have := n.isLt; have := k.isLt; omega⟩ : Fin 8448)) = ((W e (row n k) : ℝ) : EReal))
    (l : ℝ) (hl : lamOf (fun a b => x0 (ix2 a b)) = l) (j : Fin 32) (r : Fin 256) (e : Fin 128) :
    otile x0 x1 x2 x3 x4 x5 j (ix2 r e) = norm (fun x => readDiff (fun i => ∑ y, q0 ⟨256 * j.val + r.val, by omega⟩ y * K 0 i y)
      (fun i => ∑ y, q1 ⟨256 * j.val + r.val, by omega⟩ y * K 1 i y) l (fun i => ((W x i : ℝ) : EReal))) (x1 (ix2 e 0)) e := by
  have hs := score_at x2 x3 x4 q0 q1 K hk h2 h3 j
  have hv' : ∀ n e k, vc x5 n (ix3 0 e k) = ((W e (row n k) : ℝ) : EReal) := fun n e k => by rw [vc_at, hv]
  have t0 : tileScore q0 q1 K j ⟨r.val, by omega⟩ = fun i => ∑ y, q0 ⟨256 * j.val + r.val, by omega⟩ y * K 0 i y := by
    funext i
    unfold tileScore
    rw [dif_pos r.isLt]
  have t1 : tileScore q0 q1 K j ⟨256 + r.val, by omega⟩ = fun i => ∑ y, q1 ⟨256 * j.val + r.val, by omega⟩ y * K 1 i y := by
    funext i
    unfold tileScore
    rw [dif_neg (by simp)]
    refine Finset.sum_congr rfl fun y _ => ?_
    congr 3; simp
  rw [← norm_read, ← t0, ← t1]
  unfold otile
  rw [close_at, lam_at, hl]
  refine congrArg (fun D => norm D _ e) (funext fun x => ?_)
  unfold readApart
  rw [head_at (sc x2 x3 x4 j) (vc x5) _ (fun i => ((W x i : ℝ) : EReal)) ⟨r.val, by omega⟩ (fun n k => hs n k _) x (fun n k => hv' n x k),
    head_at (sc x2 x3 x4 j) (vc x5) _ (fun i => ((W x i : ℝ) : EReal)) ⟨256 + r.val, by omega⟩ (fun n k => hs n k _) x (fun n k => hv' n x k)]

end Block

end Cert.KernelIdeal.Own

end
-- ==== Proof.Arrays.lean ====
module

public import proofs.«01_k».proof.Proof.Kern
public import Idealize.ShloMosaic.Lib.Pipeline.Value

@[expose] public section

set_option maxRecDepth 16384

noncomputable section

namespace Cert.KernelIdeal.Own

open Idealize.ShloMosaic Idealize.ShloMosaic.TcCoe Idealize.ShloMosaic.Tactic Idealize.SL.Sem
open Idealize.ShloMosaic.Pipeline (Dat)
open Cert.KernelIdeal Cert.KernelIdeal.Gen Cert.Attn

/-! ## The arrays the region finds, as functions of the arguments -/

section Arrays
variable {F : FTy → Type} [FloatOps F]

/-- The queries' rows, latents then context. -/
def qRows (a0 : FVec F S2x8192x8x2x64 .f32) (a1 : FVec F S2x256x8x2x64 .f32) : FVec F S2x8448x8x2x64 .f32 :=
  concatenate S2x8448x8x2x64 1 [⟨S2x8192x8x2x64, a0⟩, ⟨S2x256x8x2x64, a1⟩] concatenates_S2x8192x8x2x64_S2x256x8x2x64_S2x8448x8x2x64_d1

/-- One map's 64 columns of the queries, map 0. -/
def qMap0 (r : FVec F S2x8448x8x2x64 .f32) : FVec F S2x8448x8x64 .f32 :=
  shapeCast S2x8448x8x64 (extractStridedSlice S2x8448x8x1x64 ![0, 0, 0, 0, 0] r slices_S2x8448x8x2x64_S2x8448x8x1x64_0_0_0_0_0) shapeCasts_S2x8448x8x1x64_S2x8448x8x64

/-- One map's 64 columns of the queries, map 1. -/
def qMap1 (r : FVec F S2x8448x8x2x64 .f32) : FVec F S2x8448x8x64 .f32 :=
  shapeCast S2x8448x8x64 (extractStridedSlice S2x8448x8x1x64 ![0, 0, 0, 1, 0] r slices_S2x8448x8x2x64_S2x8448x8x1x64_0_0_0_1_0) shapeCasts_S2x8448x8x1x64_S2x8448x8x64

/-- Sixty-four columns of zeros. -/
def zeros : FVec F S2x8448x8x64 .f32 := broadcastInDim S2x8448x8x64 ![] bcast_S_S2x8448x8x64 (constant S_ .f32 0x00000000#32)

/-- Two 64-column arrays side by side. -/
def beside (x y : FVec F S2x8448x8x64 .f32) : FVec F S2x8448x8x128 .f32 :=
  concatenate S2x8448x8x128 3 [⟨S2x8448x8x64, x⟩, ⟨S2x8448x8x64, y⟩] concatenates_S2x8448x8x64_S2x8448x8x64_S2x8448x8x128_d3

/-- Two arrays stacked on a new axis. -/
def stacked (x y : FVec F S2x8448x8x128 .f32) : FVec F S2x8448x8x2x128 .f32 :=
  concatenate S2x8448x8x2x128 3
    [⟨S2x8448x8x1x128, broadcastInDim S2x8448x8x1x128 ![0, 1, 2, 4] bcast_S2x8448x8x128_S2x8448x8x1x128_0_1_2_4 x⟩,
     ⟨S2x8448x8x1x128, broadcastInDim S2x8448x8x1x128 ![0, 1, 2, 4] bcast_S2x8448x8x128_S2x8448x8x1x128_0_1_2_4 y⟩]
    concatenates_S2x8448x8x1x128_S2x8448x8x1x128_S2x8448x8x2x128_d3

/-- The queries as the kernel takes them: latent rows first, each head's two halves padded with zeros to 128 columns. -/
def qArr (a0 : FVec F S2x8192x8x2x64 .f32) (a1 : FVec F S2x256x8x2x64 .f32) : FVec F S2x8448x2048 .bf16 :=
  truncf .bf16 (shapeCast S2x8448x2048 (stacked (beside (qMap0 (qRows a0 a1)) zeros) (beside zeros (qMap1 (qRows a0 a1))))
    shapeCasts_S2x8448x8x2x128_S2x8448x2048) bitsLt_bf16_f32

/-- The keys' rows, latents then context. -/
def kArr (a2 : FVec F S2x8192x8x2x64 .f32) (a3 : FVec F S2x256x8x2x64 .f32) : FVec F S2x8448x1024 .bf16 :=
  truncf .bf16 (shapeCast S2x8448x1024 (qRows a2 a3) shapeCasts_S2x8448x8x2x64_S2x8448x1024) bitsLt_bf16_f32

/-- The values' rows, latents then context. -/
def vRows (a4 : FVec F S2x8192x8x128 .f32) (a5 : FVec F S2x256x8x128 .f32) : FVec F S2x8448x8x128 .f32 :=
  concatenate S2x8448x8x128 1 [⟨S2x8192x8x128, a4⟩, ⟨S2x256x8x128, a5⟩] concatenates_S2x8192x8x128_S2x256x8x128_S2x8448x8x128_d1

/-- The values as the kernel takes them: latent rows first, transposed. -/
def vArr (a4 : FVec F S2x8192x8x128 .f32) (a5 : FVec F S2x256x8x128 .f32) : FVec F S2x1024x8448 .bf16 :=
  truncf .bf16 (transpose S2x1024x8448 [0, 2, 1] (shapeCast S2x8448x1024 (vRows a4 a5) shapeCasts_S2x8448x8x128_S2x8448x1024)
    transposes_S2x8448x1024_S2x1024x8448_0_2_1) bitsLt_bf16_f32

end Arrays

/-- Rounding to bf16 changes nothing over the extended reals. -/
theorem truncf_at {s : Shape} (x : FVec Ideal s .f32) (j : s.Idx) : (truncf .bf16 x bitsLt_bf16_f32 : FVec Ideal s .bf16) j = x j := rfl

/-- The queries' rows at an index. -/
theorem qRows_at (a2 : FVec Ideal S2x8192x8x2x64 .f32) (a3 : FVec Ideal S2x256x8x2x64 .f32) (b : Fin 2) (i : Fin 8448) (h : Fin 8) (p : Fin 2) (x : Fin 64) :
    qRows a2 a3 (ix5 b i h p x) = if hi : i.val < 8192 then a2 (ix5 b ⟨i.val, hi⟩ h p x) else a3 (ix5 b ⟨i.val - 8192, by omega⟩ h p x) := by
  pointwise [qRows]

/-- The values' rows at an index. -/
theorem vRows_at (a2 : FVec Ideal S2x8192x8x128 .f32) (a3 : FVec Ideal S2x256x8x128 .f32) (b : Fin 2) (i : Fin 8448) (h : Fin 8) (x : Fin 128) :
    vRows a2 a3 (ix4 b i h x) = if hi : i.val < 8192 then a2 (ix4 b ⟨i.val, hi⟩ h x) else a3 (ix4 b ⟨i.val - 8192, by omega⟩ h x) := by
  pointwise [vRows]

/-- The first map's columns at an index. -/
theorem qMap0_at (r : FVec Ideal S2x8448x8x2x64 .f32) (b : Fin 2) (i : Fin 8448) (h : Fin 8) (x : Fin 64) :
    qMap0 r (ix4 b i h x) = r (ix5 b i h 0 x) := by
  pointwise [qMap0]

/-- The second map's columns at an index. -/
theorem qMap1_at (r : FVec Ideal S2x8448x8x2x64 .f32) (b : Fin 2) (i : Fin 8448) (h : Fin 8) (x : Fin 64) :
    qMap1 r (ix4 b i h x) = r (ix5 b i h 1 x) := by
  pointwise [qMap1]

/-- The zero columns at an index. -/
theorem zeros_at (j : S2x8448x8x64.Idx) : (zeros : FVec Ideal S2x8448x8x64 .f32) j = (0 : EReal) := by
  pointwise [zeros]

/-- Two arrays side by side at an index. -/
theorem beside_at (u v : FVec Ideal S2x8448x8x64 .f32) (b : Fin 2) (i : Fin 8448) (h : Fin 8) (x : Fin 128) :
    beside u v (ix4 b i h x) = if hx : x.val < 64 then u (ix4 b i h ⟨x.val, hx⟩) else v (ix4 b i h ⟨x.val - 64, by omega⟩) := by
  pointwise [beside]

/-- The stacked arrays at the first place. -/
theorem stacked_at0 (u v : FVec Ideal S2x8448x8x128 .f32) (b : Fin 2) (i : Fin 8448) (h : Fin 8) (x : Fin 128) :
    stacked u v (ix5 b i h 0 x) = u (ix4 b i h x) := by
  pointwise [stacked]

/-- The stacked arrays at the second place. -/
theorem stacked_at1 (u v : FVec Ideal S2x8448x8x128 .f32) (b : Fin 2) (i : Fin 8448) (h : Fin 8) (x : Fin 128) :
    stacked u v (ix5 b i h 1 x) = v (ix4 b i h x) := by
  pointwise [stacked]

/-- The queries as the kernel takes them, at a head's place. -/
theorem qArr_at (a0 : FVec Ideal S2x8192x8x2x64 .f32) (a1 : FVec Ideal S2x256x8x2x64 .f32) (b : Fin 2) (i : Fin 8448) (h : Fin 8) (p : Fin 2) (x : Fin 128)
    (y : Fin 2048) (hy : y.val = h.val * 256 + p.val * 128 + x.val) :
    qArr a0 a1 (ix3 b i y) = stacked (beside (qMap0 (qRows a0 a1)) zeros) (beside zeros (qMap1 (qRows a0 a1))) (ix5 b i h p x) := by
  refine (truncf_at _ _).trans (shapeCast_apply _ _ (ix3 b i y) (ix5 b i h p x) ?_)
  rw [Shape.rowMajor_val_five, Shape.rowMajor_val_three]
  show (((b.val * 8448 + i.val) * 8 + h.val) * 2 + p.val) * 128 + x.val = (b.val * 8448 + i.val) * 2048 + y.val
  omega

/-- The keys as the kernel takes them, at a head's place. -/
theorem kArr_at (a0 : FVec Ideal S2x8192x8x2x64 .f32) (a1 : FVec Ideal S2x256x8x2x64 .f32) (b : Fin 2) (i : Fin 8448) (h : Fin 8) (p : Fin 2) (x : Fin 64)
    (y : Fin 1024) (hy : y.val = h.val * 128 + p.val * 64 + x.val) :
    kArr a0 a1 (ix3 b i y) = qRows a0 a1 (ix5 b i h p x) := by
  refine (truncf_at _ _).trans (shapeCast_apply _ _ (ix3 b i y) (ix5 b i h p x) ?_)
  rw [Shape.rowMajor_val_five, Shape.rowMajor_val_three]
  show (((b.val * 8448 + i.val) * 8 + h.val) * 2 + p.val) * 64 + x.val = (b.val * 8448 + i.val) * 1024 + y.val
  omega

/-- A transposed array at an index. -/
theorem swapped_at (z : FVec Ideal S2x8448x1024 .f32) (b : Fin 2) (i : Fin 8448) (y : Fin 1024) :
    transpose S2x1024x8448 [0, 2, 1] z transposes_S2x8448x1024_S2x1024x8448_0_2_1 (ix3 b y i) = z (ix3 b i y) := by
  pointwise

/-- The values' rows, head beside head, at an index. -/
theorem vCast_at (z : FVec Ideal S2x8448x8x128 .f32) (b : Fin 2) (i : Fin 8448) (h : Fin 8) (x : Fin 128)
    (y : Fin 1024) (hy : y.val = h.val * 128 + x.val) :
    shapeCast S2x8448x1024 z shapeCasts_S2x8448x8x128_S2x8448x1024 (ix3 b i y) = z (ix4 b i h x) := by
  refine shapeCast_apply _ _ (ix3 b i y) (ix4 b i h x) ?_
  rw [Shape.rowMajor_val_four, Shape.rowMajor_val_three]
  show ((b.val * 8448 + i.val) * 8 + h.val) * 128 + x.val = (b.val * 8448 + i.val) * 1024 + y.val
  omega

/-- The values as the kernel takes them, at a head's place. -/
theorem vArr_at (a0 : FVec Ideal S2x8192x8x128 .f32) (a1 : FVec Ideal S2x256x8x128 .f32) (b : Fin 2) (i : Fin 8448) (h : Fin 8) (x : Fin 128)
    (y : Fin 1024) (hy : y.val = h.val * 128 + x.val) :
    vArr a0 a1 (ix3 b y i) = vRows a0 a1 (ix4 b i h x) :=
  (truncf_at _ _).trans ((swapped_at _ b i y).trans (vCast_at _ b i h x y hy))

end Cert.KernelIdeal.Own

end
-- ==== Proof.Run.lean ====
module

public import proofs.«01_k».proof.Proof.State
public import Idealize.ShloMosaic.Lib.Claim

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The output block after the body at point `t`, computed from the point's six input blocks. -/
def outAt (c : Dev nD) (t : Fin cfg0.N) : Vec F S8192x128 .bf16 :=
  oblk (iblk m c 0 t) (iblk m c 1 t) (X0_2 m c t) (X0_3 m c t) (iblk m c 4 t) (iblk m c 5 t)

/-- The pipeline's proof data: every input's buffer keeps its block, the output's holds `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => X0_3 m c t
    | ⟨4, _⟩ => iblk m c 4 t
    | ⟨5, _⟩ => iblk m c 5 t
    | ⟨6, _⟩ => outAt m c t
  Φ _ := Pipeline.ΦA spec0 c
  q w := Pipeline.shareOf spec0 w
  owed _ := 0

/-- The proof data's arrays are what the region finds. -/
theorem dats_A (c : Dev nD) (w : Fin cfg0.W) : (dats m 0 c).A w = V m c (Pipeline.arrRef spec0 w) := by
  dsimp only [dats]

/-- The body leaves the mixing coefficient's rows as they were. -/
theorem after_0 (c : Dev nD) (t : Fin cfg0.N) : (dats m 0 c).after 0 t = iblk m c 0 t := by dsimp only [dats]
/-- The body leaves the norm's scale as it was. -/
theorem after_1 (c : Dev nD) (t : Fin cfg0.N) : (dats m 0 c).after 1 t = iblk m c 1 t := by dsimp only [dats]
/-- The body leaves the first map's queries as they were. -/
theorem after_2 (c : Dev nD) (t : Fin cfg0.N) : (dats m 0 c).after 2 t = X0_2 m c t := by dsimp only [dats]
/-- The body leaves the second map's queries as they were. -/
theorem after_3 (c : Dev nD) (t : Fin cfg0.N) : (dats m 0 c).after 3 t = X0_3 m c t := by dsimp only [dats]
/-- The body leaves the keys as they were. -/
theorem after_4 (c : Dev nD) (t : Fin cfg0.N) : (dats m 0 c).after 4 t = iblk m c 4 t := by dsimp only [dats]
/-- The body leaves the values as they were. -/
theorem after_5 (c : Dev nD) (t : Fin cfg0.N) : (dats m 0 c).after 5 t = iblk m c 5 t := by dsimp only [dats]
/-- The body leaves the finished block in the output's buffer. -/
theorem after_6 (c : Dev nD) (t : Fin cfg0.N) : (dats m 0 c).after 6 t = outAt m c t := by dsimp only [dats]

/-- What the body is called with at point `t`: the invariant, what the core owes, and the seven buffers. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body returns at point `t`. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: from the point's blocks it leaves the output block `outAt`. -/
theorem body_at (c : Dev nD) (t : Fin cfg0.N) :
    pre m c t ⊢ wp frame (wpE (defs₀ (F := F)) Variants.none c none) Set.univ (bodyAt0 t) (fun _ => post m c t) := by
  have b0 := before0_0_of m (dats m 0 c) (dats_A m c 0) (after_0 m c) t
  have b1 := before0_1_of m (dats m 0 c) (dats_A m c 1) (after_1 m c) t
  have b2 := before0_2_of m (dats m 0 c) (dats_A m c 2) (after_2 m c) t
  have b3 := before0_3_of m (dats m 0 c) (dats_A m c 3) (after_3 m c) t
  have b4 := before0_4_of m (dats m 0 c) (dats_A m c 4) (after_4 m c) t
  have b5 := before0_5_of m (dats m 0 c) (dats_A m c 5) (after_5 m c) t
  unfold pre post bodyAt0
  simp only [b0, b1, b2, b3, b4, b5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply ((bodyRun c (grid0.coords t) _ _ _ _ _ _ _ _ _ _ _ _ _ _ _ _ (iblk m c 0 t) (iblk m c 1 t) (X0_2 m c t) (X0_3 m c t) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  iintro ⟨H0, H1, H2, H3, H4, H5, ⟨%e6, %g6, H6⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro
  exact read_bodyRun c (grid0.coords t) _ _ _ _ _ _ _ _ _ _ _ _ _ _ _ _ _ _ _ _ _ _ e6 g6

/-- The body table's row at point `t`'s slots is the body. -/
theorem row (t : Fin cfg0.N) : defs₀ (F := F) .tc cfg0.body (cfg0.bodyArgs t (cfg0.slots t)) = bodyAt0 t := by
  unfold defs₀; rw [Defs.onTc_tc]

/-- The pipeline's obligation about the body, at every point. -/
theorem obligation (c : Dev nD) : BodyObligation (dats (F := F) m 0 c) (defs₀ (F := F)) Variants.none () Set.univ := fun t => by
  rw [bigSep_W0, bigSep_W0, row]
  exact triple_restated (body_at m c t) rfl .rfl fun _ => .rfl

set_option backward.isDefEq.respectTransparency.types false in
/-- From any memory with zero counters every execution of the kernel's program ends, with every array of the pipeline
    as the proof data say, every other buffer as the region found it, and every semaphore counter at zero. -/
theorem runs : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := dats_A m) (hΦ := fun _ _ => rfl)

/-- The same without the counters. -/
theorem runs_post : θ_run defs (onTc (τ := τ) (main (F := F))) (s₀ m ρ) (Pipeline.FramePost cfgs (dats m) 0 (V m)) :=
  (θ_run defs _ _).mono (fun _ h => h.1) (runs m ρ)

/-- The kernel runs, leaves its eight argument arrays as they were, and ends with every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (dats_A m) (runs_post m ρ)) ((θ_run defs _ _).mono (fun _ h => h.2) (runs m ρ))

end Cert.KernelIdeal.Own

end
-- ==== Proof.Value.lean ====
module

public import proofs.«01_k».proof.Proof.Tile
public import proofs.«01_k».proof.Proof.Arrays
public import proofs.«01_k».proof.Proof.Run
public import Idealize.ShloMosaic.Lib.Pipeline.ValueKit
public import Idealize.ShloMosaic.Lib.Pipeline.Value

@[expose] public section

set_option maxRecDepth 16384

noncomputable section

namespace Cert.KernelIdeal.Own

open Idealize.ShloMosaic Idealize.ShloMosaic.TcCoe Idealize.ShloMosaic.Tactic Idealize.SL.Sem
open Idealize.ShloMosaic.Pipeline (Dat)
open Cert.KernelIdeal Cert.KernelIdeal.Gen Cert.Attn

variable (m : (ℓ : Loc nD τ sig) → Buf (Elt Ideal) ℓ)

/-- The windows' block indices at every grid point. -/
theorem idx (t : Fin cfg0.N) : win0_0.index t = ![0, 0] ∧ win0_1.index t = ![0, 0]
    ∧ win0_2.index t = ![t.val / 8, 0, 2 * (t.val % 8)] ∧ win0_3.index t = ![t.val / 8, 0, 2 * (t.val % 8) + 1]
    ∧ win0_4.index t = ![t.val / 8, 0, t.val % 8] ∧ win0_5.index t = ![t.val / 8, t.val % 8, 0]
    ∧ win0_6.index t = ![t.val / 8, t.val % 8] :=
  (by decide +kernel : ∀ t : Fin grid0.N, win0_0.index t = ![0, 0] ∧ win0_1.index t = ![0, 0]
    ∧ win0_2.index t = ![t.val / 8, 0, 2 * (t.val % 8)] ∧ win0_3.index t = ![t.val / 8, 0, 2 * (t.val % 8) + 1]
    ∧ win0_4.index t = ![t.val / 8, 0, t.val % 8] ∧ win0_5.index t = ![t.val / 8, t.val % 8, 0]
    ∧ win0_6.index t = ![t.val / 8, t.val % 8]) t

/-- The grid point of batch `b` and head `h`. -/
def pt (b : Fin 2) (h : Fin 8) : Fin cfg0.N := ⟨b.val * 8 + h.val, by show b.val * 8 + h.val < 16; omega⟩

/-- A grid point's quotient by eight is its batch. -/
theorem pt_div (b : Fin 2) (h : Fin 8) : (pt b h).val / 8 = b.val := by show (b.val * 8 + h.val) / 8 = _; omega
/-- A grid point's remainder by eight is its head. -/
theorem pt_mod (b : Fin 2) (h : Fin 8) : (pt b h).val % 8 = h.val := by show (b.val * 8 + h.val) % 8 = _; omega

/-! ## What the region finds in the staged arrays -/

/-- The region finds the staged queries, made from the first two arguments. -/
theorem V_q (c : Dev nD) : (V m c main_v12 : FVec Ideal S2x8448x2048 .bf16)
    = qArr (F := Ideal) (m ((c : Thread nD τ).loc main_arg0)) (m ((c : Thread nD τ).loc main_arg1)) := by
  entry_read
  rfl
/-- The region finds the staged keys, made from the third and fourth arguments. -/
theorem V_k (c : Dev nD) : (V m c main_v15 : FVec Ideal S2x8448x1024 .bf16)
    = kArr (F := Ideal) (m ((c : Thread nD τ).loc main_arg2)) (m ((c : Thread nD τ).loc main_arg3)) := by
  entry_read
  rfl
/-- The region finds the staged values, made from the fifth and sixth arguments. -/
theorem V_v (c : Dev nD) : (V m c main_v19 : FVec Ideal S2x1024x8448 .bf16)
    = vArr (F := Ideal) (m ((c : Thread nD τ).loc main_arg4)) (m ((c : Thread nD τ).loc main_arg5)) := by
  entry_read
  rfl
/-- The region finds the norm's scale as a column. -/
theorem V_g (c : Dev nD) (e : Fin 128) : V m c main_v20 (ix2 e 0) = m ((c : Thread nD τ).loc main_arg7) (ix1 e) := by
  entry_read
  pointwise

/-! ## The blocks at a grid point -/

/-- Window 0's block is the whole array of the mixing coefficient's rows. -/
theorem blk0 (c : Dev nD) (t : Fin cfg0.N) (i : Fin 4) (x : Fin 64) :
    iblk m c 0 t (ix2 i x) = m ((c : Thread nD τ).loc main_arg6) (ix2 i x) := by
  blk_ext [iblk, V, idx t]

/-- Window 1's block is the whole column of scales. -/
theorem blk1 (c : Dev nD) (t : Fin cfg0.N) (e : Fin 128) :
    iblk m c 1 t (ix2 e 0) = m ((c : Thread nD τ).loc main_arg7) (ix1 e) := by
  refine Eq.trans ?_ (V_g m c e)
  show V m c main_v20 _ = V m c main_v20 _
  generalize V m c main_v20 = X
  blk_ext [idx t]

/-- Window 4's block at a head, of any contents. -/
theorem rd4 (X : FVec Ideal S2x8448x1024 .bf16) (b : Fin 2) (h : Fin 8) (i : Fin 8448) (x : Fin 128) :
    ((cfg0.win 4).blk (pt b h)).view.read (Elt Ideal) X (ix3 0 i x) = X (ix3 b i ⟨h.val * 128 + x.val, by omega⟩) := by
  have := pt_div b h
  have := pt_mod b h
  blk_ext [idx (pt b h)]

/-- Window 5's block at a head, of any contents. -/
theorem rd5 (X : FVec Ideal S2x1024x8448 .bf16) (b : Fin 2) (h : Fin 8) (i : Fin 8448) (x : Fin 128) :
    ((cfg0.win 5).blk (pt b h)).view.read (Elt Ideal) X (ix3 0 x i) = X (ix3 b ⟨h.val * 128 + x.val, by omega⟩ i) := by
  have := pt_div b h
  have := pt_mod b h
  blk_ext [idx (pt b h)]

/-- Window 2's block at a head, of any contents, over any buffer. -/
theorem rd2 (X : FVec Ideal S2x8448x2048 .bf16) (d : Vec Ideal S1x8192x128 .bf16) (b : Fin 2) (h : Fin 8) (s : Fin 8192) (x : Fin 128) :
    (cfg0.win 2).fill (grid0.coords (pt b h)) d (((cfg0.win 2).blk (pt b h)).view.read (Elt Ideal) X) (ix3 0 s x)
      = X (ix3 b ⟨s.val, by omega⟩ ⟨h.val * 256 + x.val, by omega⟩) := by
  have := pt_div b h
  have := pt_mod b h
  unfold Pipeline.Window.fill
  rw [dif_pos (moved0_2 (pt b h) _)]
  blk_ext [idx (pt b h)]

/-- Window 3's block at a head, of any contents, over any buffer. -/
theorem rd3 (X : FVec Ideal S2x8448x2048 .bf16) (d : Vec Ideal S1x8192x128 .bf16) (b : Fin 2) (h : Fin 8) (s : Fin 8192) (x : Fin 128) :
    (cfg0.win 3).fill (grid0.coords (pt b h)) d (((cfg0.win 3).blk (pt b h)).view.read (Elt Ideal) X) (ix3 0 s x)
      = X (ix3 b ⟨s.val, by omega⟩ ⟨h.val * 256 + 128 + x.val, by omega⟩) := by
  have := pt_div b h
  have := pt_mod b h
  unfold Pipeline.Window.fill
  rw [dif_pos (moved0_3 (pt b h) _)]
  blk_ext [idx (pt b h)]

/-- Window 2's block: the first map's padded columns of the point's head. -/
theorem blk2 (c : Dev nD) (b : Fin 2) (h : Fin 8) (s : Fin 8192) (x : Fin 128) :
    X0_2 m c (pt b h) (ix3 0 s x) = qArr (F := Ideal) (m ((c : Thread nD τ).loc main_arg0)) (m ((c : Thread nD τ).loc main_arg1))
      (ix3 b ⟨s.val, by omega⟩ ⟨h.val * 256 + x.val, by omega⟩) :=
  (rd2 _ _ b h s x).trans (congrFun (V_q m c) _)

/-- Window 3's block: the second map's padded columns of the point's head. -/
theorem blk3 (c : Dev nD) (b : Fin 2) (h : Fin 8) (s : Fin 8192) (x : Fin 128) :
    X0_3 m c (pt b h) (ix3 0 s x) = qArr (F := Ideal) (m ((c : Thread nD τ).loc main_arg0)) (m ((c : Thread nD τ).loc main_arg1))
      (ix3 b ⟨s.val, by omega⟩ ⟨h.val * 256 + 128 + x.val, by omega⟩) :=
  (rd3 _ _ b h s x).trans (congrFun (V_q m c) _)

/-- Window 4's block: the keys of the point's head. -/
theorem blk4 (c : Dev nD) (b : Fin 2) (h : Fin 8) (i : Fin 8448) (x : Fin 128) :
    iblk m c 4 (pt b h) (ix3 0 i x) = kArr (F := Ideal) (m ((c : Thread nD τ).loc main_arg2)) (m ((c : Thread nD τ).loc main_arg3))
      (ix3 b i ⟨h.val * 128 + x.val, by omega⟩) :=
  (rd4 _ b h i x).trans (congrFun (V_k m c) _)

/-- Window 5's block: the transposed values of the point's head. -/
theorem blk5 (c : Dev nD) (b : Fin 2) (h : Fin 8) (i : Fin 8448) (x : Fin 128) :
    iblk m c 5 (pt b h) (ix3 0 x i) = vArr (F := Ideal) (m ((c : Thread nD τ).loc main_arg4)) (m ((c : Thread nD τ).loc main_arg5))
      (ix3 b ⟨h.val * 128 + x.val, by omega⟩ i) :=
  (rd5 _ b h i x).trans (congrFun (V_v m c) _)

/-! ## The output array after the run -/

/-- Different grid points write different blocks. -/
theorem idx_inj6 : ∀ t t' : Fin cfg0.N, win0_6.index t = win0_6.index t' → t = t' :=
  (by decide +kernel : ∀ t t' : Fin grid0.N, win0_6.index t = win0_6.index t' → t = t')

/-- The blocks share no element. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- The output array after the run, at an index of the block that the point of `b` and `h` wrote. -/
theorem out_at (c : Dev nD) (b : Fin 2) (h : Fin 8) (s : Fin 8192) (e : Fin 128) :
    ((dats m 0 c).arrAt 6 cfg0.N : FVec Ideal S16384x1024 .bf16) (ix2 ⟨b.val * 8192 + s.val, by omega⟩ ⟨h.val * 128 + e.val, by omega⟩)
      = outAt m c (pt b h) (ix2 s e) := by
  have hb := (dats m 0 c).read_blk_arrAt_eq_flushed 6 disjoint6 cfg0.N (pt b h) (pt b h).isLt ((by decide +kernel : ∀ t : Fin grid0.N, win0_6.flush t = true) (pt b h))
  have hf : (dats m 0 c).flushed 6 (pt b h) = (cfg0.win 6).cut (grid0.coords (pt b h)) (outAt m c (pt b h)) := by
    show (cfg0.win 6).cut (grid0.coords (pt b h)) ((dats m 0 c).after 6 (pt b h)) = _
    rw [after_6]
  rw [hf] at hb
  have e1 := congrFun hb (ix2 s e)
  refine Eq.trans ?_ (e1.trans ?_)
  · show (dats m 0 c).arrAt 6 cfg0.N _ = (dats m 0 c).arrAt 6 cfg0.N _
    generalize (dats m 0 c).arrAt 6 cfg0.N = X
    have := pt_div b h
    have := pt_mod b h
    blk_ext [idx (pt b h)]
  · generalize outAt m c (pt b h) = X
    blk_ext []

end Cert.KernelIdeal.Own

end
-- ==== Proof.Ref.lean ====
module

public import proofs.«01_k».proof.Proof.Gen.ReferenceIdeal.Run
public import proofs.«01_k».proof.Proof.Weights
public import Idealize.ShloMosaic.Lib.Tactic.CleanTypes

@[expose] public section
set_option maxRecDepth 16384
noncomputable section
namespace Cert.ReferenceIdeal.Own
open Idealize.ShloMosaic Idealize.ShloMosaic.TcCoe Idealize.ShloMosaic.Tactic
open Cert.ReferenceIdeal Cert.ReferenceIdeal.Gen Cert.ReferenceIdeal.Value

section Parts
variable {F : FTy → Type} [FloatOps F]

/-- The keys, context rows first. -/
def keys (kc : FVec F S2x256x8x2x64 .f32) (kl : FVec F S2x8192x8x2x64 .f32) : FVec F S2x8448x8x2x64 .f32 :=
  concatenate S2x8448x8x2x64 1 [⟨S2x256x8x2x64, kc⟩, ⟨S2x8192x8x2x64, kl⟩] concatenates_S2x256x8x2x64_S2x8192x8x2x64_S2x8448x8x2x64_d1

/-- The values, context rows first. -/
def vals (vc : FVec F S2x256x8x128 .f32) (vl : FVec F S2x8192x8x128 .f32) : FVec F S2x8448x8x128 .f32 :=
  concatenate S2x8448x8x128 1 [⟨S2x256x8x128, vc⟩, ⟨S2x8192x8x128, vl⟩] concatenates_S2x256x8x128_S2x8192x8x128_S2x8448x8x128_d1

/-- The scores over eight. -/
def scores (q : FVec F S2x8192x8x2x64 .f32) (k : FVec F S2x8448x8x2x64 .f32) : FVec F S2x8x2x8192x8448 .f32 :=
  mulf (Host.dotGeneral dot_S2x8192x8x2x64_S2x8448x8x2x64_S2x8x2x8192x8448_4_4_1_1_023_023 none q k)
    (broadcastInDim S2x8x2x8192x8448 ![] bcast_S_S2x8x2x8192x8448 (constant S_ .f32 0x3E000000#32))

/-- A row quantity repeated along the keys. -/
def along (x : FVec F S2x8x2x8192 .f32) : FVec F S2x8x2x8192x8448 .f32 :=
  broadcastInDim S2x8x2x8192x8448 ![0, 1, 2, 3, 4] bcast_S2x8x2x8192x1_S2x8x2x8192x8448_0_1_2_3_4
    (broadcastInDim S2x8x2x8192x1 ![0, 1, 2, 3] bcast_S2x8x2x8192_S2x8x2x8192x1_0_1_2_3 x)

/-- The largest score of each row. -/
def peak (s : FVec F S2x8x2x8192x8448 .f32) : FVec F S2x8x2x8192 .f32 :=
  maximumf (broadcastInDim S2x8x2x8192 ![] bcast_S_S2x8x2x8192 (constant S_ .f32 0xFF800000#32))
    (Host.reduce FloatOps.maximumf s (constant S_ .f32 0xFF800000#32) reducesTo_S2x8x2x8192x8448_S2x8x2x8192_d4 h_S_)

/-- The exponentials of the scores below their row's largest. -/
def weights (s : FVec F S2x8x2x8192x8448 .f32) (p : FVec F S2x8x2x8192 .f32) : FVec F S2x8x2x8192x8448 .f32 :=
  Host.exp (subf s (along p))

/-- The weights over their row's sum. -/
def probs (w : FVec F S2x8x2x8192x8448 .f32) : FVec F S2x8x2x8192x8448 .f32 :=
  Host.divf w (along (Host.reduceAdd w (constant S_ .f32 0x00000000#32) reducesTo_S2x8x2x8192x8448_S2x8x2x8192_d4 h_S_))

/-- The mixing coefficient. -/
def lam (x : FVec F S4x64 .f32) : FVec F S_ .f32 :=
  addf (subf (Host.exp (Host.reduceAdd (mulf (shapeCast _ (extractStridedSlice S1x64 ![0, 0] x slices_S4x64_S1x64_0_0) shapeCasts_S1x64_S64) (shapeCast _ (extractStridedSlice S1x64 ![1, 0] x slices_S4x64_S1x64_1_0) shapeCasts_S1x64_S64)) (constant S_ .f32 0x00000000#32) reducesTo_S64_S_d0 h_S_)) (Host.exp (Host.reduceAdd (mulf (shapeCast _ (extractStridedSlice S1x64 ![2, 0] x slices_S4x64_S1x64_2_0) shapeCasts_S1x64_S64) (shapeCast _ (extractStridedSlice S1x64 ![3, 0] x slices_S4x64_S1x64_3_0) shapeCasts_S1x64_S64)) (constant S_ .f32 0x00000000#32) reducesTo_S64_S_d0 h_S_))) (constant S_ .f32 0x3E4CCCCD#32)

/-- The first map's probabilities less the coefficient times the second's. -/
def mixed (p : FVec F S2x8x2x8192x8448 .f32) (l : FVec F S_ .f32) : FVec F S2x8x8192x8448 .f32 :=
  subf (shapeCast _ (extractStridedSlice S2x8x1x8192x8448 ![0, 0, 0, 0, 0] p slices_S2x8x2x8192x8448_S2x8x1x8192x8448_0_0_0_0_0) shapeCasts_S2x8x1x8192x8448_S2x8x8192x8448)
    (mulf (broadcastInDim S2x8x8192x8448 ![] bcast_S_S2x8x8192x8448 l)
      (shapeCast _ (extractStridedSlice S2x8x1x8192x8448 ![0, 0, 1, 0, 0] p slices_S2x8x2x8192x8448_S2x8x1x8192x8448_0_0_1_0_0) shapeCasts_S2x8x1x8192x8448_S2x8x8192x8448))

/-- The values read with the mixed probabilities. -/
def readout (v : FVec F S2x8448x8x128 .f32) (w : FVec F S2x8x8192x8448 .f32) : FVec F S2x8192x8x128 .f32 :=
  transpose S2x8192x8x128 [0, 3, 1, 2] (Host.dotGeneral dot_S2x8448x8x128_S2x8x8192x8448_S2x8x128x8192_1_3_3_2_02_01 none v w) transposes_S2x8x128x8192_S2x8192x8x128_0_3_1_2

/-- The rows scaled to unit mean square, times the scale and the constant, head by head. -/
def normed (o : FVec F S2x8192x8x128 .f32) (g : FVec F S128 .f32) : FVec F S16384x1024 .bf16 :=
  truncf .bf16 (shapeCast _ (mulf (mulf (mulf o
    (broadcastInDim S2x8192x8x128 ![0, 1, 2, 3] bcast_S2x8192x8x1_S2x8192x8x128_0_1_2_3 (Host.rsqrt (addf (Host.divf
      (broadcastInDim S2x8192x8x1 ![0, 1, 2] bcast_S2x8192x8_S2x8192x8x1_0_1_2 (Host.reduceAdd (mulf o o) (constant S_ .f32 0x00000000#32) reducesTo_S2x8192x8x128_S2x8192x8_d3 h_S_))
      (broadcastInDim S2x8192x8x1 ![] bcast_S_S2x8192x8x1 (constant S_ .f32 0x43000000#32)))
      (broadcastInDim S2x8192x8x1 ![] bcast_S_S2x8192x8x1 (constant S_ .f32 0x358637BD#32))))))
    (broadcastInDim S2x8192x8x128 ![0, 1, 2, 3] bcast_S1x1x1x128_S2x8192x8x128_0_1_2_3 (broadcastInDim S1x1x1x128 ![3] bcast_S128_S1x1x1x128_3 g)))
    (broadcastInDim S2x8192x8x128 ![] bcast_S_S2x8192x8x128 (constant S_ .f32 0x3F4CCCCD#32))) shapeCasts_S2x8192x8x128_S16384x1024) bitsLt_bf16_f32

/-- The reference's result in these parts. -/
theorem res_eq (m : (ℓ : Loc nD τ sig) → Buf (Elt F) ℓ) (c : Dev nD) :
    res_main_v57 m c =
      let s := scores (m ((c.tc : Thread nD τ).loc main_arg0)) (keys (m ((c.tc : Thread nD τ).loc main_arg3)) (m ((c.tc : Thread nD τ).loc main_arg2)))
      normed (readout (vals (m ((c.tc : Thread nD τ).loc main_arg5)) (m ((c.tc : Thread nD τ).loc main_arg4)))
        (mixed (probs (weights s (peak s))) (lam (m ((c.tc : Thread nD τ).loc main_arg6))))) (m ((c.tc : Thread nD τ).loc main_arg7)) := by
  rfl

end Parts

open Cert.Attn

/-- The keys at an index: the context's rows, then the latents'. -/
theorem keys_at (kc : FVec Ideal S2x256x8x2x64 .f32) (kl : FVec Ideal S2x8192x8x2x64 .f32) (b : Fin 2) (i : Fin 8448) (h : Fin 8) (p : Fin 2) (x : Fin 64) :
    keys kc kl (ix5 b i h p x) = if hi : i.val < 256 then kc (ix5 b ⟨i.val, hi⟩ h p x) else kl (ix5 b ⟨i.val - 256, by omega⟩ h p x) := by
  pointwise [keys]

/-- The values at an index: the context's rows, then the latents'. -/
theorem vals_at (kc : FVec Ideal S2x256x8x128 .f32) (kl : FVec Ideal S2x8192x8x128 .f32) (b : Fin 2) (i : Fin 8448) (h : Fin 8) (x : Fin 128) :
    vals kc kl (ix4 b i h x) = if hi : i.val < 256 then kc (ix4 b ⟨i.val, hi⟩ h x) else kl (ix4 b ⟨i.val - 256, by omega⟩ h x) := by
  pointwise [vals]

/-- A score: the dot product of a query and a key over eight. -/
theorem scores_at (q : FVec Ideal S2x8192x8x2x64 .f32) (k : FVec Ideal S2x8448x8x2x64 .f32) (b : Fin 2) (h : Fin 8) (p : Fin 2) (s : Fin 8192) (i : Fin 8448) :
    scores q k (ix5 b h p s i) = (∑ x : Fin 64, q (ix5 b s h p x) * k (ix5 b i h p x)) * Ideal.ofBits .f32 0x3E000000#32 := by
  pointwise [scores]

/-- The largest of an array along one axis, taken from minus infinity. -/
theorem reduce_max_at {s t u : Shape} {a : Fin s.rank} (x : FVec Ideal s .f32) (init : FVec Ideal u .f32) (hi : ∀ i, init i = (⊥ : EReal))
    (h' : s.ReducesTo [a] t) (h : s.Reduces [a] t) (hu : 0 < u.numel) (j : t.Idx) :
    Host.reduce FloatOps.maximumf x init h' hu j = (Finset.univ : Finset (Fin (s.size a))).sup fun k => (x (h.lift j k) : EReal) := by
  rw [Host.reduce_eq_fold_single FloatOps.maximumf x init h' h hu j, hi]
  rfl

/-- The larger of minus infinity and a number is the number. -/
theorem max_bot_at {s : Shape} (a b : FVec Ideal s .f32) (j : s.Idx) (ha : a j = (⊥ : EReal)) : maximumf a b j = b j := by
  show max (a j) (b j) = _
  rw [ha, max_eq_right bot_le]

/-- The constant minus infinity, everywhere. -/
theorem neg_inf_at (j : S2x8x2x8192.Idx) :
    (broadcastInDim S2x8x2x8192 ![] bcast_S_S2x8x2x8192 (constant S_ .f32 0xFF800000#32) : FVec Ideal S2x8x2x8192 .f32) j = (⊥ : EReal) := by
  pointwise
  simp [Ideal.ofBits, Ideal.ieee]

/-- The axis of the keys is one the reduction drops. -/
theorem reduces_keys : S2x8x2x8192x8448.Reduces [4] S2x8x2x8192 := by decide

/-- A row's index with a key's put back. -/
theorem lift_keys (b : Fin 2) (h : Fin 8) (p : Fin 2) (r : Fin 8192) (i : Fin (S2x8x2x8192x8448.size 4)) : reduces_keys.lift (ix4 b h p r) i = ix5 b h p r (⟨i.val, i.isLt⟩ : Fin 8448) := by
  funext c
  apply Fin.ext
  rw [Shape.Reduces.lift_val]
  fin_cases c <;> rfl

/-- A row's largest score is the largest over the keys. -/
theorem peak_at (s : FVec Ideal S2x8x2x8192x8448 .f32) (b : Fin 2) (h : Fin 8) (p : Fin 2) (r : Fin 8192) :
    peak s (ix4 b h p r) = (Finset.univ : Finset (Fin 8448)).sup fun i => (s (ix5 b h p r i) : EReal) := by
  unfold peak
  rw [max_bot_at _ _ _ (neg_inf_at _)]
  refine (reduce_max_at s _ (fun i => ?_) _ reduces_keys _ _).trans ?_
  · show Ideal.ofBits .f32 0xFF800000#32 = _
    simp [Ideal.ofBits, Ideal.ieee]
  · exact congrArg (Finset.univ : Finset (Fin 8448)).sup (funext fun i => congrArg s (lift_keys b h p r i))

/-- A weight: the exponential of a score below its row's largest. -/
theorem weights_at (s : FVec Ideal S2x8x2x8192x8448 .f32) (pk : FVec Ideal S2x8x2x8192 .f32) (b : Fin 2) (h : Fin 8) (p : Fin 2) (r : Fin 8192) (i : Fin 8448) :
    weights s pk (ix5 b h p r i) = Ideal.exp (s (ix5 b h p r i) - pk (ix4 b h p r)) := by
  pointwise [weights, along]

/-- A probability: a weight over its row's sum. -/
theorem probs_at (w : FVec Ideal S2x8x2x8192x8448 .f32) (b : Fin 2) (h : Fin 8) (p : Fin 2) (r : Fin 8192) (i : Fin 8448) :
    probs w (ix5 b h p r i) = Ideal.div (w (ix5 b h p r i)) (∑ j : Fin 8448, w (ix5 b h p r j)) := by
  pointwise [probs, along]

/-- The mixing coefficient. -/
theorem lam_at (x : FVec Ideal S4x64 .f32) : lam x ix0 = lamOf fun a b => x (ix2 a b) := by
  pointwise [lam]
  rfl

/-- The mixed probability. -/
theorem mixed_at (w : FVec Ideal S2x8x2x8192x8448 .f32) (l : FVec Ideal S_ .f32) (b : Fin 2) (h : Fin 8) (r : Fin 8192) (i : Fin 8448) :
    mixed w l (ix4 b h r i) = w (ix5 b h 0 r i) - l ix0 * w (ix5 b h 1 r i) := by
  pointwise [mixed]

/-- The values read with the mixed probabilities. -/
theorem readout_at (v : FVec Ideal S2x8448x8x128 .f32) (w : FVec Ideal S2x8x8192x8448 .f32) (b : Fin 2) (s : Fin 8192) (h : Fin 8) (e : Fin 128) :
    readout v w (ix4 b s h e) = ∑ i : Fin 8448, v (ix4 b i h e) * w (ix4 b h s i) := by
  pointwise [readout]

/-- The closing normalisation at an index. -/
theorem normed_at (o : FVec Ideal S2x8192x8x128 .f32) (g : FVec Ideal S128 .f32) (b : Fin 2) (s : Fin 8192) (h : Fin 8) (e : Fin 128) :
    normed o g (ix2 ⟨b.val * 8192 + s.val, by omega⟩ ⟨h.val * 128 + e.val, by omega⟩) = norm (fun x => o (ix4 b s h x)) (g (ix1 e)) e := by
  pointwise [normed]
  rfl

end Cert.ReferenceIdeal.Own
end
-- ==== Proof.RefReal.lean ====
module

public import proofs.«01_k».proof.Proof.Ref

@[expose] public section

set_option maxRecDepth 16384

noncomputable section

namespace Cert.ReferenceIdeal.Own

open Idealize.ShloMosaic Idealize.ShloMosaic.TcCoe Idealize.ShloMosaic.Tactic
open Cert.ReferenceIdeal Cert.ReferenceIdeal.Gen Cert.ReferenceIdeal.Value Cert.Attn

variable (q : FVec Ideal S2x8192x8x2x64 .f32) (kc : FVec Ideal S2x256x8x2x64 .f32) (kl : FVec Ideal S2x8192x8x2x64 .f32)
variable (vc : S2x256x8x128.Idx → ℝ) (vl : S2x8192x8x128.Idx → ℝ)

/-- The raw scores of query `s` of one head and one map against every key, context rows first. -/
def rawScore (b : Fin 2) (h : Fin 8) (p : Fin 2) (s : Fin 8192) (i : Fin 8448) : EReal :=
  ∑ x : Fin 64, q (ix5 b s h p x) * cat (fun i => kc (ix5 b i h p x)) (fun i => kl (ix5 b i h p x)) i

/-- One column of one head's values, context rows first. -/
def rawVal (b : Fin 2) (h : Fin 8) (e : Fin 128) (i : Fin 8448) : ℝ :=
  cat (fun i => vc (ix4 b i h e)) (fun i => vl (ix4 b i h e)) i

/-- The reference's scores are the raw scores over eight. -/
theorem scores_raw (b : Fin 2) (h : Fin 8) (p : Fin 2) (s : Fin 8192) (i : Fin 8448) :
    scores q (keys kc kl) (ix5 b h p s i) = rawScore q kc kl b h p s i * ((1 / 8 : ℝ) : EReal) := by
  have hk : ∀ x : Fin 64, keys kc kl (ix5 b i h p x) = cat (fun i => kc (ix5 b i h p x)) (fun i => kl (ix5 b i h p x)) i := fun x => by
    rw [keys_at]
    rfl
  rw [scores_at]
  simp only [hk, eighth]
  rfl

/-- With real values and a real mixing coefficient the reference's readout is the differential readout. -/
theorem readout_raw (lq : FVec Ideal S4x64 .f32) (l : ℝ) (hl : lamOf (fun a b => lq (ix2 a b)) = l) (b : Fin 2) (s : Fin 8192) (h : Fin 8) (e : Fin 128) :
    readout (vals (F := Ideal) (fun i => ((vc i : ℝ) : EReal)) (fun i => ((vl i : ℝ) : EReal)))
        (mixed (probs (weights (scores q (keys kc kl)) (peak (scores q (keys kc kl))))) (lam lq)) (ix4 b s h e)
      = readDiff (rawScore q kc kl b h 0 s) (rawScore q kc kl b h 1 s) l fun i => ((rawVal vc vl b h e i : ℝ) : EReal) := by
  have hs := scores_raw q kc kl b h
  generalize scores q (keys kc kl) = S at hs
  have hw : ∀ p i, weights S (peak S) (ix5 b h p s i) = weight (rawScore q kc kl b h p s) i := fun p i => by
    rw [weights_at, peak_at]
    simp only [hs]
    rw [sup_scale _ (by norm_num)]
    rfl
  have hp : ∀ p i, probs (weights S (peak S)) (ix5 b h p s i)
      = Ideal.div (weight (rawScore q kc kl b h p s) i) (∑ j, weight (rawScore q kc kl b h p s) j) := fun p i => by
    rw [probs_at]
    simp only [hw]
  have hv : ∀ i : Fin 8448, vals (F := Ideal) (fun i => ((vc i : ℝ) : EReal)) (fun i => ((vl i : ℝ) : EReal)) (ix4 b i h e)
      = ((rawVal vc vl b h e i : ℝ) : EReal) := fun i => by
    rw [vals_at]
    unfold rawVal cat
    by_cases hi : i.val < 256
    · rw [dif_pos hi, dif_pos hi]
    · rw [dif_neg hi, dif_neg hi]
  rw [readout_at]
  unfold readDiff
  exact Finset.sum_congr rfl fun i _ => by rw [hv, mixed_at, lam_at, hl, hp 0, hp 1]

end Cert.ReferenceIdeal.Own

end
-- ==== Proof.Whole.lean ====
module

public import proofs.«01_k».proof.Proof.Value
public import proofs.«01_k».proof.Proof.RefReal

@[expose] public section

set_option maxRecDepth 16384

noncomputable section

namespace Cert.KernelIdeal.Own

open Idealize.ShloMosaic Idealize.ShloMosaic.TcCoe Idealize.ShloMosaic.Tactic Idealize.SL.Sem
open Cert.KernelIdeal Cert.KernelIdeal.Gen Cert.Attn
open Cert.ReferenceIdeal.Own (rawScore rawVal)

/-! ## The staged arrays at the kernel's rows -/

section Staged

variable (Q Kl : FVec Ideal S2x8192x8x2x64 .f32) (Kc : FVec Ideal S2x256x8x2x64 .f32) (Vl : S2x8192x8x128.Idx → ℝ) (Vc : S2x256x8x128.Idx → ℝ)

/-- The staged keys, at the place of one of the kernel's rows. -/
theorem kArr_raw (b : Fin 2) (n : Fin 11) (k : Fin 768) (h : Fin 8) (p : Fin 2) (x : Fin 64) (i : Fin 8448) (hi : i.val = 768 * n.val + k.val)
    (y : Fin 1024) (hy : y.val = h.val * 128 + p.val * 64 + x.val) :
    kArr Kl Kc (ix3 b i y)
      = cat (fun i => Kc (ix5 b i h p x)) (fun i => Kl (ix5 b i h p x)) (Attn.row n k) := by
  rw [kArr_at _ _ b i h p x y hy, qRows_at, cat_row]
  obtain ⟨i, hi'⟩ := i
  obtain rfl : i = _ := hi
  by_cases hs : 768 * n.val + k.val < 8192
  · rw [dif_pos hs]
  · rw [dif_neg hs]

/-- The staged values of real arguments, at the place of one of the kernel's rows. -/
theorem vArr_real (b : Fin 2) (n : Fin 11) (k : Fin 768) (h : Fin 8) (x : Fin 128) (i : Fin 8448) (hi : i.val = 768 * n.val + k.val)
    (y : Fin 1024) (hy : y.val = h.val * 128 + x.val) :
    vArr (F := Ideal) (fun i => ((Vl i : ℝ) : EReal)) (fun i => ((Vc i : ℝ) : EReal)) (ix3 b y i)
      = ((rawVal Vc Vl b h x (Attn.row n k) : ℝ) : EReal) := by
  unfold rawVal
  rw [vArr_at _ _ b i h x y hy, vRows_at, cat_row]
  obtain ⟨i, hi'⟩ := i
  obtain rfl : i = _ := hi
  by_cases hs : 768 * n.val + k.val < 8192
  · rw [dif_pos hs, dif_pos hs]
  · rw [dif_neg hs, dif_neg hs]

/-- The staged queries, in the first map's columns: the map's 64, then zeros. -/
theorem qArr_raw0 (a1 : FVec Ideal S2x256x8x2x64 .f32) (b : Fin 2) (s : Fin 8192) (h : Fin 8) (x : Fin 128) (i : Fin 8448) (hi : i.val = s.val)
    (y : Fin 2048) (hy : y.val = h.val * 256 + x.val) :
    qArr Q a1 (ix3 b i y)
      = if hx : x.val < 64 then Q (ix5 b s h 0 ⟨x.val, hx⟩) else 0 := by
  rw [qArr_at _ _ b i h 0 x y (by rw [hy]; simp), stacked_at0, beside_at]
  obtain ⟨i, hi'⟩ := i
  obtain rfl : i = _ := hi
  by_cases hx : x.val < 64
  · rw [dif_pos hx, dif_pos hx, qMap0_at, qRows_at, dif_pos s.isLt]
  · rw [dif_neg hx, dif_neg hx, zeros_at]

/-- The staged queries, in the second map's columns: zeros, then the map's 64. -/
theorem qArr_raw1 (a1 : FVec Ideal S2x256x8x2x64 .f32) (b : Fin 2) (s : Fin 8192) (h : Fin 8) (x : Fin 128) (i : Fin 8448) (hi : i.val = s.val)
    (y : Fin 2048) (hy : y.val = h.val * 256 + 128 + x.val) :
    qArr Q a1 (ix3 b i y)
      = if hx : x.val < 64 then (0 : EReal) else Q (ix5 b s h 1 ⟨x.val - 64, by omega⟩) := by
  rw [qArr_at _ _ b i h 1 x y (by rw [hy]; simp), stacked_at1, beside_at]
  obtain ⟨i, hi'⟩ := i
  obtain rfl : i = _ := hi
  by_cases hx : x.val < 64
  · rw [dif_pos hx, dif_pos hx, zeros_at]
  · rw [dif_neg hx, dif_neg hx, qMap1_at, qRows_at, dif_pos s.isLt]

end Staged

variable (m : (ℓ : Loc nD τ sig) → Buf (Elt Ideal) ℓ)
variable (Q Kl : FVec Ideal S2x8192x8x2x64 .f32) (Kc : FVec Ideal S2x256x8x2x64 .f32) (Vl : S2x8192x8x128.Idx → ℝ) (Vc : S2x256x8x128.Idx → ℝ)

/-- With real values and a real mixing coefficient, the kernel's output after the run is the normalised differential readout. -/
theorem kernel_at (c : Dev nD)
    (h0 : m ((c : Thread nD τ).loc main_arg0) = Q)
    (h2 : m ((c : Thread nD τ).loc main_arg2) = Kl)
    (h3 : m ((c : Thread nD τ).loc main_arg3) = Kc)
    (h4 : m ((c : Thread nD τ).loc main_arg4) = fun i => ((Vl i : ℝ) : EReal))
    (h5 : m ((c : Thread nD τ).loc main_arg5) = fun i => ((Vc i : ℝ) : EReal))
    (l : ℝ) (hl : lamOf (fun a b => m ((c : Thread nD τ).loc main_arg6) (ix2 a b)) = l)
    (b : Fin 2) (s : Fin 8192) (h : Fin 8) (e : Fin 128) :
    ((dats m 0 c).arrAt 6 cfg0.N : FVec Ideal S16384x1024 .bf16) (ix2 ⟨b.val * 8192 + s.val, by omega⟩ ⟨h.val * 128 + e.val, by omega⟩)
      = norm (fun x => readDiff (rawScore Q Kc Kl b h 0 s) (rawScore Q Kc Kl b h 1 s) l fun i => ((rawVal Vc Vl b h x i : ℝ) : EReal))
          (m ((c : Thread nD τ).loc main_arg7) (ix1 e)) e := by
  have hj : s.val / 256 < 32 := by omega
  have hr : s.val % 256 < 256 := by omega
  have hs : 256 * (s.val / 256) + s.val % 256 = s.val := by omega
  rw [out_at]
  unfold outAt
  rw [oblk_at _ _ _ _ _ _ ⟨s.val / 256, hj⟩ (ix2 ⟨s.val % 256, hr⟩ e) (ix2 s e) hs.symm rfl]
  have hk : ∀ (n : Fin 11) (k : Fin 768) (p : Fin 2) (x : Fin 64), iblk m c 4 (pt b h) (ix3 0 (⟨768 * n.val + k.val, by have := n.isLt; have := k.isLt; omega⟩ : Fin 8448)
      (⟨64 * p.val + x.val, by have := p.isLt; have := x.isLt; omega⟩ : Fin 128))
      = cat (fun i => Kc (ix5 b i h p x)) (fun i => Kl (ix5 b i h p x)) (Attn.row n k) := fun n k p x => by
    rw [blk4, h2, h3]
    exact kArr_raw Kl Kc b n k h p x _ rfl _ (by show h.val * 128 + (64 * p.val + x.val) = _; omega)
  have hv : ∀ (n : Fin 11) (e : Fin 128) (k : Fin 768), iblk m c 5 (pt b h) (ix3 0 e (⟨768 * n.val + k.val, by have := n.isLt; have := k.isLt; omega⟩ : Fin 8448))
      = ((rawVal Vc Vl b h e (Attn.row n k) : ℝ) : EReal) := fun n e k => by
    rw [blk5, h4, h5]
    exact vArr_real Vl Vc b n k h e _ rfl _ rfl
  have hq0 : ∀ s x, X0_2 m c (pt b h) (ix3 0 s x) = if hx : x.val < 64 then Q (ix5 b s h 0 ⟨x.val, hx⟩) else 0 := fun s x => by
    rw [blk2, h0]
    exact qArr_raw0 Q _ b s h x _ rfl _ rfl
  have hq1 : ∀ s x, X0_3 m c (pt b h) (ix3 0 s x) = if hx : x.val < 64 then (0 : EReal)
      else Q (ix5 b s h 1 ⟨x.val - 64, by have := x.isLt; omega⟩) := fun s x => by
    rw [blk3, h0]
    exact qArr_raw1 Q _ b s h x _ rfl _ rfl
  rw [otile_at (iblk m c 0 (pt b h)) (iblk m c 1 (pt b h)) (X0_2 m c (pt b h)) (X0_3 m c (pt b h)) (iblk m c 4 (pt b h)) (iblk m c 5 (pt b h))
    (fun s x => Q (ix5 b s h 0 x)) (fun s x => Q (ix5 b s h 1 x)) (fun p i x => cat (fun i => Kc (ix5 b i h p x)) (fun i => Kl (ix5 b i h p x)) i)
    (fun x i => rawVal Vc Vl b h x i) hk hq0 hq1 hv l
    (by rw [← hl]; exact congrArg lamOf (funext fun a => funext fun x => blk0 m c (pt b h) a x)) ⟨s.val / 256, hj⟩ ⟨s.val % 256, hr⟩ e, blk1]
  have es : (⟨256 * (s.val / 256) + s.val % 256, by omega⟩ : Fin 8192) = s := Fin.ext hs
  simp only [es]
  rfl

end Cert.KernelIdeal.Own

end
-- ==== Proof.Pre.lean ====
module

public import proofs.«01_k».proof.Pre_finite
public import Idealize.ShloMosaic.PureOps.Ideal
public import Idealize.ShloMosaic.Lib.ReduceAll
public import Idealize.ShloMosaic.Lib.Pointwise

@[expose] public section

set_option maxRecDepth 16384

noncomputable section

namespace Cert.Pre_finite.Own

open Idealize.ShloMosaic Cert.Pre_finite

/-- The side conditions the precondition states. -/
theorem facts : Facts where
  h_S_ := by decide
  bcast_S_S2x8192x8x128 := by decide
  reducesTo_S2x8192x8x128_S_d0_1_2_3 := by decide
  bcast_S_S2x256x8x128 := by decide
  reducesTo_S2x256x8x128_S_d0_1_2_3 := by decide
  bcast_S_S4x64 := by decide
  reducesTo_S4x64_S_d0_1 := by decide

/-- The precondition's side conditions, for the lemmas below. -/
instance : Facts := facts

/-- The pattern the precondition compares with denotes infinity. -/
theorem inf_bits : Ideal.ofBits .f32 0x7F800000#32 = (⊤ : EReal) := by
  simp [Ideal.ofBits, Ideal.ieee]

/-- An extended real whose absolute value is below infinity is a real. -/
theorem real_of_cmp (x : EReal) (h : Ideal.cmp .olt (max x (-x)) (Ideal.ofBits .f32 0x7F800000#32) = 1#1) : ∃ r : ℝ, x = r := by
  rw [inf_bits] at h
  induction x with
  | bot => simp [Ideal.cmp] at h
  | coe r => exact ⟨r, rfl⟩
  | top => simp [Ideal.cmp] at h

/-- An array all of whose absolute values are found below infinity is real. -/
theorem real_of_all {s : Shape} (b : S_.BroadcastsInDim s ![]) {axes : List (Fin s.rank)} (hr : s.ReducesTo axes S_) (hu : 0 < S_.numel) (x : FVec Ideal s .f32)
    (z : S_.Idx) (h : Host.reduce IntOp.andi (cmpf .olt (Host.absf x) (broadcastInDim s ![] b (constant S_ .f32 0x7F800000#32))) (constantI S_ 1 1#1) hr hu z = 1#1) :
    ∃ f : s.Idx → ℝ, x = fun i => ((f i : ℝ) : EReal) := by
  have hx : ∀ i, ∃ r : ℝ, x i = (r : EReal) := fun i => real_of_cmp (x i) (Host.reduce_andi_all _ _ hr hu z h i)
  choose f hf using hx
  exact ⟨f, funext hf⟩

/-- The precondition's and at an index. -/
theorem and_at (p q : IVec S_ 1) (z : S_.Idx) (h : andi p q z = 1#1) : p z = 1#1 ∧ q z = 1#1 := IntOp.andi_eq_one.1 h

/-- Arguments for which the precondition holds are real where it says so: the values and the mixing coefficient's rows. -/
theorem real_of_fn (a0 : FVec Ideal S2x8192x8x2x64 .f32) (a1 : FVec Ideal S2x256x8x2x64 .f32) (a2 : FVec Ideal S2x8192x8x2x64 .f32) (a3 : FVec Ideal S2x256x8x2x64 .f32)
    (a4 : FVec Ideal S2x8192x8x128 .f32) (a5 : FVec Ideal S2x256x8x128 .f32) (a6 : FVec Ideal S4x64 .f32) (a7 : FVec Ideal S128 .f32)
    (z : S_.Idx) (h : fn (F := Ideal) a0 a1 a2 a3 a4 a5 a6 a7 z = 1#1) :
    (∃ f : S2x8192x8x128.Idx → ℝ, a4 = fun i => ((f i : ℝ) : EReal))
      ∧ (∃ f : S2x256x8x128.Idx → ℝ, a5 = fun i => ((f i : ℝ) : EReal)) ∧ (∃ f : S4x64.Idx → ℝ, a6 = fun i => ((f i : ℝ) : EReal)) := by
  dsimp only [fn] at h
  obtain ⟨h1, p6⟩ := and_at _ _ z h
  obtain ⟨p4, p5⟩ := and_at _ _ z h1
  exact ⟨real_of_all _ _ _ a4 z p4, real_of_all _ _ _ a5 z p5, real_of_all _ _ _ a6 z p6⟩

end Cert.Pre_finite.Own

end
-- ==== Proof.Printed.lean ====
module

public import proofs.«01_k».proof.Kernel
public import proofs.«01_k».proof.Proof.Gen.Kernel
public import proofs.«01_k».proof.Proof.Run

@[expose] public section

set_option maxRecDepth 16384

noncomputable section

namespace Cert.Kernel.Own

open Idealize.ShloMosaic Idealize.ShloMosaic.TcCoe Idealize.SL.Sem
open Cert.Kernel

variable {F : FTy → Type} [FloatOps F]

/-- The reading of named constants that keeps each at the bits it was printed with. -/
abbrev asPrinted : Named F := ⟨fun _ _ {φ} bits => FloatOps.ofBits φ bits⟩

/-- With named constants read at their printed bits, the idealized program's main is the printed program's. -/
theorem main_printed (c : Dev nD) : main (F := F) c = (letI := asPrinted (F := F); Cert.KernelIdeal.main (F := F) c) := rfl

/-- At that reading the two kernels' bodies are one. -/
theorem body_printed : @cc0_diff_attention F _ _ = @Cert.KernelIdeal.cc0_diff_attention F _ asPrinted _ := rfl

/-- So the two tables of functions are one. -/
theorem defs₀_printed : defs₀ (F := F) = (letI := asPrinted (F := F); Cert.KernelIdeal.defs₀ (F := F)) := by
  unfold defs₀ Cert.KernelIdeal.defs₀
  rw [body_printed]
  refine congrArg (Defs.onTc (nD := nD) (τ := τ) (sig := sig) (Λ := Λ₀)) ?_
  funext l x
  match l, x with
  | ⟨0, _⟩, (t, s) => rfl

variable (m : (ℓ : Loc nD τ sig) → Buf (Elt F) ℓ) (ρ : Dev nD → PrngReg)
/-- The printed kernel runs, leaves its eight argument arrays as they were, and ends with every semaphore counter at zero:
    it is the idealized program at that reading. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  by
  have h := (letI := asPrinted (F := F); Cert.KernelIdeal.Own.frame m ρ)
  unfold Cert.KernelIdeal.defs at h
  rw [← defs₀_printed] at h
  exact h

end Cert.Kernel.Own

end
-- ==== Proof.Same.lean ====
module

public import proofs.«01_k».proof.Defs
public import proofs.«01_k».proof.Proof.Whole
public import proofs.«01_k».proof.Proof.Pre
public import proofs.«01_k».proof.Proof.Printed
public import proofs.«01_k».proof.Proof.Gen.ReferenceIdeal
public import proofs.«01_k».proof.Proof.Gen.ReferenceIdeal.Run
public import Idealize.ShloMosaic.Lib.Quiescent

@[expose] public section

set_option maxRecDepth 16384

noncomputable section

namespace Cert.AttnClaims

open Idealize.ShloMosaic Idealize.ShloMosaic.TcCoe Idealize.ShloMosaic.Tactic Idealize.SL.Sem
open Cert.Attn

/-- The reference's result at an index, when its values are real and so is its mixing coefficient: the normalised differential
    readout. -/
theorem reference_at (m : (ℓ : Loc Cert.ReferenceIdeal.nD Cert.ReferenceIdeal.τ Cert.ReferenceIdeal.sig) → Buf (Elt Ideal) ℓ) (c : Dev Cert.ReferenceIdeal.nD)
    (Q Kl : FVec Ideal Cert.ReferenceIdeal.S2x8192x8x2x64 .f32) (Kc : FVec Ideal Cert.ReferenceIdeal.S2x256x8x2x64 .f32)
    (Vl : Cert.ReferenceIdeal.S2x8192x8x128.Idx → ℝ) (Vc : Cert.ReferenceIdeal.S2x256x8x128.Idx → ℝ)
    (h0 : m ((c.tc : Thread Cert.ReferenceIdeal.nD Cert.ReferenceIdeal.τ).loc Cert.ReferenceIdeal.main_arg0) = Q)
    (h2 : m ((c.tc : Thread Cert.ReferenceIdeal.nD Cert.ReferenceIdeal.τ).loc Cert.ReferenceIdeal.main_arg2) = Kl)
    (h3 : m ((c.tc : Thread Cert.ReferenceIdeal.nD Cert.ReferenceIdeal.τ).loc Cert.ReferenceIdeal.main_arg3) = Kc)
    (h4 : m ((c.tc : Thread Cert.ReferenceIdeal.nD Cert.ReferenceIdeal.τ).loc Cert.ReferenceIdeal.main_arg4) = fun i => ((Vl i : ℝ) : EReal))
    (h5 : m ((c.tc : Thread Cert.ReferenceIdeal.nD Cert.ReferenceIdeal.τ).loc Cert.ReferenceIdeal.main_arg5) = fun i => ((Vc i : ℝ) : EReal))
    (l : ℝ) (hl : lamOf (fun a b => m ((c.tc : Thread Cert.ReferenceIdeal.nD Cert.ReferenceIdeal.τ).loc Cert.ReferenceIdeal.main_arg6) (ix2 a b)) = l)
    (b : Fin 2) (s : Fin 8192) (h : Fin 8) (e : Fin 128) :
    (Cert.ReferenceIdeal.Value.res_main_v57 m c : FVec Ideal Cert.ReferenceIdeal.S16384x1024 .bf16)
        (ix2 ⟨b.val * 8192 + s.val, by omega⟩ ⟨h.val * 128 + e.val, by omega⟩)
      = norm (fun x => readDiff (Cert.ReferenceIdeal.Own.rawScore Q Kc Kl b h 0 s) (Cert.ReferenceIdeal.Own.rawScore Q Kc Kl b h 1 s) l
            fun i => ((Cert.ReferenceIdeal.Own.rawVal Vc Vl b h x i : ℝ) : EReal))
          (m ((c.tc : Thread Cert.ReferenceIdeal.nD Cert.ReferenceIdeal.τ).loc Cert.ReferenceIdeal.main_arg7) (ix1 e)) e := by
  rw [Cert.ReferenceIdeal.Own.res_eq, h0, h2, h3, h4, h5]
  refine (Cert.ReferenceIdeal.Own.normed_at _ _ b s h e).trans ?_
  exact congrArg (fun D => norm D _ e) (funext fun x => Cert.ReferenceIdeal.Own.readout_raw Q Kc Kl Vc Vl _ l hl b s h x)

/-- From arguments that agree and of which the precondition holds, the reference's result array is the kernel's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hp : Cert.Pre_KernelIdeal_finite m)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    (Cert.ReferenceIdeal.Value.res_main_v57 m' c : FVec Ideal Cert.KernelIdeal.S16384x1024 .bf16)
      = ((Cert.KernelIdeal.Own.dats m 0 c).arrAt 6 Cert.KernelIdeal.cfg0.N : FVec Ideal Cert.KernelIdeal.S16384x1024 .bf16) := by
  obtain ⟨⟨Vl, h4⟩, ⟨Vc, h5⟩, L, h6⟩ :=
    Cert.Pre_finite.Own.real_of_fn _ _ _ _ _ _ _ _ (fun a => a.elim0) (congrFun (hp c) _)
  obtain ⟨l, hl⟩ := lamOf_real (fun a b => m ((c.tc : Thread Cert.KernelIdeal.nD Cert.KernelIdeal.τ).loc Cert.KernelIdeal.main_arg6) (ix2 a b))
    fun a b => ⟨L (ix2 a b), congrFun h6 _⟩
  have hl' : lamOf (fun a b => m' ((c.tc : Thread Cert.ReferenceIdeal.nD Cert.ReferenceIdeal.τ).loc Cert.ReferenceIdeal.main_arg6) (ix2 a b)) = l := by
    rw [e6]; exact hl
  funext i
  have i0 : (i (0 : Fin 2)).val < 16384 := (i (0 : Fin 2)).isLt
  have i1 : (i (1 : Fin 2)).val < 1024 := (i (1 : Fin 2)).isLt
  have ei : i = ix2 (n0 := 16384) (n1 := 1024) ⟨(i (0 : Fin 2)).val / 8192 * 8192 + (i (0 : Fin 2)).val % 8192, by omega⟩
      ⟨(i (1 : Fin 2)).val / 128 * 128 + (i (1 : Fin 2)).val % 128, by omega⟩ := by
    conv_lhs => rw [eq_ix2 (n0 := 16384) (n1 := 1024) i]
    congr 1
    · exact Fin.ext (by show (i (0 : Fin 2)).val = _ / 8192 * 8192 + _ % 8192; omega)
    · exact Fin.ext (by show (i (1 : Fin 2)).val = _ / 128 * 128 + _ % 128; omega)
  rw [ei]
  refine (reference_at m' c _ _ _ Vl Vc e0 e2 e3 (e4.trans h4) (e5.trans h5) l hl'
    ⟨(i (0 : Fin 2)).val / 8192, by omega⟩ ⟨(i (0 : Fin 2)).val % 8192, by omega⟩ ⟨(i (1 : Fin 2)).val / 128, by omega⟩
    ⟨(i (1 : Fin 2)).val % 128, by omega⟩).trans ?_
  rw [e7]
  exact (Cert.KernelIdeal.Own.kernel_at m _ _ _ Vl Vc c rfl rfl rfl h4 h5 l hl
    ⟨(i (0 : Fin 2)).val / 8192, by omega⟩ ⟨(i (0 : Fin 2)).val % 8192, by omega⟩ ⟨(i (1 : Fin 2)).val / 128, by omega⟩
    ⟨(i (1 : Fin 2)).val % 128, by omega⟩).symm

end Cert.AttnClaims

end
-- ==== Proof.Final.lean ====
module

public import proofs.«01_k».proof.Proof.Same

@[expose] public section

set_option maxRecDepth 16384

noncomputable section

namespace Cert.AttnClaims

open Idealize.ShloMosaic Idealize.ShloMosaic.TcCoe Idealize.SL.Sem
open Cert.KernelIdeal Cert.KernelIdeal.Gen Cert.KernelIdeal.Own

/-- The idealized kernel's run, with its result array named and its eight arguments as they were. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h.1 c).1 6, h.2.1 c⟩)
    (θ_run_and (runs_post m ρ) (Cert.KernelIdeal.Own.frame m ρ))

/-- The reference runs, leaves its arguments as they were, and ends with every semaphore counter at zero, there being none. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one named constant's entry. -/
theorem preserves : Cert.preserves_Kernel_KernelIdeal :=
  IdealRules.named_const.statement Cert.KernelIdeal.κ "scale" .f32 0x3E38AA3B#32 (((1 / 8) * (Real.log 2)⁻¹ : ℝ) : EReal) rfl

/-- From arguments that agree, with no infinity among the values and the mixing vectors, the idealized kernel and the reference end with equal results. -/
theorem algebraic : Cert.algebraic_KernelIdeal_ReferenceIdeal_pre_finite := by
  intro m ρ m' ρ' hp hagree
  refine ⟨_, run_kernel m ρ, ?_⟩
  refine (θ_run Cert.ReferenceIdeal.defs _ _).mono (fun _ h c => ⟨(h c).1.trans ?_, (h c).2⟩)
    (Cert.ReferenceIdeal.Value.run (F := Ideal) m' ρ')
  obtain ⟨e0, -, e2, e3, e4, e5, e6, e7⟩ := hagree c
  exact result_eq m m' c hp e0 e2 e3 e4 e5 e6 e7

end Cert.AttnClaims

end
-- ==== Proof.ProjKern.lean ====
module

public import proofs.«01_k».proof.Proof.Gen.KernelProjIdeal.Value
public import Idealize.ShloMosaic.Lib.Pipeline.ValueKit

@[expose] public section

set_option maxRecDepth 16384

noncomputable section

namespace Cert.Proj

open Idealize.ShloMosaic

/-- One number of the projection: a row, scaled to unit mean square and modulated, times a column of the weights. -/
def proj (x g sh sc w : Fin 1024 → EReal) : EReal :=
  ∑ k : Fin 1024, (x k * Ideal.rsqrt (Ideal.div (∑ l : Fin 1024, x l * x l) (Ideal.ofBits .f32 0x44800000#32) + Ideal.ofBits .f32 0x358637BD#32) * g k
    * (1 + sc k) + sh k) * w k

/-- Equal rows and columns give equal numbers. -/
theorem proj_congr {x g sh sc w x' g' sh' sc' w' : Fin 1024 → EReal} (hx : x = x') (hg : g = g') (hsh : sh = sh') (hsc : sc = sc') (hw : w = w') :
    proj x g sh sc w = proj x' g' sh' sc' w' := by
  rw [hx, hg, hsh, hsc, hw]

end Cert.Proj

namespace Cert.KernelProjIdeal.Own

open Idealize.ShloMosaic Idealize.ShloMosaic.TcCoe Idealize.ShloMosaic.Tactic Idealize.SL.Sem
open Idealize.ShloMosaic.Pipeline (Dat)
open Cert.KernelProjIdeal Cert.KernelProjIdeal.Gen Cert.KernelProjIdeal.Value Cert.Proj

/-! ## What the body computes from its blocks -/

/-- The body's result at an index of the block. -/
theorem pay_at (x : Vec Ideal S512x1024 .f32) (g : Vec Ideal S1x1024 .f32) (sc sh : Vec Ideal S1x1x1x1024 .f32) (w : Vec Ideal S1024x3072 .bf16)
    (r : Fin 512) (n : Fin 3072) :
    k0_pay1 (F := Ideal) x g sc sh w (ix2 r n) = proj (fun k => x (ix2 r k)) (fun k => g (ix2 0 k)) (fun k => sh (ix4 0 0 0 k)) (fun k => sc (ix4 0 0 0 k)) (fun k => w (ix2 k n)) := by
  pointwise [k0_pay1]
  rfl

/-! ## The arrays the call finds, as functions of the arguments -/

section Arrays
variable {F : FTy → Type} [FloatOps F]

/-- The rows of both streams: the latents' of each batch, then the context's. -/
def xArr (a0 : FVec F S2x8192x1024 .f32) (a1 : FVec F S2x256x1024 .f32) : FVec F S16896x1024 .f32 :=
  concatenate S16896x1024 0 [⟨S16384x1024, shapeCast S16384x1024 a0 shapeCasts_S2x8192x1024_S16384x1024⟩,
    ⟨S512x1024, shapeCast S512x1024 a1 shapeCasts_S2x256x1024_S512x1024⟩] concatenates_S16384x1024_S512x1024_S16896x1024_d0

/-- The modulation's rows: one of each batch, the context's, and five of zeros. -/
def modRows (a2 : FVec F S2x6144 .f32) (a3 : FVec F S6144 .f32) : FVec F S8x6144 .f32 :=
  concatenate S8x6144 0 [⟨S3x6144, concatenate S3x6144 0 [⟨S2x6144, a2⟩, ⟨S1x6144, shapeCast S1x6144 a3 shapeCasts_S6144_S1x6144⟩] concatenates_S2x6144_S1x6144_S3x6144_d0⟩,
    ⟨S5x6144, broadcastInDim S5x6144 ![] bcast_S_S5x6144 (constant S_ .f32 0x00000000#32)⟩] concatenates_S3x6144_S5x6144_S8x6144_d0

/-- The modulation's rows, each in its six parts. -/
def modArr (a2 : FVec F S2x6144 .f32) (a3 : FVec F S6144 .f32) : FVec F S8x6x1x1024 .f32 :=
  shapeCast S8x6x1x1024 (modRows a2 a3) shapeCasts_S8x6144_S8x6x1x1024

end Arrays

/-- A latent row of the joined rows. -/
theorem xArr_lat (a0 : FVec Ideal S2x8192x1024 .f32) (a1 : FVec Ideal S2x256x1024 .f32) (b : Fin 2) (s : Fin 8192) (k : Fin 1024)
    (R : Fin 16896) (hR : R.val = b.val * 8192 + s.val) : xArr a0 a1 (ix2 R k) = a0 (ix3 b s k) := by
  have e : xArr a0 a1 (ix2 R k) = shapeCast S16384x1024 a0 shapeCasts_S2x8192x1024_S16384x1024 (ix2 ⟨R.val, by omega⟩ k) := by
    unfold xArr
    generalize shapeCast S16384x1024 a0 shapeCasts_S2x8192x1024_S16384x1024 = X
    have : R.val < 16384 := by omega
    pointwise
    simp [this]
  refine e.trans (shapeCast_apply _ _ _ (ix3 b s k) ?_)
  rw [Shape.rowMajor_val_three, Shape.rowMajor_val_two]
  show (b.val * 8192 + s.val) * 1024 + k.val = R.val * 1024 + k.val
  omega

/-- A context row of the joined rows. -/
theorem xArr_ctx (a0 : FVec Ideal S2x8192x1024 .f32) (a1 : FVec Ideal S2x256x1024 .f32) (b : Fin 2) (s : Fin 256) (k : Fin 1024)
    (R : Fin 16896) (hR : R.val = 16384 + b.val * 256 + s.val) : xArr a0 a1 (ix2 R k) = a1 (ix3 b s k) := by
  have e : xArr a0 a1 (ix2 R k) = shapeCast S512x1024 a1 shapeCasts_S2x256x1024_S512x1024 (ix2 ⟨R.val - 16384, by omega⟩ k) := by
    unfold xArr
    generalize shapeCast S512x1024 a1 shapeCasts_S2x256x1024_S512x1024 = X
    have : ¬ R.val < 16384 := by omega
    pointwise
    simp [this]
  refine e.trans (shapeCast_apply _ _ _ (ix3 b s k) ?_)
  rw [Shape.rowMajor_val_three, Shape.rowMajor_val_two]
  show (b.val * 256 + s.val) * 1024 + k.val = (R.val - 16384) * 1024 + k.val
  omega

/-- A batch's row of the modulation. -/
theorem modRows_lat (a2 : FVec Ideal S2x6144 .f32) (a3 : FVec Ideal S6144 .f32) (b : Fin 2) (y : Fin 6144) :
    modRows a2 a3 (ix2 ⟨b.val, by omega⟩ y) = a2 (ix2 b y) := by
  pointwise [modRows]
  exact dif_pos (by omega)

/-- The context's row of the modulation. -/
theorem modRows_ctx (a2 : FVec Ideal S2x6144 .f32) (a3 : FVec Ideal S6144 .f32) (y : Fin 6144) :
    modRows a2 a3 (ix2 2 y) = a3 (ix1 y) := by
  pointwise [modRows]

/-- A part of a row of the modulation. -/
theorem modArr_at (a2 : FVec Ideal S2x6144 .f32) (a3 : FVec Ideal S6144 .f32) (q : Fin 8) (p : Fin 6) (k : Fin 1024)
    (y : Fin 6144) (hy : y.val = p.val * 1024 + k.val) : modArr a2 a3 (ix4 q p 0 k) = modRows a2 a3 (ix2 q y) := by
  refine shapeCast_apply _ _ _ (ix2 q y) ?_
  rw [Shape.rowMajor_val_four, Shape.rowMajor_val_two]
  show q.val * 6144 + y.val = ((q.val * 6 + p.val) * 1 + 0) * 1024 + k.val
  omega

variable (m : (ℓ : Loc nD τ sig) → Buf (Elt Ideal) ℓ)

/-- The call finds the rows of both streams. -/
theorem V_x (c : Dev nD) : (V m c main_v6 : FVec Ideal S16896x1024 .f32)
    = xArr (F := Ideal) (m ((c : Thread nD τ).loc main_arg0)) (m ((c : Thread nD τ).loc main_arg1)) := by
  entry_read
  rfl

/-- The call finds the modulation's rows in parts. -/
theorem V_mod (c : Dev nD) : (V m c main_v7 : FVec Ideal S8x6x1x1024 .f32)
    = modArr (F := Ideal) (m ((c : Thread nD τ).loc main_arg2)) (m ((c : Thread nD τ).loc main_arg3)) := by
  entry_read
  rfl

/-- The call finds the norm's scale as a row. -/
theorem V_g (c : Dev nD) (k : Fin 1024) : V m c main_v9 (ix2 0 k) = m ((c : Thread nD τ).loc main_arg4) (ix1 k) := by
  entry_read
  pointwise

/-- The call finds the weights. -/
theorem V_w (c : Dev nD) (k : Fin 1024) (n : Fin 9216) : V m c main_v8 (ix2 k n) = m ((c : Thread nD τ).loc main_arg5) (ix2 k n) := by
  entry_read
  pointwise

/-! ## The blocks at a grid point -/

/-- The windows' block indices at every grid point. -/
theorem idx (t : Fin cfg0.N) : win0_0.index t = ![t.val % 33, 0] ∧ win0_1.index t = ![0, 0]
    ∧ win0_2.index t = ![min (t.val % 33 / 16) 2, 0, 0, 0] ∧ win0_3.index t = ![min (t.val % 33 / 16) 2, 1, 0, 0]
    ∧ win0_4.index t = ![0, t.val / 33] ∧ win0_5.index t = ![t.val % 33, t.val / 33] :=
  (by decide +kernel : ∀ t : Fin grid0.N, win0_0.index t = ![t.val % 33, 0] ∧ win0_1.index t = ![0, 0]
    ∧ win0_2.index t = ![min (t.val % 33 / 16) 2, 0, 0, 0] ∧ win0_3.index t = ![min (t.val % 33 / 16) 2, 1, 0, 0]
    ∧ win0_4.index t = ![0, t.val / 33] ∧ win0_5.index t = ![t.val % 33, t.val / 33]) t

/-- The grid point of panel `j` and row block `i`. -/
def pt (j : Fin 3) (i : Fin 33) : Fin cfg0.N := ⟨j.val * 33 + i.val, by show j.val * 33 + i.val < 99; omega⟩

/-- A grid point's quotient is its panel. -/
theorem pt_div (j : Fin 3) (i : Fin 33) : (pt j i).val / 33 = j.val := by show (j.val * 33 + i.val) / 33 = _; omega
/-- A grid point's remainder is its row block. -/
theorem pt_mod (j : Fin 3) (i : Fin 33) : (pt j i).val % 33 = i.val := by show (j.val * 33 + i.val) % 33 = _; omega

/-- The rows' block, of any contents. -/
theorem rd0 (X : FVec Ideal S16896x1024 .f32) (j : Fin 3) (i : Fin 33) (r : Fin 512) (k : Fin 1024) :
    ((cfg0.win 0).blk (pt j i)).view.read (Elt Ideal) X (ix2 r k) = X (ix2 ⟨i.val * 512 + r.val, by omega⟩ k) := by
  have := pt_mod j i
  blk_ext [idx (pt j i)]

/-- The scale's block, of any contents. -/
theorem rd1 (X : FVec Ideal S1x1024 .f32) (j : Fin 3) (i : Fin 33) (k : Fin 1024) :
    ((cfg0.win 1).blk (pt j i)).view.read (Elt Ideal) X (ix2 0 k) = X (ix2 0 k) := by
  blk_ext [idx (pt j i)]

/-- The shift's block, of any contents. -/
theorem rd2 (X : FVec Ideal S8x6x1x1024 .f32) (j : Fin 3) (i : Fin 33) (k : Fin 1024) :
    ((cfg0.win 2).blk (pt j i)).view.read (Elt Ideal) X (ix4 0 0 0 k) = X (ix4 ⟨min (i.val / 16) 2, by omega⟩ 0 0 k) := by
  have := pt_mod j i
  blk_ext [idx (pt j i)]

/-- The modulating scale's block, of any contents. -/
theorem rd3 (X : FVec Ideal S8x6x1x1024 .f32) (j : Fin 3) (i : Fin 33) (k : Fin 1024) :
    ((cfg0.win 3).blk (pt j i)).view.read (Elt Ideal) X (ix4 0 0 0 k) = X (ix4 ⟨min (i.val / 16) 2, by omega⟩ 1 0 k) := by
  have := pt_mod j i
  blk_ext [idx (pt j i)]

/-- The weights' panel, of any contents. -/
theorem rd4 (X : FVec Ideal S1024x9216 .bf16) (j : Fin 3) (i : Fin 33) (k : Fin 1024) (n : Fin 3072) :
    ((cfg0.win 4).blk (pt j i)).view.read (Elt Ideal) X (ix2 k n) = X (ix2 k ⟨j.val * 3072 + n.val, by omega⟩) := by
  have := pt_div j i
  blk_ext [idx (pt j i)]

/-- The output's block, of any contents. -/
theorem rd5 (X : FVec Ideal S16896x9216 .bf16) (j : Fin 3) (i : Fin 33) (r : Fin 512) (n : Fin 3072) :
    ((cfg0.win 5).blk (pt j i)).view.read (Elt Ideal) X (ix2 r n) = X (ix2 ⟨i.val * 512 + r.val, by omega⟩ ⟨j.val * 3072 + n.val, by omega⟩) := by
  have := pt_div j i
  have := pt_mod j i
  blk_ext [idx (pt j i)]

/-! ## The output array after the run -/

/-- The corner of a matrix. -/
theorem zero2 : (![0, 0] : Fin 2 → Nat) = fun _ => 0 := funext fun a => by fin_cases a <;> rfl
/-- The corner of an array of four axes. -/
theorem zero4 : (![0, 0, 0, 0] : Fin 4 → Nat) = fun _ => 0 := funext fun a => by fin_cases a <;> rfl

/-- What the body leaves in the output's buffer, at an index. -/
theorem out_at (x : Vec Ideal S512x1024 .f32) (g : Vec Ideal S1x1024 .f32) (sh sc : Vec Ideal S1x1x1x1024 .f32) (w : Vec Ideal S1024x3072 .bf16)
    (r : Fin 512) (n : Fin 3072) :
    out0_5 (F := Ideal) x g sh sc w (ix2 r n) = proj (fun k => x (ix2 r k)) (fun k => g (ix2 0 k)) (fun k => sh (ix4 0 0 0 k)) (fun k => sc (ix4 0 0 0 k)) (fun k => w (ix2 k n)) := by
  unfold out0_5
  rw [View.canon_unit_zero zero2, View.ld_unit_zero zero2, View.ld_unit_zero zero2, View.ld_unit_zero zero4, View.ld_unit_zero zero4, View.ld_unit_zero zero2]
  exact pay_at x g sc sh w r n

/-- The output array after the run, at an index: a number of the projection. -/
theorem final_at (c : Dev nD) (j : Fin 3) (i : Fin 33) (r : Fin 512) (n : Fin 3072) :
    ((dats m 0 c).arrAt 5 cfg0.N : FVec Ideal S16896x9216 .bf16) (ix2 ⟨i.val * 512 + r.val, by omega⟩ ⟨j.val * 3072 + n.val, by omega⟩)
      = proj (fun k => xArr (F := Ideal) (m ((c : Thread nD τ).loc main_arg0)) (m ((c : Thread nD τ).loc main_arg1)) (ix2 ⟨i.val * 512 + r.val, by omega⟩ k))
          (fun k => m ((c : Thread nD τ).loc main_arg4) (ix1 k))
          (fun k => modArr (F := Ideal) (m ((c : Thread nD τ).loc main_arg2)) (m ((c : Thread nD τ).loc main_arg3)) (ix4 ⟨min (i.val / 16) 2, by omega⟩ 0 0 k))
          (fun k => modArr (F := Ideal) (m ((c : Thread nD τ).loc main_arg2)) (m ((c : Thread nD τ).loc main_arg3)) (ix4 ⟨min (i.val / 16) 2, by omega⟩ 1 0 k))
          (fun k => m ((c : Thread nD τ).loc main_arg5) (ix2 k ⟨j.val * 3072 + n.val, by omega⟩)) := by
  have hb := blocks5 m c (pt j i) (flush0_5 (pt j i))
  rw [flushed5] at hb
  have e1 := congrFun hb (ix2 r n)
  refine (rd5 _ j i r n).symm.trans (e1.trans ?_)
  refine Eq.trans (b := out0_5 (F := Ideal) (iblk m c 0 (pt j i)) (iblk m c 1 (pt j i)) (iblk m c 2 (pt j i)) (iblk m c 3 (pt j i)) (iblk m c 4 (pt j i)) (ix2 r n)) ?_ ?_
  · generalize out0_5 (F := Ideal) (iblk m c 0 (pt j i)) (iblk m c 1 (pt j i)) (iblk m c 2 (pt j i)) (iblk m c 3 (pt j i)) (iblk m c 4 (pt j i)) = X
    blk_ext []
  refine (out_at _ _ _ _ _ r n).trans ?_
  have h0 : (fun k => iblk m c 0 (pt j i) (ix2 r k)) = fun k => xArr (F := Ideal) (m ((c : Thread nD τ).loc main_arg0)) (m ((c : Thread nD τ).loc main_arg1)) (ix2 ⟨i.val * 512 + r.val, by omega⟩ k) :=
    funext fun k => (rd0 _ j i r k).trans (congrFun (V_x m c) _)
  have h1 : (fun k => iblk m c 1 (pt j i) (ix2 0 k)) = fun k => m ((c : Thread nD τ).loc main_arg4) (ix1 k) :=
    funext fun k => (rd1 _ j i k).trans (V_g m c k)
  have h2 : (fun k => iblk m c 2 (pt j i) (ix4 0 0 0 k)) = fun k => modArr (F := Ideal) (m ((c : Thread nD τ).loc main_arg2)) (m ((c : Thread nD τ).loc main_arg3)) (ix4 ⟨min (i.val / 16) 2, by omega⟩ 0 0 k) :=
    funext fun k => (rd2 _ j i k).trans (congrFun (V_mod m c) _)
  have h3 : (fun k => iblk m c 3 (pt j i) (ix4 0 0 0 k)) = fun k => modArr (F := Ideal) (m ((c : Thread nD τ).loc main_arg2)) (m ((c : Thread nD τ).loc main_arg3)) (ix4 ⟨min (i.val / 16) 2, by omega⟩ 1 0 k) :=
    funext fun k => (rd3 _ j i k).trans (congrFun (V_mod m c) _)
  have h4 : (fun k => iblk m c 4 (pt j i) (ix2 k n)) = fun k => m ((c : Thread nD τ).loc main_arg5) (ix2 k ⟨j.val * 3072 + n.val, by omega⟩) :=
    funext fun k => (rd4 _ j i k n).trans (V_w m c k _)
  exact proj_congr h0 h1 h2 h3 h4

end Cert.KernelProjIdeal.Own

end
-- ==== Proof.ProjRef.lean ====
module

public import proofs.«01_k».proof.Proof.Gen.ReferenceProjIdeal.Run
public import proofs.«01_k».proof.Proof.ProjKern

@[expose] public section

set_option maxRecDepth 16384

noncomputable section

namespace Cert.ReferenceProjIdeal.Own

open Idealize.ShloMosaic Idealize.ShloMosaic.TcCoe Idealize.ShloMosaic.Tactic
open Cert.ReferenceProjIdeal Cert.ReferenceProjIdeal.Gen Cert.Proj

section Parts
variable {F : FTy → Type} [FloatOps F]

/-- The latents' rows, normed and modulated. -/
def hLat (x : FVec F S2x8192x1024 .f32) (md : FVec F S2x6144 .f32) (g : FVec F S1024 .f32) : FVec F S2x8192x1024 .f32 :=
  addf (mulf (mulf (mulf x
    (broadcastInDim S2x8192x1024 ![0, 1, 2] bcast_S2x8192x1_S2x8192x1024_0_1_2 (Host.rsqrt (addf (Host.divf
      (broadcastInDim S2x8192x1 ![0, 1] bcast_S2x8192_S2x8192x1_0_1 (Host.reduceAdd (mulf x x) (constant S_ .f32 0x00000000#32) reducesTo_S2x8192x1024_S2x8192_d2 h_S_))
      (broadcastInDim S2x8192x1 ![] bcast_S_S2x8192x1 (constant S_ .f32 0x44800000#32)))
      (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g)))
    (broadcastInDim S2x8192x1024 ![0, 1, 2] bcast_S2x1x1024_S2x8192x1024_0_1_2 (addf (broadcastInDim S2x1x1024 ![] bcast_S_S2x1x1024 (constant S_ .f32 0x3F800000#32))
      (extractStridedSlice S2x1x1024 ![0, 0, 1024] (broadcastInDim S2x1x6144 ![0, 2] bcast_S2x6144_S2x1x6144_0_2 md) slices_S2x1x6144_S2x1x1024_0_0_1024))))
    (broadcastInDim S2x8192x1024 ![0, 1, 2] bcast_S2x1x1024_S2x8192x1024_0_1_2
      (extractStridedSlice S2x1x1024 ![0, 0, 0] (broadcastInDim S2x1x6144 ![0, 2] bcast_S2x6144_S2x1x6144_0_2 md) slices_S2x1x6144_S2x1x1024_0_0_0))

/-- The context's rows, normed and modulated. -/
def hCtx (x : FVec F S2x256x1024 .f32) (md : FVec F S6144 .f32) (g : FVec F S1024 .f32) : FVec F S2x256x1024 .f32 :=
  addf (mulf (mulf (mulf x
    (broadcastInDim S2x256x1024 ![0, 1, 2] bcast_S2x256x1_S2x256x1024_0_1_2 (Host.rsqrt (addf (Host.divf
      (broadcastInDim S2x256x1 ![0, 1] bcast_S2x256_S2x256x1_0_1 (Host.reduceAdd (mulf x x) (constant S_ .f32 0x00000000#32) reducesTo_S2x256x1024_S2x256_d2 h_S_))
      (broadcastInDim S2x256x1 ![] bcast_S_S2x256x1 (constant S_ .f32 0x44800000#32)))
      (broadcastInDim S2x256x1 ![] bcast_S_S2x256x1 (constant S_ .f32 0x358637BD#32))))))
    (broadcastInDim S2x256x1024 ![0, 1, 2] bcast_S1x1x1024_S2x256x1024_0_1_2 (broadcastInDim S1x1x1024 ![2] bcast_S1024_S1x1x1024_2 g)))
    (broadcastInDim S2x256x1024 ![0, 1, 2] bcast_S1x1x1024_S2x256x1024_0_1_2 (addf (broadcastInDim S1x1x1024 ![] bcast_S_S1x1x1024 (constant S_ .f32 0x3F800000#32))
      (extractStridedSlice S1x1x1024 ![0, 0, 1024] (broadcastInDim S1x1x6144 ![2] bcast_S6144_S1x1x6144_2 md) slices_S1x1x6144_S1x1x1024_0_0_1024))))
    (broadcastInDim S2x256x1024 ![0, 1, 2] bcast_S1x1x1024_S2x256x1024_0_1_2
      (extractStridedSlice S1x1x1024 ![0, 0, 0] (broadcastInDim S1x1x6144 ![2] bcast_S6144_S1x1x6144_2 md) slices_S1x1x6144_S1x1x1024_0_0_0))

/-- The latents' projection. -/
def uLat (h : FVec F S2x8192x1024 .f32) (w : FVec F S1024x9216 .f32) : FVec F S2x8192x9216 .f32 :=
  Host.dotGeneral dot_S2x8192x1024_S1024x9216_S2x8192x9216_2_0_01_1_n_n none h w

/-- The context's projection. -/
def uCtx (h : FVec F S2x256x1024 .f32) (w : FVec F S1024x9216 .f32) : FVec F S2x256x9216 .f32 :=
  Host.dotGeneral dot_S2x256x1024_S1024x9216_S2x256x9216_2_0_01_1_n_n none h w

/-- The two projections, the latents' rows first. -/
def joined (ul : FVec F S2x8192x9216 .f32) (uc : FVec F S2x256x9216 .f32) : FVec F S16896x9216 .bf16 :=
  truncf .bf16 (concatenate S16896x9216 0 [⟨S16384x9216, shapeCast _ ul shapeCasts_S2x8192x9216_S16384x9216⟩,
    ⟨S512x9216, shapeCast _ uc shapeCasts_S2x256x9216_S512x9216⟩] concatenates_S16384x9216_S512x9216_S16896x9216_d0) bitsLt_bf16_f32

/-- The reference's result in these parts. -/
def res (x : FVec F S2x8192x1024 .f32) (xc : FVec F S2x256x1024 .f32) (md : FVec F S2x6144 .f32) (mc : FVec F S6144 .f32) (g : FVec F S1024 .f32)
    (w : FVec F S1024x9216 .f32) : FVec F S16896x9216 .bf16 :=
  joined (uLat (hLat x md g) w) (uCtx (hCtx xc mc g) w)

end Parts

/-- A number of the latents' projection. -/
theorem uLat_at (x : FVec Ideal S2x8192x1024 .f32) (md : FVec Ideal S2x6144 .f32) (g : FVec Ideal S1024 .f32) (w : FVec Ideal S1024x9216 .f32)
    (b : Fin 2) (s : Fin 8192) (n : Fin 9216) :
    uLat (hLat x md g) w (ix3 b s n) = proj (fun k => x (ix3 b s k)) (fun k => g (ix1 k)) (fun k => md (ix2 b ⟨k.val, by omega⟩))
      (fun k => md (ix2 b ⟨1024 + k.val, by omega⟩)) (fun k => w (ix2 k n)) := by
  pointwise [uLat, hLat]
  rfl

/-- A number of the context's projection. -/
theorem uCtx_at (x : FVec Ideal S2x256x1024 .f32) (md : FVec Ideal S6144 .f32) (g : FVec Ideal S1024 .f32) (w : FVec Ideal S1024x9216 .f32)
    (b : Fin 2) (s : Fin 256) (n : Fin 9216) :
    uCtx (hCtx x md g) w (ix3 b s n) = proj (fun k => x (ix3 b s k)) (fun k => g (ix1 k)) (fun k => md (ix1 ⟨k.val, by omega⟩))
      (fun k => md (ix1 ⟨1024 + k.val, by omega⟩)) (fun k => w (ix2 k n)) := by
  pointwise [uCtx, hCtx]
  rfl

/-- A latent row of the result. -/
theorem joined_lat (ul : FVec Ideal S2x8192x9216 .f32) (uc : FVec Ideal S2x256x9216 .f32) (b : Fin 2) (s : Fin 8192) (n : Fin 9216)
    (R : Fin 16896) (hR : R.val = b.val * 8192 + s.val) : joined ul uc (ix2 R n) = ul (ix3 b s n) := by
  have e : joined ul uc (ix2 R n) = (shapeCast S16384x9216 ul shapeCasts_S2x8192x9216_S16384x9216 : FVec Ideal S16384x9216 .f32) (ix2 ⟨R.val, by omega⟩ n) := by
    unfold joined
    generalize shapeCast _ ul shapeCasts_S2x8192x9216_S16384x9216 = X
    have : R.val < 16384 := by omega
    pointwise
    simp [this]
  refine e.trans (shapeCast_apply _ _ _ (ix3 b s n) ?_)
  rw [Shape.rowMajor_val_three, Shape.rowMajor_val_two]
  show (b.val * 8192 + s.val) * 9216 + n.val = R.val * 9216 + n.val
  omega

/-- A context row of the result. -/
theorem joined_ctx (ul : FVec Ideal S2x8192x9216 .f32) (uc : FVec Ideal S2x256x9216 .f32) (b : Fin 2) (s : Fin 256) (n : Fin 9216)
    (R : Fin 16896) (hR : R.val = 16384 + b.val * 256 + s.val) : joined ul uc (ix2 R n) = uc (ix3 b s n) := by
  have e : joined ul uc (ix2 R n) = (shapeCast S512x9216 uc shapeCasts_S2x256x9216_S512x9216 : FVec Ideal S512x9216 .f32) (ix2 ⟨R.val - 16384, by omega⟩ n) := by
    unfold joined
    generalize shapeCast _ uc shapeCasts_S2x256x9216_S512x9216 = X
    have : ¬ R.val < 16384 := by omega
    pointwise
    simp [this]
  refine e.trans (shapeCast_apply _ _ _ (ix3 b s n) ?_)
  rw [Shape.rowMajor_val_three, Shape.rowMajor_val_two]
  show (b.val * 256 + s.val) * 9216 + n.val = (R.val - 16384) * 9216 + n.val
  omega

end Cert.ReferenceProjIdeal.Own

end
-- ==== Proof.ProjSame.lean ====
module

public import proofs.«01_k».proof.Proof.ProjRef
public import proofs.«01_k».proof.Defs

@[expose] public section

set_option maxRecDepth 16384

noncomputable section

namespace Cert.ProjClaims

open Idealize.ShloMosaic Idealize.ShloMosaic.TcCoe Idealize.SL.Sem
open Cert.KernelProjIdeal Cert.KernelProjIdeal.Gen Cert.KernelProjIdeal.Value Cert.KernelProjIdeal.Own Cert.Proj
open Cert.ReferenceProjIdeal.Own (res joined uLat uCtx hLat hCtx joined_lat joined_ctx uLat_at uCtx_at)

variable (m : (ℓ : Loc nD τ sig) → Buf (Elt Ideal) ℓ)

/-- The modulation's row of a block of latent rows, at one of its first two parts. -/
theorem mod_lat (a2 : FVec Ideal S2x6144 .f32) (a3 : FVec Ideal S6144 .f32) (b : Fin 2) (q : Fin 8) (hq : q.val = b.val) (p : Fin 6) (k : Fin 1024)
    (y : Fin 6144) (hy : y.val = p.val * 1024 + k.val) : modArr a2 a3 (ix4 q p 0 k) = a2 (ix2 b y) := by
  have e : q = ⟨b.val, Nat.lt_trans b.isLt (by decide)⟩ := Fin.ext hq
  exact (modArr_at a2 a3 q p k y hy).trans ((congrArg (fun q => modRows a2 a3 (ix2 q y)) e).trans (modRows_lat a2 a3 b y))

/-- The modulation's row of a block of context rows, at one of its first two parts. -/
theorem mod_ctx (a2 : FVec Ideal S2x6144 .f32) (a3 : FVec Ideal S6144 .f32) (q : Fin 8) (hq : q.val = 2) (p : Fin 6) (k : Fin 1024)
    (y : Fin 6144) (hy : y.val = p.val * 1024 + k.val) : modArr a2 a3 (ix4 q p 0 k) = a3 (ix1 y) := by
  obtain rfl : q = 2 := Fin.ext hq
  exact (modArr_at a2 a3 _ p k y hy).trans (modRows_ctx a2 a3 y)

/-- The kernel's array after the run is the reference's result of the same arguments. -/
theorem final_eq (c : Dev nD) : ((dats m 0 c).arrAt 5 cfg0.N : FVec Ideal S16896x9216 .bf16)
    = res (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  funext y
  obtain ⟨R, N, rfl⟩ : ∃ (R : Fin 16896) (N : Fin 9216), y = ix2 R N := ⟨y 0, y 1, by funext a; fin_cases a <;> rfl⟩
  have hk := final_at m c ⟨N.val / 3072, by omega⟩ ⟨R.val / 512, by omega⟩ ⟨R.val % 512, by omega⟩ ⟨N.val % 3072, by omega⟩
  have hR : (⟨R.val / 512 * 512 + R.val % 512, by omega⟩ : Fin 16896) = R := Fin.ext (by show R.val / 512 * 512 + R.val % 512 = R.val; omega)
  have hN : (⟨N.val / 3072 * 3072 + N.val % 3072, by omega⟩ : Fin 9216) = N := Fin.ext (by show N.val / 3072 * 3072 + N.val % 3072 = N.val; omega)
  simp only [hR, hN] at hk
  refine hk.trans ?_
  unfold res
  by_cases h : R.val < 16384
  · have e : R.val = (⟨R.val / 8192, by omega⟩ : Fin 2).val * 8192 + (⟨R.val % 8192, by omega⟩ : Fin 8192).val := by
      show R.val = R.val / 8192 * 8192 + R.val % 8192; omega
    rw [joined_lat _ _ _ _ N R e, uLat_at]
    refine proj_congr (funext fun k => xArr_lat _ _ _ _ k R e) rfl (funext fun k => ?_) (funext fun k => ?_) rfl
    · exact mod_lat _ _ ⟨R.val / 8192, by omega⟩ _ (by show min (R.val / 512 / 16) 2 = R.val / 8192; omega) 0 k _ (by show k.val = 0 * 1024 + k.val; omega)
    · exact mod_lat _ _ ⟨R.val / 8192, by omega⟩ _ (by show min (R.val / 512 / 16) 2 = R.val / 8192; omega) 1 k _ (by show 1024 + k.val = 1 * 1024 + k.val; omega)
  · have e : R.val = 16384 + (⟨(R.val - 16384) / 256, by omega⟩ : Fin 2).val * 256 + (⟨(R.val - 16384) % 256, by omega⟩ : Fin 256).val := by
      show R.val = 16384 + (R.val - 16384) / 256 * 256 + (R.val - 16384) % 256; omega
    rw [joined_ctx _ _ _ _ N R e, uCtx_at]
    refine proj_congr (funext fun k => xArr_ctx _ _ _ _ k R e) rfl (funext fun k => ?_) (funext fun k => ?_) rfl
    · exact mod_ctx _ _ _ (by show min (R.val / 512 / 16) 2 = 2; omega) 0 k _ (by show k.val = 0 * 1024 + k.val; omega)
    · exact mod_ctx _ _ _ (by show min (R.val / 512 / 16) 2 = 2; omega) 1 k _ (by show 1024 + k.val = 1 * 1024 + k.val; omega)

/-- The reference of the projection runs, leaves its arguments as they were, and ends with every semaphore counter at zero, there being none. -/
theorem frame_ri : Cert.quiescent_ReferenceProjIdeal := fun m ρ _ =>
  (θ_run Cert.ReferenceProjIdeal.defs _ _).mono (fun r h => ⟨fun c => (h c).2, sem_eq_zero_of_no_sems (by decide) r.2⟩)
    (Cert.ReferenceProjIdeal.Value.run (F := Ideal) m ρ)

/-- From arguments that agree, the idealized projection and its reference end with equal results. -/
theorem algebraic : Cert.algebraic_KernelProjIdeal_ReferenceProjIdeal := by
  intro m ρ m' ρ' _ hagree
  refine ⟨_, run_blocks m ρ, ?_⟩
  refine (θ_run Cert.ReferenceProjIdeal.defs _ _).mono (fun _ h c => ⟨(h c).1.trans ?_, (h c).2⟩)
    (Cert.ReferenceProjIdeal.Value.run (F := Ideal) m' ρ')
  obtain ⟨e0, e1, e2, e3, e4, e5⟩ := hagree c
  rw [e0, e1, e2, e3, e4, e5]
  exact (final_eq m c).symm

end Cert.ProjClaims

end
-- ==== Proof.MergeBody.lean ====
module

public import proofs.«01_k».proof.Proof.Gen.KernelMergeIdeal.Value
public import Idealize.ShloMosaic.Lib.Pipeline.ValueKit

@[expose] public section

set_option maxRecDepth 16384

noncomputable section

namespace Cert.Merge

open Idealize.ShloMosaic

/-- What one token's row of the merge reads. -/
@[ext] structure Row where
  /-- The stream. -/
  x : Fin 1024 → EReal
  /-- The attention's branch. -/
  attn : Fin 1024 → EReal
  /-- The recurrence's branch. -/
  rec_ : Fin 1024 → EReal
  /-- The Fourier branch. -/
  four : Fin 1024 → EReal
  /-- What the recurrence's branch is gated by. -/
  lg : Fin 1024 → EReal
  /-- The attention's gate. -/
  g0 : Fin 1024 → EReal
  /-- The recurrence's gate. -/
  g1 : Fin 1024 → EReal
  /-- The Fourier branch's gate. -/
  g2 : Fin 1024 → EReal
  /-- The modulation's gate. -/
  gate : Fin 1024 → EReal
  /-- The modulation's shift. -/
  sh : Fin 1024 → EReal
  /-- The modulation's scale. -/
  sc : Fin 1024 → EReal

/-- The weights of the merge and of the norm that follows. -/
@[ext] structure Wts where
  /-- The attention's. -/
  wa : Fin 1024 → Fin 1024 → EReal
  /-- The recurrence's. -/
  wl : Fin 1024 → Fin 1024 → EReal
  /-- The Fourier branch's. -/
  wf : Fin 1024 → Fin 1024 → EReal
  /-- The merged branches'. -/
  wo : Fin 1024 → Fin 1024 → EReal
  /-- The norm's scale. -/
  g : Fin 1024 → EReal

/-- The smooth rectifier in its form by the hyperbolic tangent. -/
def gelu (x : EReal) : EReal :=
  x * (Ideal.ofBits .f32 0x3F000000#32 * (1 + Ideal.tanh (Ideal.ofBits .f32 0x3F4C422A#32 * (x + Ideal.ofBits .f32 0x3D372713#32 * (x * (x * x))))))

/-- A number of the merged branches. -/
def mixed (R : Row) (W : Wts) (k : Fin 1024) : EReal :=
  Ideal.logistic (R.g0 k) * (∑ j : Fin 1024, R.attn j * W.wa j k) + Ideal.logistic (R.g1 k) * (∑ j : Fin 1024, R.rec_ j * gelu (R.lg j) * W.wl j k)
    + Ideal.logistic (R.g2 k) * (∑ j : Fin 1024, R.four j * W.wf j k)

/-- A number of the stream after the merge. -/
def xmid (R : Row) (W : Wts) (n : Fin 1024) : EReal :=
  R.x n + R.gate n * ∑ k : Fin 1024, mixed R W k * W.wo k n

/-- A number of the stream after the merge, normed and modulated. -/
def hmid (R : Row) (W : Wts) (n : Fin 1024) : EReal :=
  xmid R W n * Ideal.rsqrt (Ideal.div (∑ l : Fin 1024, xmid R W l * xmid R W l) (Ideal.ofBits .f32 0x44800000#32) + Ideal.ofBits .f32 0x358637BD#32) * W.g n
    * (1 + R.sc n) + R.sh n

/-- A row that reads its gates in the combined projection's columns, and its modulation in one row of six parts. -/
def rowOf (x attn rec_ four : Fin 1024 → EReal) (u : Fin 9216 → EReal) (md : Fin 6144 → EReal) : Row where
  x := x
  attn := attn
  rec_ := rec_
  four := four
  lg k := u ⟨4096 + k.val, by omega⟩
  g0 k := u ⟨6144 + k.val, by omega⟩
  g1 k := u ⟨7168 + k.val, by omega⟩
  g2 k := u ⟨8192 + k.val, by omega⟩
  gate k := md ⟨2048 + k.val, by omega⟩
  sh k := md ⟨3072 + k.val, by omega⟩
  sc k := md ⟨4096 + k.val, by omega⟩

end Cert.Merge

namespace Cert.KernelMergeIdeal.Own

open Idealize.ShloMosaic Idealize.ShloMosaic.TcCoe Idealize.ShloMosaic.Tactic Idealize.SL.Sem
open Cert.KernelMergeIdeal Cert.KernelMergeIdeal.Gen Cert.KernelMergeIdeal.Value Cert.Merge

/-- The row that the body reads in its blocks. -/
def blkRow (c : BitVec 1) (x0 : Vec Ideal S256x1024 .f32) (x1 x2 : Vec Ideal S256x1024 .bf16) (x3 : Vec Ideal S256x1024 .f32)
    (x4 x5 x6 x7 x8 x9 : Vec Ideal S256x1024 .bf16) (x14 x16 x17 : Vec Ideal S1x1x1x1024 .f32) (r : Fin 256) : Row where
  x k := x0 (ix2 r k)
  attn k := Scalar.select c (x1 (ix2 r k)) (x2 (ix2 r k))
  rec_ k := x3 (ix2 r k)
  four k := Scalar.select c (x4 (ix2 r k)) (x5 (ix2 r k))
  lg k := x6 (ix2 r k)
  g0 k := x7 (ix2 r k)
  g1 k := x8 (ix2 r k)
  g2 k := x9 (ix2 r k)
  gate k := x14 (ix4 0 0 0 k)
  sh k := x16 (ix4 0 0 0 k)
  sc k := x17 (ix4 0 0 0 k)

/-- The weights that the body reads. -/
def blkWts (x10 x11 x12 x13 : Vec Ideal S1024x1024 .bf16) (x15 : Vec Ideal S1x1024 .f32) : Wts where
  wa j k := x10 (ix2 j k)
  wl j k := x11 (ix2 j k)
  wf j k := x12 (ix2 j k)
  wo j k := x13 (ix2 j k)
  g k := x15 (ix2 0 k)

/-! ## What the body computes from its blocks -/

/-- The attention's branch times its weights. -/
theorem pay2_at (i : grid0.Coords) (a b : Vec Ideal S256x1024 .bf16) (w : Vec Ideal S1024x1024 .bf16) (r : Fin 256) (n : Fin 1024) :
    k0_pay2 (F := Ideal) i a b w (ix2 r n)
      = ∑ k : Fin 1024, (Scalar.select (Scalar.cmpi .slt (BitVec.ofNat 32 (i 0).val) 64#32) (a (ix2 r k)) (b (ix2 r k)) : EReal) * w (ix2 k n) := by
  pointwise [k0_pay2]

/-- The recurrence's branch, gated, times its weights. -/
theorem pay3_at (x : Vec Ideal S256x1024 .f32) (u : Vec Ideal S256x1024 .bf16) (w : Vec Ideal S1024x1024 .bf16) (r : Fin 256) (n : Fin 1024) :
    k0_pay3 (F := Ideal) x u w (ix2 r n) = ∑ k : Fin 1024, x (ix2 r k) * gelu (u (ix2 r k)) * w (ix2 k n) := by
  pointwise [k0_pay3]
  rfl

/-- The stream after the merge. -/
theorem pay6_at (c : BitVec 1) (a b : FVec Ideal S256x1024 .f32) (v33 v35 : FVec Ideal S256x1024 .bf16) (w : Vec Ideal S1024x1024 .bf16)
    (v40 v45 v51 : Vec Ideal S256x1024 .bf16) (x : Vec Ideal S256x1024 .f32) (v59 : Vec Ideal S1x1x1x1024 .f32) (v62 : Vec Ideal S1024x1024 .bf16)
    (r : Fin 256) (n : Fin 1024) :
    k0_pay6 (F := Ideal) c a b v33 v35 w v40 v45 v51 x v59 v62 (ix2 r n)
      = x (ix2 r n) + v59 (ix4 0 0 0 n) * ∑ k : Fin 1024, (Ideal.logistic (v40 (ix2 r k)) * a (ix2 r k) + Ideal.logistic (v45 (ix2 r k)) * b (ix2 r k)
          + Ideal.logistic (v51 (ix2 r k)) * ∑ j : Fin 1024, (Scalar.select c (v33 (ix2 r j)) (v35 (ix2 r j)) : EReal) * w (ix2 j k)) * v62 (ix2 k n) := by
  pointwise [k0_pay6]

/-- The sum of a row's squares. -/
theorem pay7_at (c : BitVec 1) (a b : FVec Ideal S256x1024 .f32) (v33 v35 : FVec Ideal S256x1024 .bf16) (w : Vec Ideal S1024x1024 .bf16)
    (v40 v45 v51 : Vec Ideal S256x1024 .bf16) (x : Vec Ideal S256x1024 .f32) (v59 : Vec Ideal S1x1x1x1024 .f32) (v62 : Vec Ideal S1024x1024 .bf16)
    (r : Fin 256) :
    k0_pay7 (F := Ideal) c a b v33 v35 w v40 v45 v51 x v59 v62 (ix2 r 0)
      = ∑ l : Fin 1024, k0_pay6 (F := Ideal) c a b v33 v35 w v40 v45 v51 x v59 v62 (ix2 r l) * k0_pay6 (F := Ideal) c a b v33 v35 w v40 v45 v51 x v59 v62 (ix2 r l) := by
  unfold k0_pay7
  generalize k0_pay6 (F := Ideal) c a b v33 v35 w v40 v45 v51 x v59 v62 = X
  pointwise

/-- The norm and the modulation of the stream after the merge. -/
theorem pay9_at (xm : FVec Ideal S256x1024 .f32) (q d : FVec Ideal S256x1 .f32) (g : Vec Ideal S1x1024 .f32) (sc sh : Vec Ideal S1x1x1x1024 .f32)
    (r : Fin 256) (n : Fin 1024) :
    k0_pay9 (F := Ideal) xm q d g sc sh (ix2 r n)
      = xm (ix2 r n) * Ideal.rsqrt (Ideal.div (q (ix2 r 0)) (d (ix2 r 0)) + Ideal.ofBits .f32 0x358637BD#32) * g (ix2 0 n) * (1 + sc (ix4 0 0 0 n)) + sh (ix4 0 0 0 n) := by
  pointwise [k0_pay9]

/-- The corner of a matrix. -/
theorem zero2 : (![0, 0] : Fin 2 → Nat) = fun _ => 0 := funext fun a => by fin_cases a <;> rfl
/-- The corner of an array of four axes. -/
theorem zero4 : (![0, 0, 0, 0] : Fin 4 → Nat) = fun _ => 0 := funext fun a => by fin_cases a <;> rfl

/-- A whole block of numbers, read. -/
theorem ld_rows (x : Vec Ideal S256x1024 .f32) : View.ld x r0_0 = x := View.ld_unit_zero zero2 _ x
/-- A whole block of shorter numbers, read. -/
theorem ld_half (x : Vec Ideal S256x1024 .bf16) : View.ld x r0_0 = x := View.ld_unit_zero zero2 _ x
/-- A whole matrix of weights, read. -/
theorem ld_wts (x : Vec Ideal S1024x1024 .bf16) : View.ld x r0_1 = x := View.ld_unit_zero zero2 _ x
/-- A whole row of the modulation, read. -/
theorem ld_mod (x : Vec Ideal S1x1x1x1024 .f32) : View.ld x r0_2 = x := View.ld_unit_zero zero4 _ x

/-- The body's value of the stream after the merge, at an index. -/
theorem mid_at (i : grid0.Coords) (x0 : Vec Ideal S256x1024 .f32) (x1 x2 : Vec Ideal S256x1024 .bf16) (x3 : Vec Ideal S256x1024 .f32)
    (x4 x5 x6 x7 x8 x9 : Vec Ideal S256x1024 .bf16) (x10 x11 x12 x13 : Vec Ideal S1024x1024 .bf16) (x14 : Vec Ideal S1x1x1x1024 .f32)
    (x15 : Vec Ideal S1x1024 .f32) (x16 x17 : Vec Ideal S1x1x1x1024 .f32) (r : Fin 256) (n : Fin 1024) :
    k0_pay19 (F := Ideal) i x0 x1 x2 x3 x4 x5 x6 x7 x8 x9 x10 x11 x12 x13 x14 x15 x16 x17 (ix2 r n) = xmid (blkRow (Scalar.cmpi .slt (BitVec.ofNat 32 (i 0).val) 64#32) x0 x1 x2 x3 x4 x5 x6 x7 x8 x9 x14 x16 x17 r) (blkWts x10 x11 x12 x13 x15) n := by
  unfold k0_pay19 k0_pay18 k0_pay17 k0_pay16 k0_pay15
  simp only [ld_rows, ld_half, ld_wts, ld_mod]
  rw [pay6_at]
  simp only [pay2_at, pay3_at, k0_pay4, k0_pay5, shapeCast_self]
  rfl

/-- The body's sum of the squares of a row of the stream after the merge. -/
theorem sq_at (i : grid0.Coords) (x0 : Vec Ideal S256x1024 .f32) (x1 x2 : Vec Ideal S256x1024 .bf16) (x3 : Vec Ideal S256x1024 .f32)
    (x4 x5 x6 x7 x8 x9 : Vec Ideal S256x1024 .bf16) (x10 x11 x12 x13 : Vec Ideal S1024x1024 .bf16) (x14 : Vec Ideal S1x1x1x1024 .f32)
    (x15 : Vec Ideal S1x1024 .f32) (x16 x17 : Vec Ideal S1x1x1x1024 .f32) (r : Fin 256) :
    k0_pay20 (F := Ideal) i x0 x1 x2 x3 x4 x5 x6 x7 x8 x9 x10 x11 x12 x13 x14 x15 x16 x17 (ix2 r 0) = ∑ l : Fin 1024, xmid (blkRow (Scalar.cmpi .slt (BitVec.ofNat 32 (i 0).val) 64#32) x0 x1 x2 x3 x4 x5 x6 x7 x8 x9 x14 x16 x17 r) (blkWts x10 x11 x12 x13 x15) l * xmid (blkRow (Scalar.cmpi .slt (BitVec.ofNat 32 (i 0).val) 64#32) x0 x1 x2 x3 x4 x5 x6 x7 x8 x9 x14 x16 x17 r) (blkWts x10 x11 x12 x13 x15) l := by
  refine (pay7_at _ _ _ _ _ _ _ _ _ _ _ _ r).trans ?_
  exact Finset.sum_congr rfl fun l _ => congrArg₂ (· * ·) (mid_at i x0 x1 x2 x3 x4 x5 x6 x7 x8 x9 x10 x11 x12 x13 x14 x15 x16 x17 r l) (mid_at i x0 x1 x2 x3 x4 x5 x6 x7 x8 x9 x10 x11 x12 x13 x14 x15 x16 x17 r l)

/-- What the body norms and modulates, at an index. -/
theorem norm_at (i : grid0.Coords) (x0 : Vec Ideal S256x1024 .f32) (x1 x2 : Vec Ideal S256x1024 .bf16) (x3 : Vec Ideal S256x1024 .f32)
    (x4 x5 x6 x7 x8 x9 : Vec Ideal S256x1024 .bf16) (x10 x11 x12 x13 : Vec Ideal S1024x1024 .bf16) (x14 : Vec Ideal S1x1x1x1024 .f32)
    (x15 : Vec Ideal S1x1024 .f32) (x16 x17 : Vec Ideal S1x1x1x1024 .f32) (r : Fin 256) (n : Fin 1024) :
    k0_pay9 (F := Ideal) (k0_pay19 i x0 x1 x2 x3 x4 x5 x6 x7 x8 x9 x10 x11 x12 x13 x14 x15 x16 x17) (k0_pay20 i x0 x1 x2 x3 x4 x5 x6 x7 x8 x9 x10 x11 x12 x13 x14 x15 x16 x17) (k0_pay21 i x0 x1 x2 x3 x4 x5 x6 x7 x8 x9 x10 x11 x12 x13 x14 x15 x16 x17) x15 x17 x16 (ix2 r n) = hmid (blkRow (Scalar.cmpi .slt (BitVec.ofNat 32 (i 0).val) 64#32) x0 x1 x2 x3 x4 x5 x6 x7 x8 x9 x14 x16 x17 r) (blkWts x10 x11 x12 x13 x15) n := by
  rw [pay9_at, mid_at, sq_at]
  rfl

/-- What the body leaves in the first output's buffer, at an index. -/
theorem out18_at (i : grid0.Coords) (x0 : Vec Ideal S256x1024 .f32) (x1 x2 : Vec Ideal S256x1024 .bf16) (x3 : Vec Ideal S256x1024 .f32)
    (x4 x5 x6 x7 x8 x9 : Vec Ideal S256x1024 .bf16) (x10 x11 x12 x13 : Vec Ideal S1024x1024 .bf16) (x14 : Vec Ideal S1x1x1x1024 .f32)
    (x15 : Vec Ideal S1x1024 .f32) (x16 x17 : Vec Ideal S1x1x1x1024 .f32) (r : Fin 256) (n : Fin 1024) :
    out0_18 (F := Ideal) i x0 x1 x2 x3 x4 x5 x6 x7 x8 x9 x10 x11 x12 x13 x14 x15 x16 x17 (ix2 r n) = xmid (blkRow (Scalar.cmpi .slt (BitVec.ofNat 32 (i 0).val) 64#32) x0 x1 x2 x3 x4 x5 x6 x7 x8 x9 x14 x16 x17 r) (blkWts x10 x11 x12 x13 x15) n := by
  unfold out0_18
  rw [View.canon_unit_zero zero2]
  exact mid_at i x0 x1 x2 x3 x4 x5 x6 x7 x8 x9 x10 x11 x12 x13 x14 x15 x16 x17 r n

/-- What the body leaves in the second output's buffer, at an index. -/
theorem out19_at (i : grid0.Coords) (x0 : Vec Ideal S256x1024 .f32) (x1 x2 : Vec Ideal S256x1024 .bf16) (x3 : Vec Ideal S256x1024 .f32)
    (x4 x5 x6 x7 x8 x9 : Vec Ideal S256x1024 .bf16) (x10 x11 x12 x13 : Vec Ideal S1024x1024 .bf16) (x14 : Vec Ideal S1x1x1x1024 .f32)
    (x15 : Vec Ideal S1x1024 .f32) (x16 x17 : Vec Ideal S1x1x1x1024 .f32) (r : Fin 256) (n : Fin 1024) :
    out0_19 (F := Ideal) i x0 x1 x2 x3 x4 x5 x6 x7 x8 x9 x10 x11 x12 x13 x14 x15 x16 x17 (ix2 r n) = hmid (blkRow (Scalar.cmpi .slt (BitVec.ofNat 32 (i 0).val) 64#32) x0 x1 x2 x3 x4 x5 x6 x7 x8 x9 x14 x16 x17 r) (blkWts x10 x11 x12 x13 x15) n := by
  unfold out0_19
  rw [View.canon_unit_zero zero2, View.ld_unit_zero zero2, View.ld_unit_zero zero4, View.ld_unit_zero zero4]
  exact norm_at i x0 x1 x2 x3 x4 x5 x6 x7 x8 x9 x10 x11 x12 x13 x14 x15 x16 x17 r n

end Cert.KernelMergeIdeal.Own

end
-- ==== Proof.MergeArr.lean ====
module

public import proofs.«01_k».proof.Proof.MergeBody

@[expose] public section

set_option maxRecDepth 16384

noncomputable section

namespace Cert.KernelMergeIdeal.Own

open Idealize.ShloMosaic Idealize.ShloMosaic.TcCoe Idealize.ShloMosaic.Tactic Idealize.SL.Sem
open Idealize.ShloMosaic.Pipeline (Dat)
open Cert.KernelMergeIdeal Cert.KernelMergeIdeal.Gen Cert.KernelMergeIdeal.Value Cert.Merge

/-! ## The arrays the call finds, as functions of the arguments -/

section Arrays
variable {F : FTy → Type} [FloatOps F]

/-- The rows of both streams: the latents' of each batch, then the context's. -/
def xArr (a : FVec F S2x8192x1024 .f32) (b : FVec F S2x256x1024 .f32) : FVec F S16896x1024 .f32 :=
  concatenate S16896x1024 0 [⟨S16384x1024, shapeCast S16384x1024 a shapeCasts_S2x8192x1024_S16384x1024⟩,
    ⟨S512x1024, shapeCast S512x1024 b shapeCasts_S2x256x1024_S512x1024⟩] concatenates_S16384x1024_S512x1024_S16896x1024_d0

/-- The rows of the combined projection: the latents' of each batch, then the context's. -/
def uArr (a : FVec F S2x8192x9216 .f32) (b : FVec F S2x256x9216 .f32) : FVec F S16896x9216 .f32 :=
  concatenate S16896x9216 0 [⟨S16384x9216, shapeCast S16384x9216 a shapeCasts_S2x8192x9216_S16384x9216⟩,
    ⟨S512x9216, shapeCast S512x9216 b shapeCasts_S2x256x9216_S512x9216⟩] concatenates_S16384x9216_S512x9216_S16896x9216_d0

/-- The latents' rows of a branch. -/
def latArr (a : FVec F S2x8192x1024 .f32) : FVec F S16384x1024 .bf16 :=
  truncf .bf16 (shapeCast S16384x1024 a shapeCasts_S2x8192x1024_S16384x1024) bitsLt_bf16_f32

/-- The context's rows of a branch. -/
def ctxArr (a : FVec F S2x256x1024 .f32) : FVec F S512x1024 .bf16 :=
  truncf .bf16 (shapeCast S512x1024 a shapeCasts_S2x256x1024_S512x1024) bitsLt_bf16_f32

/-- The modulation's rows: one of each batch, the context's, and five of zeros. -/
def modRows (a2 : FVec F S2x6144 .f32) (a3 : FVec F S6144 .f32) : FVec F S8x6144 .f32 :=
  concatenate S8x6144 0 [⟨S3x6144, concatenate S3x6144 0 [⟨S2x6144, a2⟩, ⟨S1x6144, shapeCast S1x6144 a3 shapeCasts_S6144_S1x6144⟩] concatenates_S2x6144_S1x6144_S3x6144_d0⟩,
    ⟨S5x6144, broadcastInDim S5x6144 ![] bcast_S_S5x6144 (constant S_ .f32 0x00000000#32)⟩] concatenates_S3x6144_S5x6144_S8x6144_d0

/-- The modulation's rows, each in its six parts. -/
def modArr (a2 : FVec F S2x6144 .f32) (a3 : FVec F S6144 .f32) : FVec F S8x6x1x1024 .f32 :=
  shapeCast S8x6x1x1024 (modRows a2 a3) shapeCasts_S8x6144_S8x6x1x1024

end Arrays

/-- A latent row of the joined rows. -/
theorem xArr_lat (a0 : FVec Ideal S2x8192x1024 .f32) (a1 : FVec Ideal S2x256x1024 .f32) (b : Fin 2) (s : Fin 8192) (k : Fin 1024)
    (R : Fin 16896) (hR : R.val = b.val * 8192 + s.val) : xArr a0 a1 (ix2 R k) = a0 (ix3 b s k) := by
  have e : xArr a0 a1 (ix2 R k) = shapeCast S16384x1024 a0 shapeCasts_S2x8192x1024_S16384x1024 (ix2 ⟨R.val, by omega⟩ k) := by
    unfold xArr
    generalize shapeCast S16384x1024 a0 shapeCasts_S2x8192x1024_S16384x1024 = X
    have : R.val < 16384 := by omega
    pointwise
    simp [this]
  refine e.trans (shapeCast_apply _ _ _ (ix3 b s k) ?_)
  rw [Shape.rowMajor_val_three, Shape.rowMajor_val_two]
  show (b.val * 8192 + s.val) * 1024 + k.val = R.val * 1024 + k.val
  omega

/-- A context row of the joined rows. -/
theorem xArr_ctx (a0 : FVec Ideal S2x8192x1024 .f32) (a1 : FVec Ideal S2x256x1024 .f32) (b : Fin 2) (s : Fin 256) (k : Fin 1024)
    (R : Fin 16896) (hR : R.val = 16384 + b.val * 256 + s.val) : xArr a0 a1 (ix2 R k) = a1 (ix3 b s k) := by
  have e : xArr a0 a1 (ix2 R k) = shapeCast S512x1024 a1 shapeCasts_S2x256x1024_S512x1024 (ix2 ⟨R.val - 16384, by omega⟩ k) := by
    unfold xArr
    generalize shapeCast S512x1024 a1 shapeCasts_S2x256x1024_S512x1024 = X
    have : ¬ R.val < 16384 := by omega
    pointwise
    simp [this]
  refine e.trans (shapeCast_apply _ _ _ (ix3 b s k) ?_)
  rw [Shape.rowMajor_val_three, Shape.rowMajor_val_two]
  show (b.val * 256 + s.val) * 1024 + k.val = (R.val - 16384) * 1024 + k.val
  omega

/-- A latent row of the joined projection. -/
theorem uArr_lat (a0 : FVec Ideal S2x8192x9216 .f32) (a1 : FVec Ideal S2x256x9216 .f32) (b : Fin 2) (s : Fin 8192) (k : Fin 9216)
    (R : Fin 16896) (hR : R.val = b.val * 8192 + s.val) : uArr a0 a1 (ix2 R k) = a0 (ix3 b s k) := by
  have e : uArr a0 a1 (ix2 R k) = shapeCast S16384x9216 a0 shapeCasts_S2x8192x9216_S16384x9216 (ix2 ⟨R.val, by omega⟩ k) := by
    unfold uArr
    generalize shapeCast S16384x9216 a0 shapeCasts_S2x8192x9216_S16384x9216 = X
    have : R.val < 16384 := by omega
    pointwise
    simp [this]
  refine e.trans (shapeCast_apply _ _ _ (ix3 b s k) ?_)
  rw [Shape.rowMajor_val_three, Shape.rowMajor_val_two]
  show (b.val * 8192 + s.val) * 9216 + k.val = R.val * 9216 + k.val
  omega

/-- A context row of the joined projection. -/
theorem uArr_ctx (a0 : FVec Ideal S2x8192x9216 .f32) (a1 : FVec Ideal S2x256x9216 .f32) (b : Fin 2) (s : Fin 256) (k : Fin 9216)
    (R : Fin 16896) (hR : R.val = 16384 + b.val * 256 + s.val) : uArr a0 a1 (ix2 R k) = a1 (ix3 b s k) := by
  have e : uArr a0 a1 (ix2 R k) = shapeCast S512x9216 a1 shapeCasts_S2x256x9216_S512x9216 (ix2 ⟨R.val - 16384, by omega⟩ k) := by
    unfold uArr
    generalize shapeCast S512x9216 a1 shapeCasts_S2x256x9216_S512x9216 = X
    have : ¬ R.val < 16384 := by omega
    pointwise
    simp [this]
  refine e.trans (shapeCast_apply _ _ _ (ix3 b s k) ?_)
  rw [Shape.rowMajor_val_three, Shape.rowMajor_val_two]
  show (b.val * 256 + s.val) * 9216 + k.val = (R.val - 16384) * 9216 + k.val
  omega

/-- A row of the latents' branch. -/
theorem latArr_at (a : FVec Ideal S2x8192x1024 .f32) (b : Fin 2) (s : Fin 8192) (k : Fin 1024) (R : Fin 16384) (hR : R.val = b.val * 8192 + s.val) :
    latArr a (ix2 R k) = a (ix3 b s k) := by
  refine shapeCast_apply _ _ (ix2 R k) (ix3 b s k) ?_
  rw [Shape.rowMajor_val_three, Shape.rowMajor_val_two]
  show (b.val * 8192 + s.val) * 1024 + k.val = R.val * 1024 + k.val
  omega

/-- A row of the context's branch. -/
theorem ctxArr_at (a : FVec Ideal S2x256x1024 .f32) (b : Fin 2) (s : Fin 256) (k : Fin 1024) (R : Fin 512) (hR : R.val = b.val * 256 + s.val) :
    ctxArr a (ix2 R k) = a (ix3 b s k) := by
  refine shapeCast_apply _ _ (ix2 R k) (ix3 b s k) ?_
  rw [Shape.rowMajor_val_three, Shape.rowMajor_val_two]
  show (b.val * 256 + s.val) * 1024 + k.val = R.val * 1024 + k.val
  omega

/-- A batch's row of the modulation. -/
theorem modRows_lat (a2 : FVec Ideal S2x6144 .f32) (a3 : FVec Ideal S6144 .f32) (b : Fin 2) (y : Fin 6144) :
    modRows a2 a3 (ix2 ⟨b.val, by omega⟩ y) = a2 (ix2 b y) := by
  pointwise [modRows]
  exact dif_pos (by omega)

/-- The context's row of the modulation. -/
theorem modRows_ctx (a2 : FVec Ideal S2x6144 .f32) (a3 : FVec Ideal S6144 .f32) (y : Fin 6144) :
    modRows a2 a3 (ix2 2 y) = a3 (ix1 y) := by
  pointwise [modRows]

/-- A part of a row of the modulation. -/
theorem modArr_at (a2 : FVec Ideal S2x6144 .f32) (a3 : FVec Ideal S6144 .f32) (q : Fin 8) (p : Fin 6) (k : Fin 1024)
    (y : Fin 6144) (hy : y.val = p.val * 1024 + k.val) : modArr a2 a3 (ix4 q p 0 k) = modRows a2 a3 (ix2 q y) := by
  refine shapeCast_apply _ _ _ (ix2 q y) ?_
  rw [Shape.rowMajor_val_four, Shape.rowMajor_val_two]
  show q.val * 6144 + y.val = ((q.val * 6 + p.val) * 1 + 0) * 1024 + k.val
  omega

/-- A part of the modulation's row of a block of latent rows. -/
theorem mod_lat (a2 : FVec Ideal S2x6144 .f32) (a3 : FVec Ideal S6144 .f32) (b : Fin 2) (q : Fin 8) (hq : q.val = b.val) (p : Fin 6) (k : Fin 1024)
    (y : Fin 6144) (hy : y.val = p.val * 1024 + k.val) : modArr a2 a3 (ix4 q p 0 k) = a2 (ix2 b y) := by
  have e : q = ⟨b.val, Nat.lt_trans b.isLt (by decide)⟩ := Fin.ext hq
  exact (modArr_at a2 a3 q p k y hy).trans ((congrArg (fun q => modRows a2 a3 (ix2 q y)) e).trans (modRows_lat a2 a3 b y))

/-- A part of the modulation's row of a block of context rows. -/
theorem mod_ctx (a2 : FVec Ideal S2x6144 .f32) (a3 : FVec Ideal S6144 .f32) (q : Fin 8) (hq : q.val = 2) (p : Fin 6) (k : Fin 1024)
    (y : Fin 6144) (hy : y.val = p.val * 1024 + k.val) : modArr a2 a3 (ix4 q p 0 k) = a3 (ix1 y) := by
  obtain rfl : q = 2 := Fin.ext hq
  exact (modArr_at a2 a3 _ p k y hy).trans (modRows_ctx a2 a3 y)

variable (m : (ℓ : Loc nD τ sig) → Buf (Elt Ideal) ℓ)

/-- The call finds the rows of both streams. -/
theorem V_x (c : Dev nD) : (V m c main_v7 : FVec Ideal S16896x1024 .f32) = xArr (F := Ideal) (m ((c : Thread nD τ).loc main_arg0)) (m ((c : Thread nD τ).loc main_arg1)) := by
  entry_read
  rfl

/-- The call finds the latents' rows of the attention. -/
theorem V_al (c : Dev nD) : (V m c main_v9 : FVec Ideal S16384x1024 .bf16) = latArr (F := Ideal) (m ((c : Thread nD τ).loc main_arg2)) := by
  entry_read
  rfl

/-- The call finds the context's rows of the attention. -/
theorem V_ac (c : Dev nD) : (V m c main_v11 : FVec Ideal S512x1024 .bf16) = ctxArr (F := Ideal) (m ((c : Thread nD τ).loc main_arg3)) := by
  entry_read
  rfl

/-- The call finds the rows of the recurrence. -/
theorem V_rec (c : Dev nD) : (V m c main_v14 : FVec Ideal S16896x1024 .f32) = xArr (F := Ideal) (m ((c : Thread nD τ).loc main_arg4)) (m ((c : Thread nD τ).loc main_arg5)) := by
  entry_read
  rfl

/-- The call finds the latents' rows of the Fourier branch. -/
theorem V_fl (c : Dev nD) : (V m c main_v16 : FVec Ideal S16384x1024 .bf16) = latArr (F := Ideal) (m ((c : Thread nD τ).loc main_arg6)) := by
  entry_read
  rfl

/-- The call finds the context's rows of the Fourier branch. -/
theorem V_fc (c : Dev nD) : (V m c main_v18 : FVec Ideal S512x1024 .bf16) = ctxArr (F := Ideal) (m ((c : Thread nD τ).loc main_arg7)) := by
  entry_read
  rfl

/-- The call finds the rows of the combined projection. -/
theorem V_u (c : Dev nD) : (V m c main_v22 : FVec Ideal S16896x9216 .bf16) = truncf (F := Ideal) .bf16 (uArr (F := Ideal) (m ((c : Thread nD τ).loc main_arg8)) (m ((c : Thread nD τ).loc main_arg9))) bitsLt_bf16_f32 := by
  entry_read
  rfl

/-- The call finds the modulation's rows in parts. -/
theorem V_mod (c : Dev nD) : (V m c main_v4 : FVec Ideal S8x6x1x1024 .f32) = modArr (F := Ideal) (m ((c : Thread nD τ).loc main_arg14)) (m ((c : Thread nD τ).loc main_arg15)) := by
  entry_read
  rfl

/-- The call finds the attention's weights. -/
theorem V_wa (c : Dev nD) (k n : Fin 1024) : V m c main_v23 (ix2 k n) = m ((c : Thread nD τ).loc main_arg10) (ix2 k n) := by
  entry_read
  pointwise

/-- The call finds the recurrence's weights. -/
theorem V_wl (c : Dev nD) (k n : Fin 1024) : V m c main_v24 (ix2 k n) = m ((c : Thread nD τ).loc main_arg11) (ix2 k n) := by
  entry_read
  pointwise

/-- The call finds the Fourier branch's weights. -/
theorem V_wf (c : Dev nD) (k n : Fin 1024) : V m c main_v25 (ix2 k n) = m ((c : Thread nD τ).loc main_arg12) (ix2 k n) := by
  entry_read
  pointwise

/-- The call finds the merged branches' weights. -/
theorem V_wo (c : Dev nD) (k n : Fin 1024) : V m c main_v26 (ix2 k n) = m ((c : Thread nD τ).loc main_arg13) (ix2 k n) := by
  entry_read
  pointwise

/-- The call finds the norm's scale as a row. -/
theorem V_g (c : Dev nD) (k : Fin 1024) : V m c main_v27 (ix2 0 k) = m ((c : Thread nD τ).loc main_arg16) (ix1 k) := by
  entry_read
  pointwise

/-! ## The blocks at a grid point -/

/-- Window 0's block index at every grid point. -/
theorem idx0 (t : Fin cfg0.N) : win0_0.index t = ![t.val, 0] :=
  (by decide +kernel : ∀ t : Fin grid0.N, win0_0.index t = ![t.val, 0]) t

/-- Window 1's block index at every grid point. -/
theorem idx1 (t : Fin cfg0.N) : win0_1.index t = ![min t.val 63, 0] :=
  (by decide +kernel : ∀ t : Fin grid0.N, win0_1.index t = ![min t.val 63, 0]) t

/-- Window 2's block index at every grid point. -/
theorem idx2 (t : Fin cfg0.N) : win0_2.index t = ![min (t.val - 64) 1, 0] :=
  (by decide +kernel : ∀ t : Fin grid0.N, win0_2.index t = ![min (t.val - 64) 1, 0]) t

/-- Window 3's block index at every grid point. -/
theorem idx3 (t : Fin cfg0.N) : win0_3.index t = ![t.val, 0] :=
  (by decide +kernel : ∀ t : Fin grid0.N, win0_3.index t = ![t.val, 0]) t

/-- Window 4's block index at every grid point. -/
theorem idx4 (t : Fin cfg0.N) : win0_4.index t = ![min t.val 63, 0] :=
  (by decide +kernel : ∀ t : Fin grid0.N, win0_4.index t = ![min t.val 63, 0]) t

/-- Window 5's block index at every grid point. -/
theorem idx5 (t : Fin cfg0.N) : win0_5.index t = ![min (t.val - 64) 1, 0] :=
  (by decide +kernel : ∀ t : Fin grid0.N, win0_5.index t = ![min (t.val - 64) 1, 0]) t

/-- Window 6's block index at every grid point. -/
theorem idx6 (t : Fin cfg0.N) : win0_6.index t = ![t.val, 4] :=
  (by decide +kernel : ∀ t : Fin grid0.N, win0_6.index t = ![t.val, 4]) t

/-- Window 7's block index at every grid point. -/
theorem idx7 (t : Fin cfg0.N) : win0_7.index t = ![t.val, 6] :=
  (by decide +kernel : ∀ t : Fin grid0.N, win0_7.index t = ![t.val, 6]) t

/-- Window 8's block index at every grid point. -/
theorem idx8 (t : Fin cfg0.N) : win0_8.index t = ![t.val, 7] :=
  (by decide +kernel : ∀ t : Fin grid0.N, win0_8.index t = ![t.val, 7]) t

/-- Window 9's block index at every grid point. -/
theorem idx9 (t : Fin cfg0.N) : win0_9.index t = ![t.val, 8] :=
  (by decide +kernel : ∀ t : Fin grid0.N, win0_9.index t = ![t.val, 8]) t

/-- Window 10's block index at every grid point. -/
theorem idx10 (t : Fin cfg0.N) : win0_10.index t = ![0, 0] :=
  (by decide +kernel : ∀ t : Fin grid0.N, win0_10.index t = ![0, 0]) t

/-- Window 11's block index at every grid point. -/
theorem idx11 (t : Fin cfg0.N) : win0_11.index t = ![0, 0] :=
  (by decide +kernel : ∀ t : Fin grid0.N, win0_11.index t = ![0, 0]) t

/-- Window 12's block index at every grid point. -/
theorem idx12 (t : Fin cfg0.N) : win0_12.index t = ![0, 0] :=
  (by decide +kernel : ∀ t : Fin grid0.N, win0_12.index t = ![0, 0]) t

/-- Window 13's block index at every grid point. -/
theorem idx13 (t : Fin cfg0.N) : win0_13.index t = ![0, 0] :=
  (by decide +kernel : ∀ t : Fin grid0.N, win0_13.index t = ![0, 0]) t

/-- Window 14's block index at every grid point. -/
theorem idx14 (t : Fin cfg0.N) : win0_14.index t = ![min (t.val / 32) 2, 2, 0, 0] :=
  (by decide +kernel : ∀ t : Fin grid0.N, win0_14.index t = ![min (t.val / 32) 2, 2, 0, 0]) t

/-- Window 15's block index at every grid point. -/
theorem idx15 (t : Fin cfg0.N) : win0_15.index t = ![0, 0] :=
  (by decide +kernel : ∀ t : Fin grid0.N, win0_15.index t = ![0, 0]) t

/-- Window 16's block index at every grid point. -/
theorem idx16 (t : Fin cfg0.N) : win0_16.index t = ![min (t.val / 32) 2, 3, 0, 0] :=
  (by decide +kernel : ∀ t : Fin grid0.N, win0_16.index t = ![min (t.val / 32) 2, 3, 0, 0]) t

/-- Window 17's block index at every grid point. -/
theorem idx17 (t : Fin cfg0.N) : win0_17.index t = ![min (t.val / 32) 2, 4, 0, 0] :=
  (by decide +kernel : ∀ t : Fin grid0.N, win0_17.index t = ![min (t.val / 32) 2, 4, 0, 0]) t

/-- Window 18's block index at every grid point. -/
theorem idx18 (t : Fin cfg0.N) : win0_18.index t = ![t.val, 0] :=
  (by decide +kernel : ∀ t : Fin grid0.N, win0_18.index t = ![t.val, 0]) t

/-- Window 19's block index at every grid point. -/
theorem idx19 (t : Fin cfg0.N) : win0_19.index t = ![t.val, 0] :=
  (by decide +kernel : ∀ t : Fin grid0.N, win0_19.index t = ![t.val, 0]) t

/-- A grid point is below 66. -/
theorem pt_lt (t : Fin cfg0.N) : t.val < 66 := t.isLt

/-- The body takes the latents' blocks at the points of latent rows. -/
theorem sel_lat (t : Fin cfg0.N) (h : t.val < 64) : Scalar.cmpi .slt (BitVec.ofNat 32 (grid0.coords t 0).val) 64#32 = 1#1 :=
  (by decide +kernel : ∀ t : Fin grid0.N, t.val < 64 → Scalar.cmpi .slt (BitVec.ofNat 32 (grid0.coords t 0).val) 64#32 = 1#1) t h

/-- The body takes the context's blocks at the points of context rows. -/
theorem sel_ctx (t : Fin cfg0.N) (h : ¬ t.val < 64) : Scalar.cmpi .slt (BitVec.ofNat 32 (grid0.coords t 0).val) 64#32 = 0#1 :=
  (by decide +kernel : ∀ t : Fin grid0.N, ¬ t.val < 64 → Scalar.cmpi .slt (BitVec.ofNat 32 (grid0.coords t 0).val) 64#32 = 0#1) t h

/-- Window 0's block, of any contents. -/
theorem rd0 (X : FVec Ideal S16896x1024 .f32) (t : Fin cfg0.N) (r : Fin 256) (k : Fin 1024) :
    ((cfg0.win 0).blk t).view.read (Elt Ideal) X (ix2 r k) = X (ix2 ⟨t.val * 256 + r.val, by have := pt_lt t; omega⟩ k) := by
  have := pt_lt t
  blk_ext [idx0 t]

/-- Window 1's block, of any contents. -/
theorem rd1 (X : FVec Ideal S16384x1024 .bf16) (t : Fin cfg0.N) (r : Fin 256) (k : Fin 1024) :
    ((cfg0.win 1).blk t).view.read (Elt Ideal) X (ix2 r k) = X (ix2 ⟨min t.val 63 * 256 + r.val, by omega⟩ k) := by
  have := pt_lt t
  blk_ext [idx1 t]

/-- Window 2's block, of any contents. -/
theorem rd2 (X : FVec Ideal S512x1024 .bf16) (t : Fin cfg0.N) (r : Fin 256) (k : Fin 1024) :
    ((cfg0.win 2).blk t).view.read (Elt Ideal) X (ix2 r k) = X (ix2 ⟨min (t.val - 64) 1 * 256 + r.val, by omega⟩ k) := by
  have := pt_lt t
  blk_ext [idx2 t]

/-- Window 3's block, of any contents. -/
theorem rd3 (X : FVec Ideal S16896x1024 .f32) (t : Fin cfg0.N) (r : Fin 256) (k : Fin 1024) :
    ((cfg0.win 3).blk t).view.read (Elt Ideal) X (ix2 r k) = X (ix2 ⟨t.val * 256 + r.val, by have := pt_lt t; omega⟩ k) := by
  have := pt_lt t
  blk_ext [idx3 t]

/-- Window 4's block, of any contents. -/
theorem rd4 (X : FVec Ideal S16384x1024 .bf16) (t : Fin cfg0.N) (r : Fin 256) (k : Fin 1024) :
    ((cfg0.win 4).blk t).view.read (Elt Ideal) X (ix2 r k) = X (ix2 ⟨min t.val 63 * 256 + r.val, by omega⟩ k) := by
  have := pt_lt t
  blk_ext [idx4 t]

/-- Window 5's block, of any contents. -/
theorem rd5 (X : FVec Ideal S512x1024 .bf16) (t : Fin cfg0.N) (r : Fin 256) (k : Fin 1024) :
    ((cfg0.win 5).blk t).view.read (Elt Ideal) X (ix2 r k) = X (ix2 ⟨min (t.val - 64) 1 * 256 + r.val, by omega⟩ k) := by
  have := pt_lt t
  blk_ext [idx5 t]

/-- Window 6's block, of any contents. -/
theorem rd6 (X : FVec Ideal S16896x9216 .bf16) (t : Fin cfg0.N) (r : Fin 256) (k : Fin 1024) :
    ((cfg0.win 6).blk t).view.read (Elt Ideal) X (ix2 r k) = X (ix2 ⟨t.val * 256 + r.val, by have := pt_lt t; omega⟩ ⟨4096 + k.val, by omega⟩) := by
  have := pt_lt t
  blk_ext [idx6 t]

/-- Window 7's block, of any contents. -/
theorem rd7 (X : FVec Ideal S16896x9216 .bf16) (t : Fin cfg0.N) (r : Fin 256) (k : Fin 1024) :
    ((cfg0.win 7).blk t).view.read (Elt Ideal) X (ix2 r k) = X (ix2 ⟨t.val * 256 + r.val, by have := pt_lt t; omega⟩ ⟨6144 + k.val, by omega⟩) := by
  have := pt_lt t
  blk_ext [idx7 t]

/-- Window 8's block, of any contents. -/
theorem rd8 (X : FVec Ideal S16896x9216 .bf16) (t : Fin cfg0.N) (r : Fin 256) (k : Fin 1024) :
    ((cfg0.win 8).blk t).view.read (Elt Ideal) X (ix2 r k) = X (ix2 ⟨t.val * 256 + r.val, by have := pt_lt t; omega⟩ ⟨7168 + k.val, by omega⟩) := by
  have := pt_lt t
  blk_ext [idx8 t]

/-- Window 9's block, of any contents. -/
theorem rd9 (X : FVec Ideal S16896x9216 .bf16) (t : Fin cfg0.N) (r : Fin 256) (k : Fin 1024) :
    ((cfg0.win 9).blk t).view.read (Elt Ideal) X (ix2 r k) = X (ix2 ⟨t.val * 256 + r.val, by have := pt_lt t; omega⟩ ⟨8192 + k.val, by omega⟩) := by
  have := pt_lt t
  blk_ext [idx9 t]

/-- Window 10's block, of any contents. -/
theorem rd10 (X : FVec Ideal S1024x1024 .bf16) (t : Fin cfg0.N) (j k : Fin 1024) :
    ((cfg0.win 10).blk t).view.read (Elt Ideal) X (ix2 j k) = X (ix2 j k) := by
  have := pt_lt t
  blk_ext [idx10 t]

/-- Window 11's block, of any contents. -/
theorem rd11 (X : FVec Ideal S1024x1024 .bf16) (t : Fin cfg0.N) (j k : Fin 1024) :
    ((cfg0.win 11).blk t).view.read (Elt Ideal) X (ix2 j k) = X (ix2 j k) := by
  have := pt_lt t
  blk_ext [idx11 t]

/-- Window 12's block, of any contents. -/
theorem rd12 (X : FVec Ideal S1024x1024 .bf16) (t : Fin cfg0.N) (j k : Fin 1024) :
    ((cfg0.win 12).blk t).view.read (Elt Ideal) X (ix2 j k) = X (ix2 j k) := by
  have := pt_lt t
  blk_ext [idx12 t]

/-- Window 13's block, of any contents. -/
theorem rd13 (X : FVec Ideal S1024x1024 .bf16) (t : Fin cfg0.N) (j k : Fin 1024) :
    ((cfg0.win 13).blk t).view.read (Elt Ideal) X (ix2 j k) = X (ix2 j k) := by
  have := pt_lt t
  blk_ext [idx13 t]

/-- Window 14's block, of any contents. -/
theorem rd14 (X : FVec Ideal S8x6x1x1024 .f32) (t : Fin cfg0.N) (k : Fin 1024) :
    ((cfg0.win 14).blk t).view.read (Elt Ideal) X (ix4 0 0 0 k) = X (ix4 ⟨min (t.val / 32) 2, by omega⟩ 2 0 k) := by
  have := pt_lt t
  blk_ext [idx14 t]

/-- Window 15's block, of any contents. -/
theorem rd15 (X : FVec Ideal S1x1024 .f32) (t : Fin cfg0.N) (k : Fin 1024) :
    ((cfg0.win 15).blk t).view.read (Elt Ideal) X (ix2 0 k) = X (ix2 0 k) := by
  have := pt_lt t
  blk_ext [idx15 t]

/-- Window 16's block, of any contents. -/
theorem rd16 (X : FVec Ideal S8x6x1x1024 .f32) (t : Fin cfg0.N) (k : Fin 1024) :
    ((cfg0.win 16).blk t).view.read (Elt Ideal) X (ix4 0 0 0 k) = X (ix4 ⟨min (t.val / 32) 2, by omega⟩ 3 0 k) := by
  have := pt_lt t
  blk_ext [idx16 t]

/-- Window 17's block, of any contents. -/
theorem rd17 (X : FVec Ideal S8x6x1x1024 .f32) (t : Fin cfg0.N) (k : Fin 1024) :
    ((cfg0.win 17).blk t).view.read (Elt Ideal) X (ix4 0 0 0 k) = X (ix4 ⟨min (t.val / 32) 2, by omega⟩ 4 0 k) := by
  have := pt_lt t
  blk_ext [idx17 t]

/-- Window 18's block, of any contents. -/
theorem rd18 (X : FVec Ideal S16896x1024 .f32) (t : Fin cfg0.N) (r : Fin 256) (k : Fin 1024) :
    ((cfg0.win 18).blk t).view.read (Elt Ideal) X (ix2 r k) = X (ix2 ⟨t.val * 256 + r.val, by have := pt_lt t; omega⟩ k) := by
  have := pt_lt t
  blk_ext [idx18 t]

/-- Window 19's block, of any contents. -/
theorem rd19 (X : FVec Ideal S16896x1024 .bf16) (t : Fin cfg0.N) (r : Fin 256) (k : Fin 1024) :
    ((cfg0.win 19).blk t).view.read (Elt Ideal) X (ix2 r k) = X (ix2 ⟨t.val * 256 + r.val, by have := pt_lt t; omega⟩ k) := by
  have := pt_lt t
  blk_ext [idx19 t]

end Cert.KernelMergeIdeal.Own

end
-- ==== Proof.MergeKern.lean ====
module

public import proofs.«01_k».proof.Proof.MergeArr

@[expose] public section

set_option maxRecDepth 16384

noncomputable section

namespace Cert.KernelMergeIdeal.Own

open Idealize.ShloMosaic Idealize.ShloMosaic.TcCoe Idealize.ShloMosaic.Tactic Idealize.SL.Sem
open Idealize.ShloMosaic.Pipeline (Dat)
open Cert.KernelMergeIdeal Cert.KernelMergeIdeal.Gen Cert.KernelMergeIdeal.Value Cert.Merge

/-- A latent token's row of the arguments. -/
def latRow (x attn rec_ four : FVec Ideal S2x8192x1024 .f32) (u : FVec Ideal S2x8192x9216 .f32) (md : FVec Ideal S2x6144 .f32) (b : Fin 2) (s : Fin 8192) : Row :=
  rowOf (fun k => x (ix3 b s k)) (fun k => attn (ix3 b s k)) (fun k => rec_ (ix3 b s k)) (fun k => four (ix3 b s k)) (fun k => u (ix3 b s k)) (fun k => md (ix2 b k))

/-- A context token's row of the arguments. -/
def ctxRow (x attn rec_ four : FVec Ideal S2x256x1024 .f32) (u : FVec Ideal S2x256x9216 .f32) (md : FVec Ideal S6144 .f32) (b : Fin 2) (s : Fin 256) : Row :=
  rowOf (fun k => x (ix3 b s k)) (fun k => attn (ix3 b s k)) (fun k => rec_ (ix3 b s k)) (fun k => four (ix3 b s k)) (fun k => u (ix3 b s k)) (fun k => md (ix1 k))

/-- The weights among the arguments. -/
def argWts (wa wl wf wo : FVec Ideal S1024x1024 .f32) (g : FVec Ideal S1024 .f32) : Wts where
  wa j k := wa (ix2 j k)
  wl j k := wl (ix2 j k)
  wf j k := wf (ix2 j k)
  wo j k := wo (ix2 j k)
  g k := g (ix1 k)

variable (m : (ℓ : Loc nD τ sig) → Buf (Elt Ideal) ℓ)

/-- Equal numbers in its blocks give the row of the arguments. -/
theorem blkRow_eq (c : BitVec 1) (x0 : Vec Ideal S256x1024 .f32) (x1 x2 : Vec Ideal S256x1024 .bf16) (x3 : Vec Ideal S256x1024 .f32)
    (x4 x5 x6 x7 x8 x9 : Vec Ideal S256x1024 .bf16) (x14 x16 x17 : Vec Ideal S1x1x1x1024 .f32) (r : Fin 256)
    (x attn rec_ four : Fin 1024 → EReal) (u : Fin 9216 → EReal) (md : Fin 6144 → EReal)
    (h0 : ∀ k, x0 (ix2 r k) = x k) (h1 : ∀ k, Scalar.select c (x1 (ix2 r k)) (x2 (ix2 r k)) = attn k) (h3 : ∀ k, x3 (ix2 r k) = rec_ k)
    (h4 : ∀ k, Scalar.select c (x4 (ix2 r k)) (x5 (ix2 r k)) = four k) (h6 : ∀ k : Fin 1024, x6 (ix2 r k) = u ⟨4096 + k.val, by omega⟩)
    (h7 : ∀ k : Fin 1024, x7 (ix2 r k) = u ⟨6144 + k.val, by omega⟩) (h8 : ∀ k : Fin 1024, x8 (ix2 r k) = u ⟨7168 + k.val, by omega⟩)
    (h9 : ∀ k : Fin 1024, x9 (ix2 r k) = u ⟨8192 + k.val, by omega⟩) (h14 : ∀ k : Fin 1024, x14 (ix4 0 0 0 k) = md ⟨2048 + k.val, by omega⟩)
    (h16 : ∀ k : Fin 1024, x16 (ix4 0 0 0 k) = md ⟨3072 + k.val, by omega⟩) (h17 : ∀ k : Fin 1024, x17 (ix4 0 0 0 k) = md ⟨4096 + k.val, by omega⟩) :
    blkRow c x0 x1 x2 x3 x4 x5 x6 x7 x8 x9 x14 x16 x17 r = rowOf x attn rec_ four u md :=
  Row.ext (funext h0) (funext h1) (funext h3) (funext h4) (funext h6) (funext h7) (funext h8) (funext h9) (funext h14) (funext h16) (funext h17)

/-- Equal weights in its blocks give the arguments' weights. -/
theorem blkWts_eq (x10 x11 x12 x13 : Vec Ideal S1024x1024 .bf16) (x15 : Vec Ideal S1x1024 .f32) (wa wl wf wo : FVec Ideal S1024x1024 .f32) (g : FVec Ideal S1024 .f32)
    (h10 : ∀ j k : Fin 1024, x10 (ix2 j k) = wa (ix2 j k)) (h11 : ∀ j k : Fin 1024, x11 (ix2 j k) = wl (ix2 j k)) (h12 : ∀ j k : Fin 1024, x12 (ix2 j k) = wf (ix2 j k))
    (h13 : ∀ j k : Fin 1024, x13 (ix2 j k) = wo (ix2 j k)) (h15 : ∀ k : Fin 1024, x15 (ix2 0 k) = g (ix1 k)) :
    blkWts x10 x11 x12 x13 x15 = argWts wa wl wf wo g :=
  Wts.ext (funext fun j => funext (h10 j)) (funext fun j => funext (h11 j)) (funext fun j => funext (h12 j)) (funext fun j => funext (h13 j)) (funext h15)

/-- The choice where the condition holds. -/
theorem select_one {c : BitVec 1} (h : c = 1#1) (a b : EReal) : Scalar.select c a b = a := by rw [h]; rfl
/-- The choice where the condition doesn't hold. -/
theorem select_zero {c : BitVec 1} (h : c = 0#1) (a b : EReal) : Scalar.select c a b = b := by rw [h]; rfl

/-- Window 10's block in the arguments. -/
theorem at10 (c : Dev nD) (t : Fin cfg0.N) (j k : Fin 1024) :
    (iblk m c 10 t (ix2 j k) : EReal) = (m ((c : Thread nD τ).loc main_arg10) (ix2 j k)) :=
  (rd10 _ t j k).trans (V_wa m c j k)

/-- Window 11's block in the arguments. -/
theorem at11 (c : Dev nD) (t : Fin cfg0.N) (j k : Fin 1024) :
    (iblk m c 11 t (ix2 j k) : EReal) = (m ((c : Thread nD τ).loc main_arg11) (ix2 j k)) :=
  (rd11 _ t j k).trans (V_wl m c j k)

/-- Window 12's block in the arguments. -/
theorem at12 (c : Dev nD) (t : Fin cfg0.N) (j k : Fin 1024) :
    (iblk m c 12 t (ix2 j k) : EReal) = (m ((c : Thread nD τ).loc main_arg12) (ix2 j k)) :=
  (rd12 _ t j k).trans (V_wf m c j k)

/-- Window 13's block in the arguments. -/
theorem at13 (c : Dev nD) (t : Fin cfg0.N) (j k : Fin 1024) :
    (iblk m c 13 t (ix2 j k) : EReal) = (m ((c : Thread nD τ).loc main_arg13) (ix2 j k)) :=
  (rd13 _ t j k).trans (V_wo m c j k)

/-- Window 15's block in the arguments. -/
theorem at15 (c : Dev nD) (t : Fin cfg0.N) (k : Fin 1024) :
    (iblk m c 15 t (ix2 0 k) : EReal) = (m ((c : Thread nD τ).loc main_arg16) (ix1 k)) :=
  (rd15 _ t k).trans (V_g m c k)

/-- Window 0's block in the arguments. -/
theorem at0_lat (c : Dev nD) (t : Fin cfg0.N) (r : Fin 256) (b : Fin 2) (s : Fin 8192) (h : t.val * 256 + r.val = b.val * 8192 + s.val) (k : Fin 1024) :
    (iblk m c 0 t (ix2 r k) : EReal) = (m ((c : Thread nD τ).loc main_arg0) (ix3 b s k)) :=
  (rd0 _ t r k).trans ((congrFun (V_x m c) _).trans (xArr_lat _ _ b s k _ h))

/-- Window 3's block in the arguments. -/
theorem at3_lat (c : Dev nD) (t : Fin cfg0.N) (r : Fin 256) (b : Fin 2) (s : Fin 8192) (h : t.val * 256 + r.val = b.val * 8192 + s.val) (k : Fin 1024) :
    (iblk m c 3 t (ix2 r k) : EReal) = (m ((c : Thread nD τ).loc main_arg4) (ix3 b s k)) :=
  (rd3 _ t r k).trans ((congrFun (V_rec m c) _).trans (xArr_lat _ _ b s k _ h))

/-- Window 1's block in the arguments. -/
theorem at1 (c : Dev nD) (t : Fin cfg0.N) (r : Fin 256) (b : Fin 2) (s : Fin 8192) (h : t.val * 256 + r.val = b.val * 8192 + s.val) (k : Fin 1024) :
    (iblk m c 1 t (ix2 r k) : EReal) = (m ((c : Thread nD τ).loc main_arg2) (ix3 b s k)) :=
  (rd1 _ t r k).trans ((congrFun (V_al m c) _).trans (latArr_at _ b s k _ (by have := pt_lt t; show min t.val 63 * 256 + r.val = _; omega)))

/-- Window 4's block in the arguments. -/
theorem at4 (c : Dev nD) (t : Fin cfg0.N) (r : Fin 256) (b : Fin 2) (s : Fin 8192) (h : t.val * 256 + r.val = b.val * 8192 + s.val) (k : Fin 1024) :
    (iblk m c 4 t (ix2 r k) : EReal) = (m ((c : Thread nD τ).loc main_arg6) (ix3 b s k)) :=
  (rd4 _ t r k).trans ((congrFun (V_fl m c) _).trans (latArr_at _ b s k _ (by have := pt_lt t; show min t.val 63 * 256 + r.val = _; omega)))

/-- Window 6's block in the arguments. -/
theorem at6_lat (c : Dev nD) (t : Fin cfg0.N) (r : Fin 256) (b : Fin 2) (s : Fin 8192) (h : t.val * 256 + r.val = b.val * 8192 + s.val) (k : Fin 1024) :
    (iblk m c 6 t (ix2 r k) : EReal) = (m ((c : Thread nD τ).loc main_arg8) (ix3 b s ⟨4096 + k.val, by omega⟩)) :=
  (rd6 _ t r k).trans ((congrFun (V_u m c) _).trans (uArr_lat _ _ b s _ _ h))

/-- Window 7's block in the arguments. -/
theorem at7_lat (c : Dev nD) (t : Fin cfg0.N) (r : Fin 256) (b : Fin 2) (s : Fin 8192) (h : t.val * 256 + r.val = b.val * 8192 + s.val) (k : Fin 1024) :
    (iblk m c 7 t (ix2 r k) : EReal) = (m ((c : Thread nD τ).loc main_arg8) (ix3 b s ⟨6144 + k.val, by omega⟩)) :=
  (rd7 _ t r k).trans ((congrFun (V_u m c) _).trans (uArr_lat _ _ b s _ _ h))

/-- Window 8's block in the arguments. -/
theorem at8_lat (c : Dev nD) (t : Fin cfg0.N) (r : Fin 256) (b : Fin 2) (s : Fin 8192) (h : t.val * 256 + r.val = b.val * 8192 + s.val) (k : Fin 1024) :
    (iblk m c 8 t (ix2 r k) : EReal) = (m ((c : Thread nD τ).loc main_arg8) (ix3 b s ⟨7168 + k.val, by omega⟩)) :=
  (rd8 _ t r k).trans ((congrFun (V_u m c) _).trans (uArr_lat _ _ b s _ _ h))

/-- Window 9's block in the arguments. -/
theorem at9_lat (c : Dev nD) (t : Fin cfg0.N) (r : Fin 256) (b : Fin 2) (s : Fin 8192) (h : t.val * 256 + r.val = b.val * 8192 + s.val) (k : Fin 1024) :
    (iblk m c 9 t (ix2 r k) : EReal) = (m ((c : Thread nD τ).loc main_arg8) (ix3 b s ⟨8192 + k.val, by omega⟩)) :=
  (rd9 _ t r k).trans ((congrFun (V_u m c) _).trans (uArr_lat _ _ b s _ _ h))

/-- Window 14's block in the arguments. -/
theorem at14_lat (c : Dev nD) (t : Fin cfg0.N) (r : Fin 256) (b : Fin 2) (s : Fin 8192) (h : t.val * 256 + r.val = b.val * 8192 + s.val) (k : Fin 1024) :
    (iblk m c 14 t (ix4 0 0 0 k) : EReal) = (m ((c : Thread nD τ).loc main_arg14) (ix2 b ⟨2048 + k.val, by omega⟩)) :=
  (rd14 _ t k).trans ((congrFun (V_mod m c) _).trans (mod_lat _ _ b _ (by have := pt_lt t; show min (t.val / 32) 2 = b.val; omega) 2 k _ (by show 2048 + k.val = 2 * 1024 + k.val; omega)))

/-- Window 16's block in the arguments. -/
theorem at16_lat (c : Dev nD) (t : Fin cfg0.N) (r : Fin 256) (b : Fin 2) (s : Fin 8192) (h : t.val * 256 + r.val = b.val * 8192 + s.val) (k : Fin 1024) :
    (iblk m c 16 t (ix4 0 0 0 k) : EReal) = (m ((c : Thread nD τ).loc main_arg14) (ix2 b ⟨3072 + k.val, by omega⟩)) :=
  (rd16 _ t k).trans ((congrFun (V_mod m c) _).trans (mod_lat _ _ b _ (by have := pt_lt t; show min (t.val / 32) 2 = b.val; omega) 3 k _ (by show 3072 + k.val = 3 * 1024 + k.val; omega)))

/-- Window 17's block in the arguments. -/
theorem at17_lat (c : Dev nD) (t : Fin cfg0.N) (r : Fin 256) (b : Fin 2) (s : Fin 8192) (h : t.val * 256 + r.val = b.val * 8192 + s.val) (k : Fin 1024) :
    (iblk m c 17 t (ix4 0 0 0 k) : EReal) = (m ((c : Thread nD τ).loc main_arg14) (ix2 b ⟨4096 + k.val, by omega⟩)) :=
  (rd17 _ t k).trans ((congrFun (V_mod m c) _).trans (mod_lat _ _ b _ (by have := pt_lt t; show min (t.val / 32) 2 = b.val; omega) 4 k _ (by show 4096 + k.val = 4 * 1024 + k.val; omega)))

/-- Window 0's block in the arguments. -/
theorem at0_ctx (c : Dev nD) (t : Fin cfg0.N) (r : Fin 256) (b : Fin 2) (s : Fin 256) (h : t.val * 256 + r.val = 16384 + b.val * 256 + s.val) (k : Fin 1024) :
    (iblk m c 0 t (ix2 r k) : EReal) = (m ((c : Thread nD τ).loc main_arg1) (ix3 b s k)) :=
  (rd0 _ t r k).trans ((congrFun (V_x m c) _).trans (xArr_ctx _ _ b s k _ h))

/-- Window 3's block in the arguments. -/
theorem at3_ctx (c : Dev nD) (t : Fin cfg0.N) (r : Fin 256) (b : Fin 2) (s : Fin 256) (h : t.val * 256 + r.val = 16384 + b.val * 256 + s.val) (k : Fin 1024) :
    (iblk m c 3 t (ix2 r k) : EReal) = (m ((c : Thread nD τ).loc main_arg5) (ix3 b s k)) :=
  (rd3 _ t r k).trans ((congrFun (V_rec m c) _).trans (xArr_ctx _ _ b s k _ h))

/-- Window 2's block in the arguments. -/
theorem at2 (c : Dev nD) (t : Fin cfg0.N) (r : Fin 256) (b : Fin 2) (s : Fin 256) (h : t.val * 256 + r.val = 16384 + b.val * 256 + s.val) (k : Fin 1024) :
    (iblk m c 2 t (ix2 r k) : EReal) = (m ((c : Thread nD τ).loc main_arg3) (ix3 b s k)) :=
  (rd2 _ t r k).trans ((congrFun (V_ac m c) _).trans (ctxArr_at _ b s k _ (by have := pt_lt t; show min (t.val - 64) 1 * 256 + r.val = _; omega)))

/-- Window 5's block in the arguments. -/
theorem at5 (c : Dev nD) (t : Fin cfg0.N) (r : Fin 256) (b : Fin 2) (s : Fin 256) (h : t.val * 256 + r.val = 16384 + b.val * 256 + s.val) (k : Fin 1024) :
    (iblk m c 5 t (ix2 r k) : EReal) = (m ((c : Thread nD τ).loc main_arg7) (ix3 b s k)) :=
  (rd5 _ t r k).trans ((congrFun (V_fc m c) _).trans (ctxArr_at _ b s k _ (by have := pt_lt t; show min (t.val - 64) 1 * 256 + r.val = _; omega)))

/-- Window 6's block in the arguments. -/
theorem at6_ctx (c : Dev nD) (t : Fin cfg0.N) (r : Fin 256) (b : Fin 2) (s : Fin 256) (h : t.val * 256 + r.val = 16384 + b.val * 256 + s.val) (k : Fin 1024) :
    (iblk m c 6 t (ix2 r k) : EReal) = (m ((c : Thread nD τ).loc main_arg9) (ix3 b s ⟨4096 + k.val, by omega⟩)) :=
  (rd6 _ t r k).trans ((congrFun (V_u m c) _).trans (uArr_ctx _ _ b s _ _ h))

/-- Window 7's block in the arguments. -/
theorem at7_ctx (c : Dev nD) (t : Fin cfg0.N) (r : Fin 256) (b : Fin 2) (s : Fin 256) (h : t.val * 256 + r.val = 16384 + b.val * 256 + s.val) (k : Fin 1024) :
    (iblk m c 7 t (ix2 r k) : EReal) = (m ((c : Thread nD τ).loc main_arg9) (ix3 b s ⟨6144 + k.val, by omega⟩)) :=
  (rd7 _ t r k).trans ((congrFun (V_u m c) _).trans (uArr_ctx _ _ b s _ _ h))

/-- Window 8's block in the arguments. -/
theorem at8_ctx (c : Dev nD) (t : Fin cfg0.N) (r : Fin 256) (b : Fin 2) (s : Fin 256) (h : t.val * 256 + r.val = 16384 + b.val * 256 + s.val) (k : Fin 1024) :
    (iblk m c 8 t (ix2 r k) : EReal) = (m ((c : Thread nD τ).loc main_arg9) (ix3 b s ⟨7168 + k.val, by omega⟩)) :=
  (rd8 _ t r k).trans ((congrFun (V_u m c) _).trans (uArr_ctx _ _ b s _ _ h))

/-- Window 9's block in the arguments. -/
theorem at9_ctx (c : Dev nD) (t : Fin cfg0.N) (r : Fin 256) (b : Fin 2) (s : Fin 256) (h : t.val * 256 + r.val = 16384 + b.val * 256 + s.val) (k : Fin 1024) :
    (iblk m c 9 t (ix2 r k) : EReal) = (m ((c : Thread nD τ).loc main_arg9) (ix3 b s ⟨8192 + k.val, by omega⟩)) :=
  (rd9 _ t r k).trans ((congrFun (V_u m c) _).trans (uArr_ctx _ _ b s _ _ h))

/-- Window 14's block in the arguments. -/
theorem at14_ctx (c : Dev nD) (t : Fin cfg0.N) (r : Fin 256) (b : Fin 2) (s : Fin 256) (h : t.val * 256 + r.val = 16384 + b.val * 256 + s.val) (k : Fin 1024) :
    (iblk m c 14 t (ix4 0 0 0 k) : EReal) = (m ((c : Thread nD τ).loc main_arg15) (ix1 ⟨2048 + k.val, by omega⟩)) :=
  (rd14 _ t k).trans ((congrFun (V_mod m c) _).trans (mod_ctx _ _ _ (by have := pt_lt t; show min (t.val / 32) 2 = 2; omega) 2 k _ (by show 2048 + k.val = 2 * 1024 + k.val; omega)))

/-- Window 16's block in the arguments. -/
theorem at16_ctx (c : Dev nD) (t : Fin cfg0.N) (r : Fin 256) (b : Fin 2) (s : Fin 256) (h : t.val * 256 + r.val = 16384 + b.val * 256 + s.val) (k : Fin 1024) :
    (iblk m c 16 t (ix4 0 0 0 k) : EReal) = (m ((c : Thread nD τ).loc main_arg15) (ix1 ⟨3072 + k.val, by omega⟩)) :=
  (rd16 _ t k).trans ((congrFun (V_mod m c) _).trans (mod_ctx _ _ _ (by have := pt_lt t; show min (t.val / 32) 2 = 2; omega) 3 k _ (by show 3072 + k.val = 3 * 1024 + k.val; omega)))

/-- Window 17's block in the arguments. -/
theorem at17_ctx (c : Dev nD) (t : Fin cfg0.N) (r : Fin 256) (b : Fin 2) (s : Fin 256) (h : t.val * 256 + r.val = 16384 + b.val * 256 + s.val) (k : Fin 1024) :
    (iblk m c 17 t (ix4 0 0 0 k) : EReal) = (m ((c : Thread nD τ).loc main_arg15) (ix1 ⟨4096 + k.val, by omega⟩)) :=
  (rd17 _ t k).trans ((congrFun (V_mod m c) _).trans (mod_ctx _ _ _ (by have := pt_lt t; show min (t.val / 32) 2 = 2; omega) 4 k _ (by show 4096 + k.val = 4 * 1024 + k.val; omega)))

/-- The weights that the body reads are the arguments'. -/
theorem wts_eq (c : Dev nD) (t : Fin cfg0.N) :
    blkWts (iblk m c 10 t) (iblk m c 11 t) (iblk m c 12 t) (iblk m c 13 t) (iblk m c 15 t) = argWts (m ((c : Thread nD τ).loc main_arg10)) (m ((c : Thread nD τ).loc main_arg11)) (m ((c : Thread nD τ).loc main_arg12)) (m ((c : Thread nD τ).loc main_arg13)) (m ((c : Thread nD τ).loc main_arg16)) :=
  blkWts_eq _ _ _ _ _ _ _ _ _ _ (at10 m c t) (at11 m c t) (at12 m c t) (at13 m c t) (at15 m c t)

/-- At a point of latent rows, the row that the body reads is the arguments' of that token. -/
theorem row_lat (c : Dev nD) (t : Fin cfg0.N) (r : Fin 256) (b : Fin 2) (s : Fin 8192) (h : t.val * 256 + r.val = b.val * 8192 + s.val) :
    blkRow (Scalar.cmpi .slt (BitVec.ofNat 32 (grid0.coords t 0).val) 64#32) (iblk m c 0 t) (iblk m c 1 t) (iblk m c 2 t) (iblk m c 3 t) (iblk m c 4 t) (iblk m c 5 t) (iblk m c 6 t) (iblk m c 7 t) (iblk m c 8 t) (iblk m c 9 t) (iblk m c 14 t) (iblk m c 16 t) (iblk m c 17 t) r = latRow (m ((c : Thread nD τ).loc main_arg0)) (m ((c : Thread nD τ).loc main_arg2)) (m ((c : Thread nD τ).loc main_arg4)) (m ((c : Thread nD τ).loc main_arg6)) (m ((c : Thread nD τ).loc main_arg8)) (m ((c : Thread nD τ).loc main_arg14)) b s := by
  have hlt := pt_lt t
  have ht : t.val < 64 := by omega
  exact blkRow_eq _ _ _ _ _ _ _ _ _ _ _ _ _ _ _ _ _ _ _ _ _ (at0_lat m c t r b s h) (fun k => (select_one (sel_lat t ht) _ _).trans (at1 m c t r b s h k)) (at3_lat m c t r b s h)
    (fun k => (select_one (sel_lat t ht) _ _).trans (at4 m c t r b s h k)) (at6_lat m c t r b s h) (at7_lat m c t r b s h) (at8_lat m c t r b s h) (at9_lat m c t r b s h)
    (at14_lat m c t r b s h) (at16_lat m c t r b s h) (at17_lat m c t r b s h)

/-- At a point of context rows, the row that the body reads is the arguments' of that token. -/
theorem row_ctx (c : Dev nD) (t : Fin cfg0.N) (r : Fin 256) (b : Fin 2) (s : Fin 256) (h : t.val * 256 + r.val = 16384 + b.val * 256 + s.val) :
    blkRow (Scalar.cmpi .slt (BitVec.ofNat 32 (grid0.coords t 0).val) 64#32) (iblk m c 0 t) (iblk m c 1 t) (iblk m c 2 t) (iblk m c 3 t) (iblk m c 4 t) (iblk m c 5 t) (iblk m c 6 t) (iblk m c 7 t) (iblk m c 8 t) (iblk m c 9 t) (iblk m c 14 t) (iblk m c 16 t) (iblk m c 17 t) r = ctxRow (m ((c : Thread nD τ).loc main_arg1)) (m ((c : Thread nD τ).loc main_arg3)) (m ((c : Thread nD τ).loc main_arg5)) (m ((c : Thread nD τ).loc main_arg7)) (m ((c : Thread nD τ).loc main_arg9)) (m ((c : Thread nD τ).loc main_arg15)) b s := by
  have hlt := pt_lt t
  have ht : ¬ t.val < 64 := by omega
  exact blkRow_eq _ _ _ _ _ _ _ _ _ _ _ _ _ _ _ _ _ _ _ _ _ (at0_ctx m c t r b s h) (fun k => (select_zero (sel_ctx t ht) _ _).trans (at2 m c t r b s h k)) (at3_ctx m c t r b s h)
    (fun k => (select_zero (sel_ctx t ht) _ _).trans (at5 m c t r b s h k)) (at6_ctx m c t r b s h) (at7_ctx m c t r b s h) (at8_ctx m c t r b s h) (at9_ctx m c t r b s h)
    (at14_ctx m c t r b s h) (at16_ctx m c t r b s h) (at17_ctx m c t r b s h)

/-- The row that the body reads for a row of the outputs. -/
def rowAt (c : Dev nD) (t : Fin cfg0.N) (r : Fin 256) : Row :=
  blkRow (Scalar.cmpi .slt (BitVec.ofNat 32 (grid0.coords t 0).val) 64#32) (iblk m c 0 t) (iblk m c 1 t) (iblk m c 2 t) (iblk m c 3 t) (iblk m c 4 t) (iblk m c 5 t) (iblk m c 6 t) (iblk m c 7 t) (iblk m c 8 t) (iblk m c 9 t) (iblk m c 14 t) (iblk m c 16 t) (iblk m c 17 t) r

/-- Output 1 after the run, at an index. -/
theorem final18_at (c : Dev nD) (t : Fin cfg0.N) (r : Fin 256) (n : Fin 1024) :
    ((dats m 0 c).arrAt 18 cfg0.N : FVec Ideal S16896x1024 .f32) (ix2 ⟨t.val * 256 + r.val, by have := pt_lt t; omega⟩ n)
      = xmid (rowAt m c t r) (argWts (m ((c : Thread nD τ).loc main_arg10)) (m ((c : Thread nD τ).loc main_arg11)) (m ((c : Thread nD τ).loc main_arg12)) (m ((c : Thread nD τ).loc main_arg13)) (m ((c : Thread nD τ).loc main_arg16))) n := by
  have hb := blocks18 m c t (flush0_18 t)
  rw [flushed18] at hb
  refine (rd18 _ t r n).symm.trans ((congrFun hb (ix2 r n)).trans ?_)
  refine Eq.trans (b := out0_18 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 r n)) ?_ ?_
  · generalize out0_18 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) = X
    blk_ext []
  rw [← wts_eq m c t]
  exact out18_at _ _ _ _ _ _ _ _ _ _ _ _ _ _ _ _ _ _ _ r n

/-- Output 2 after the run, at an index. -/
theorem final19_at (c : Dev nD) (t : Fin cfg0.N) (r : Fin 256) (n : Fin 1024) :
    ((dats m 0 c).arrAt 19 cfg0.N : FVec Ideal S16896x1024 .bf16) (ix2 ⟨t.val * 256 + r.val, by have := pt_lt t; omega⟩ n)
      = hmid (rowAt m c t r) (argWts (m ((c : Thread nD τ).loc main_arg10)) (m ((c : Thread nD τ).loc main_arg11)) (m ((c : Thread nD τ).loc main_arg12)) (m ((c : Thread nD τ).loc main_arg13)) (m ((c : Thread nD τ).loc main_arg16))) n := by
  have hb := blocks19 m c t (flush0_19 t)
  rw [flushed19] at hb
  refine (rd19 _ t r n).symm.trans ((congrFun hb (ix2 r n)).trans ?_)
  refine Eq.trans (b := out0_19 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 r n)) ?_ ?_
  · generalize out0_19 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) = X
    blk_ext []
  rw [← wts_eq m c t]
  exact out19_at _ _ _ _ _ _ _ _ _ _ _ _ _ _ _ _ _ _ _ r n

end Cert.KernelMergeIdeal.Own

end
-- ==== Proof.MergeRef.lean ====
module

public import proofs.«01_k».proof.Proof.Gen.ReferenceMergeIdeal.Run
public import proofs.«01_k».proof.Proof.MergeKern

@[expose] public section

set_option maxRecDepth 16384

noncomputable section

namespace Cert.ReferenceMergeIdeal.Own

open Idealize.ShloMosaic Idealize.ShloMosaic.TcCoe Idealize.ShloMosaic.Tactic Idealize.SL.Sem Idealize.ShloMosaic.StableHlo
open Cert.ReferenceMergeIdeal Cert.ReferenceMergeIdeal.Gen Cert.ReferenceMergeIdeal.Value Cert.Merge
open Cert.KernelMergeIdeal.Own (latRow ctxRow argWts)

section Parts
variable {F : FTy → Type} [FloatOps F]

/-- What the recurrence's branch of latent rows is gated by. -/
def geluLat (u : FVec F S2x8192x9216 .f32) : FVec F S2x8192x1024 .f32 :=
  mulf (extractStridedSlice S2x8192x1024 ![0, 0, 4096] u slices_S2x8192x9216_S2x8192x1024_0_0_4096) (mulf (broadcastInDim S2x8192x1024 ![] bcast_S_S2x8192x1024 (constant S_ .f32 0x3F000000#32)) (addf (broadcastInDim S2x8192x1024 ![] bcast_S_S2x8192x1024 (constant S_ .f32 0x3F800000#32)) (Host.tanh (mulf (broadcastInDim S2x8192x1024 ![] bcast_S_S2x8192x1024 (constant S_ .f32 0x3F4C422A#32)) (addf (extractStridedSlice S2x8192x1024 ![0, 0, 4096] u slices_S2x8192x9216_S2x8192x1024_0_0_4096) (mulf (broadcastInDim S2x8192x1024 ![] bcast_S_S2x8192x1024 (constant S_ .f32 0x3D372713#32)) (mulf (mulf (extractStridedSlice S2x8192x1024 ![0, 0, 4096] u slices_S2x8192x9216_S2x8192x1024_0_0_4096) (extractStridedSlice S2x8192x1024 ![0, 0, 4096] u slices_S2x8192x9216_S2x8192x1024_0_0_4096)) (extractStridedSlice S2x8192x1024 ![0, 0, 4096] u slices_S2x8192x9216_S2x8192x1024_0_0_4096))))))))

/-- The merged branches of latent rows. -/
def mixedLat (attn rec_ four : FVec F S2x8192x1024 .f32) (u : FVec F S2x8192x9216 .f32) (wa wl wf : FVec F S1024x1024 .f32) : FVec F S2x8192x1024 .f32 :=
  addf (addf (mulf (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (extractStridedSlice S2x8192x1024 ![0, 0, 6144] u slices_S2x8192x9216_S2x8192x1024_0_0_6144))))) (Host.dotGeneral dot_S2x8192x1024_S1024x1024_S2x8192x1024_2_0_01_1_n_n none attn wa)) (mulf (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (extractStridedSlice S2x8192x1024 ![0, 0, 7168] u slices_S2x8192x9216_S2x8192x1024_0_0_7168))))) (Host.dotGeneral dot_S2x8192x1024_S1024x1024_S2x8192x1024_2_0_01_1_n_n none (mulf rec_ (geluLat u)) wl))) (mulf (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (extractStridedSlice S2x8192x1024 ![0, 0, 8192] u slices_S2x8192x9216_S2x8192x1024_0_0_8192))))) (Host.dotGeneral dot_S2x8192x1024_S1024x1024_S2x8192x1024_2_0_01_1_n_n none four wf))

/-- The stream of latent rows after the merge. -/
def midLat (x attn rec_ four : FVec F S2x8192x1024 .f32) (u : FVec F S2x8192x9216 .f32) (wa wl wf wo : FVec F S1024x1024 .f32) (md : FVec F S2x6144 .f32) : FVec F S2x8192x1024 .f32 :=
  addf x (mulf (broadcastInDim S2x8192x1024 ![0, 1, 2] bcast_S2x1x1024_S2x8192x1024_0_1_2 (extractStridedSlice S2x1x1024 ![0, 0, 2048] (broadcastInDim S2x1x6144 ![0, 2] bcast_S2x6144_S2x1x6144_0_2 md) slices_S2x1x6144_S2x1x1024_0_0_2048)) (Host.dotGeneral dot_S2x8192x1024_S1024x1024_S2x8192x1024_2_0_01_1_n_n none (mixedLat attn rec_ four u wa wl wf) wo))

/-- The stream of latent rows after the merge, normed and modulated. -/
def normLat (X : FVec F S2x8192x1024 .f32) (md : FVec F S2x6144 .f32) (g : FVec F S1024 .f32) : FVec F S2x8192x1024 .f32 :=
  addf (mulf (mulf (mulf X (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf X X) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) (broadcastInDim S2x8192x1024 ![0, 1, 2] bcast_S2x1x1024_S2x8192x1024_0_1_2 (addf (broadcastInDim S2x1x1024 ![] bcast_S_S2x1x1024 (constant S_ .f32 0x3F800000#32)) (extractStridedSlice S2x1x1024 ![0, 0, 4096] (broadcastInDim S2x1x6144 ![0, 2] bcast_S2x6144_S2x1x6144_0_2 md) slices_S2x1x6144_S2x1x1024_0_0_4096)))) (broadcastInDim S2x8192x1024 ![0, 1, 2] bcast_S2x1x1024_S2x8192x1024_0_1_2 (extractStridedSlice S2x1x1024 ![0, 0, 3072] (broadcastInDim S2x1x6144 ![0, 2] bcast_S2x6144_S2x1x6144_0_2 md) slices_S2x1x6144_S2x1x1024_0_0_3072))

/-- What the recurrence's branch of context rows is gated by. -/
def geluCtx (u : FVec F S2x256x9216 .f32) : FVec F S2x256x1024 .f32 :=
  mulf (extractStridedSlice S2x256x1024 ![0, 0, 4096] u slices_S2x256x9216_S2x256x1024_0_0_4096) (mulf (broadcastInDim S2x256x1024 ![] bcast_S_S2x256x1024 (constant S_ .f32 0x3F000000#32)) (addf (broadcastInDim S2x256x1024 ![] bcast_S_S2x256x1024 (constant S_ .f32 0x3F800000#32)) (Host.tanh (mulf (broadcastInDim S2x256x1024 ![] bcast_S_S2x256x1024 (constant S_ .f32 0x3F4C422A#32)) (addf (extractStridedSlice S2x256x1024 ![0, 0, 4096] u slices_S2x256x9216_S2x256x1024_0_0_4096) (mulf (broadcastInDim S2x256x1024 ![] bcast_S_S2x256x1024 (constant S_ .f32 0x3D372713#32)) (mulf (mulf (extractStridedSlice S2x256x1024 ![0, 0, 4096] u slices_S2x256x9216_S2x256x1024_0_0_4096) (extractStridedSlice S2x256x1024 ![0, 0, 4096] u slices_S2x256x9216_S2x256x1024_0_0_4096)) (extractStridedSlice S2x256x1024 ![0, 0, 4096] u slices_S2x256x9216_S2x256x1024_0_0_4096))))))))

/-- The merged branches of context rows. -/
def mixedCtx (attn rec_ four : FVec F S2x256x1024 .f32) (u : FVec F S2x256x9216 .f32) (wa wl wf : FVec F S1024x1024 .f32) : FVec F S2x256x1024 .f32 :=
  addf (addf (mulf (Host.divf (broadcastInDim S2x256x1024 ![] bcast_S_S2x256x1024 (constant S_ .f32 0x3F800000#32)) (addf (broadcastInDim S2x256x1024 ![] bcast_S_S2x256x1024 (constant S_ .f32 0x3F800000#32)) (Host.exp (Host.negf (extractStridedSlice S2x256x1024 ![0, 0, 6144] u slices_S2x256x9216_S2x256x1024_0_0_6144))))) (Host.dotGeneral dot_S2x256x1024_S1024x1024_S2x256x1024_2_0_01_1_n_n none attn wa)) (mulf (Host.divf (broadcastInDim S2x256x1024 ![] bcast_S_S2x256x1024 (constant S_ .f32 0x3F800000#32)) (addf (broadcastInDim S2x256x1024 ![] bcast_S_S2x256x1024 (constant S_ .f32 0x3F800000#32)) (Host.exp (Host.negf (extractStridedSlice S2x256x1024 ![0, 0, 7168] u slices_S2x256x9216_S2x256x1024_0_0_7168))))) (Host.dotGeneral dot_S2x256x1024_S1024x1024_S2x256x1024_2_0_01_1_n_n none (mulf rec_ (geluCtx u)) wl))) (mulf (Host.divf (broadcastInDim S2x256x1024 ![] bcast_S_S2x256x1024 (constant S_ .f32 0x3F800000#32)) (addf (broadcastInDim S2x256x1024 ![] bcast_S_S2x256x1024 (constant S_ .f32 0x3F800000#32)) (Host.exp (Host.negf (extractStridedSlice S2x256x1024 ![0, 0, 8192] u slices_S2x256x9216_S2x256x1024_0_0_8192))))) (Host.dotGeneral dot_S2x256x1024_S1024x1024_S2x256x1024_2_0_01_1_n_n none four wf))

/-- The stream of context rows after the merge. -/
def midCtx (x attn rec_ four : FVec F S2x256x1024 .f32) (u : FVec F S2x256x9216 .f32) (wa wl wf wo : FVec F S1024x1024 .f32) (md : FVec F S6144 .f32) : FVec F S2x256x1024 .f32 :=
  addf x (mulf (broadcastInDim S2x256x1024 ![0, 1, 2] bcast_S1x1x1024_S2x256x1024_0_1_2 (extractStridedSlice S1x1x1024 ![0, 0, 2048] (broadcastInDim S1x1x6144 ![2] bcast_S6144_S1x1x6144_2 md) slices_S1x1x6144_S1x1x1024_0_0_2048)) (Host.dotGeneral dot_S2x256x1024_S1024x1024_S2x256x1024_2_0_01_1_n_n none (mixedCtx attn rec_ four u wa wl wf) wo))

/-- The stream of context rows after the merge, normed and modulated. -/
def normCtx (X : FVec F S2x256x1024 .f32) (md : FVec F S6144 .f32) (g : FVec F S1024 .f32) : FVec F S2x256x1024 .f32 :=
  addf (mulf (mulf (mulf X (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf X X) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32)))))) (broadcastInDim S2x256x1024 ![0, 1, 2] bcast_S1x1x1024_S2x256x1024_0_1_2 (broadcastInDim S1x1x1024 ![2] bcast_S1024_S1x1x1024_2 g))) (broadcastInDim S2x256x1024 ![0, 1, 2] bcast_S1x1x1024_S2x256x1024_0_1_2 (addf (broadcastInDim S1x1x1024 ![] bcast_S_S1x1x1024 (constant S_ .f32 0x3F800000#32)) (extractStridedSlice S1x1x1024 ![0, 0, 4096] (broadcastInDim S1x1x6144 ![2] bcast_S6144_S1x1x6144_2 md) slices_S1x1x6144_S1x1x1024_0_0_4096)))) (broadcastInDim S2x256x1024 ![0, 1, 2] bcast_S1x1x1024_S2x256x1024_0_1_2 (extractStridedSlice S1x1x1024 ![0, 0, 3072] (broadcastInDim S1x1x6144 ![2] bcast_S6144_S1x1x6144_2 md) slices_S1x1x6144_S1x1x1024_0_0_3072))

/-- Rows of both streams, the latents' first. -/
def joined (a : FVec F S2x8192x1024 .f32) (b : FVec F S2x256x1024 .f32) : FVec F S16896x1024 .f32 :=
  concatenate S16896x1024 0 [⟨S16384x1024, (shapeCast _ a shapeCasts_S2x8192x1024_S16384x1024)⟩, ⟨S512x1024, (shapeCast _ b shapeCasts_S2x256x1024_S512x1024)⟩] concatenates_S16384x1024_S512x1024_S16896x1024_d0

end Parts

/-- What the recurrence's branch of latent rows is gated by, at an index. -/
theorem geluLat_at (u : FVec Ideal S2x8192x9216 .f32) (b : Fin 2) (s : Fin 8192) (k : Fin 1024) :
    geluLat u (ix3 b s k) = gelu (u (ix3 b s ⟨4096 + k.val, by omega⟩)) := by
  unfold gelu
  rw [← mul_assoc (u _) (u _) (u _)]
  pointwise [geluLat]

/-- The merged branches of latent rows, at an index. -/
theorem mixedLat_at (x attn rec_ four : FVec Ideal S2x8192x1024 .f32) (u : FVec Ideal S2x8192x9216 .f32) (wa wl wf wo : FVec Ideal S1024x1024 .f32)
    (md : FVec Ideal S2x6144 .f32) (g : FVec Ideal S1024 .f32) (b : Fin 2) (s : Fin 8192) (k : Fin 1024) :
    mixedLat attn rec_ four u wa wl wf (ix3 b s k) = mixed (latRow x attn rec_ four u md b s) (argWts wa wl wf wo g) k := by
  unfold mixedLat
  pointwise
  simp only [geluLat_at]
  rfl

/-- The stream of latent rows after the merge, at an index. -/
theorem midLat_at (x attn rec_ four : FVec Ideal S2x8192x1024 .f32) (u : FVec Ideal S2x8192x9216 .f32) (wa wl wf wo : FVec Ideal S1024x1024 .f32)
    (md : FVec Ideal S2x6144 .f32) (g : FVec Ideal S1024 .f32) (b : Fin 2) (s : Fin 8192) (n : Fin 1024) :
    midLat x attn rec_ four u wa wl wf wo md (ix3 b s n) = xmid (latRow x attn rec_ four u md b s) (argWts wa wl wf wo g) n := by
  unfold midLat
  pointwise
  simp only [mixedLat_at x attn rec_ four u wa wl wf wo md g]
  rfl

/-- The stream of latent rows after the merge, normed and modulated, at an index. -/
theorem normLat_at (x attn rec_ four : FVec Ideal S2x8192x1024 .f32) (u : FVec Ideal S2x8192x9216 .f32) (wa wl wf wo : FVec Ideal S1024x1024 .f32)
    (md : FVec Ideal S2x6144 .f32) (g : FVec Ideal S1024 .f32) (b : Fin 2) (s : Fin 8192) (n : Fin 1024) :
    normLat (midLat x attn rec_ four u wa wl wf wo md) md g (ix3 b s n) = hmid (latRow x attn rec_ four u md b s) (argWts wa wl wf wo g) n := by
  have e : ∀ l, midLat x attn rec_ four u wa wl wf wo md (ix3 b s l) = xmid (latRow x attn rec_ four u md b s) (argWts wa wl wf wo g) l :=
    fun l => midLat_at x attn rec_ four u wa wl wf wo md g b s l
  generalize midLat x attn rec_ four u wa wl wf wo md = X at e ⊢
  unfold normLat hmid
  simp only [← e]
  pointwise
  rfl

/-- What the recurrence's branch of context rows is gated by, at an index. -/
theorem geluCtx_at (u : FVec Ideal S2x256x9216 .f32) (b : Fin 2) (s : Fin 256) (k : Fin 1024) :
    geluCtx u (ix3 b s k) = gelu (u (ix3 b s ⟨4096 + k.val, by omega⟩)) := by
  unfold gelu
  rw [← mul_assoc (u _) (u _) (u _)]
  pointwise [geluCtx]

/-- The merged branches of context rows, at an index. -/
theorem mixedCtx_at (x attn rec_ four : FVec Ideal S2x256x1024 .f32) (u : FVec Ideal S2x256x9216 .f32) (wa wl wf wo : FVec Ideal S1024x1024 .f32)
    (md : FVec Ideal S6144 .f32) (g : FVec Ideal S1024 .f32) (b : Fin 2) (s : Fin 256) (k : Fin 1024) :
    mixedCtx attn rec_ four u wa wl wf (ix3 b s k) = mixed (ctxRow x attn rec_ four u md b s) (argWts wa wl wf wo g) k := by
  unfold mixedCtx
  pointwise
  simp only [geluCtx_at]
  rfl

/-- The stream of context rows after the merge, at an index. -/
theorem midCtx_at (x attn rec_ four : FVec Ideal S2x256x1024 .f32) (u : FVec Ideal S2x256x9216 .f32) (wa wl wf wo : FVec Ideal S1024x1024 .f32)
    (md : FVec Ideal S6144 .f32) (g : FVec Ideal S1024 .f32) (b : Fin 2) (s : Fin 256) (n : Fin 1024) :
    midCtx x attn rec_ four u wa wl wf wo md (ix3 b s n) = xmid (ctxRow x attn rec_ four u md b s) (argWts wa wl wf wo g) n := by
  unfold midCtx
  pointwise
  simp only [mixedCtx_at x attn rec_ four u wa wl wf wo md g]
  rfl

/-- The stream of context rows after the merge, normed and modulated, at an index. -/
theorem normCtx_at (x attn rec_ four : FVec Ideal S2x256x1024 .f32) (u : FVec Ideal S2x256x9216 .f32) (wa wl wf wo : FVec Ideal S1024x1024 .f32)
    (md : FVec Ideal S6144 .f32) (g : FVec Ideal S1024 .f32) (b : Fin 2) (s : Fin 256) (n : Fin 1024) :
    normCtx (midCtx x attn rec_ four u wa wl wf wo md) md g (ix3 b s n) = hmid (ctxRow x attn rec_ four u md b s) (argWts wa wl wf wo g) n := by
  have e : ∀ l, midCtx x attn rec_ four u wa wl wf wo md (ix3 b s l) = xmid (ctxRow x attn rec_ four u md b s) (argWts wa wl wf wo g) l :=
    fun l => midCtx_at x attn rec_ four u wa wl wf wo md g b s l
  generalize midCtx x attn rec_ four u wa wl wf wo md = X at e ⊢
  unfold normCtx hmid
  simp only [← e]
  pointwise
  rfl

/-- A latent row of the joined rows. -/
theorem joined_lat (a : FVec Ideal S2x8192x1024 .f32) (d : FVec Ideal S2x256x1024 .f32) (b : Fin 2) (s : Fin 8192) (n : Fin 1024)
    (R : Fin 16896) (hR : R.val = b.val * 8192 + s.val) : joined a d (ix2 R n) = a (ix3 b s n) := by
  have e : joined a d (ix2 R n) = (shapeCast S16384x1024 a shapeCasts_S2x8192x1024_S16384x1024 : FVec Ideal S16384x1024 .f32) (ix2 ⟨R.val, by omega⟩ n) := by
    unfold joined
    generalize shapeCast _ a shapeCasts_S2x8192x1024_S16384x1024 = X
    have : R.val < 16384 := by omega
    pointwise
    simp [this]
  refine e.trans (shapeCast_apply _ _ _ (ix3 b s n) ?_)
  rw [Shape.rowMajor_val_three, Shape.rowMajor_val_two]
  show (b.val * 8192 + s.val) * 1024 + n.val = (R.val) * 1024 + n.val
  omega

/-- A context row of the joined rows. -/
theorem joined_ctx (a : FVec Ideal S2x8192x1024 .f32) (d : FVec Ideal S2x256x1024 .f32) (b : Fin 2) (s : Fin 256) (n : Fin 1024)
    (R : Fin 16896) (hR : R.val = 16384 + b.val * 256 + s.val) : joined a d (ix2 R n) = d (ix3 b s n) := by
  have e : joined a d (ix2 R n) = (shapeCast S512x1024 d shapeCasts_S2x256x1024_S512x1024 : FVec Ideal S512x1024 .f32) (ix2 ⟨R.val - 16384, by omega⟩ n) := by
    unfold joined
    generalize shapeCast _ d shapeCasts_S2x256x1024_S512x1024 = X
    have : ¬ R.val < 16384 := by omega
    pointwise
    simp [this]
  refine e.trans (shapeCast_apply _ _ _ (ix3 b s n) ?_)
  rw [Shape.rowMajor_val_three, Shape.rowMajor_val_two]
  show (b.val * 256 + s.val) * 1024 + n.val = (R.val - 16384) * 1024 + n.val
  omega

end Cert.ReferenceMergeIdeal.Own

end
-- ==== Proof.MergeSame.lean ====
module

public import proofs.«01_k».proof.Proof.MergeRef
public import proofs.«01_k».proof.Defs
public import Idealize.ShloMosaic.Lib.Bf16PairInverse

@[expose] public section

set_option maxRecDepth 16384

noncomputable section

namespace Cert.MergeClaims

open Idealize.ShloMosaic Idealize.ShloMosaic.TcCoe Idealize.ShloMosaic.Tactic Idealize.SL.Sem
open Cert.KernelMergeIdeal Cert.KernelMergeIdeal.Gen Cert.KernelMergeIdeal.Value Cert.KernelMergeIdeal.Own Cert.Merge
open Cert.ReferenceMergeIdeal.Own (midLat midCtx normLat normCtx joined joined_lat joined_ctx midLat_at midCtx_at normLat_at normCtx_at)

variable (m : (ℓ : Loc nD τ sig) → Buf (Elt Ideal) ℓ)

/-- The reference's stream after the merge, of the arguments. -/
def refMid (c : Dev nD) : FVec Ideal S16896x1024 .f32 := joined (midLat (F := Ideal) (m ((c : Thread nD τ).loc main_arg0)) (m ((c : Thread nD τ).loc main_arg2)) (m ((c : Thread nD τ).loc main_arg4)) (m ((c : Thread nD τ).loc main_arg6)) (m ((c : Thread nD τ).loc main_arg8)) (m ((c : Thread nD τ).loc main_arg10)) (m ((c : Thread nD τ).loc main_arg11)) (m ((c : Thread nD τ).loc main_arg12)) (m ((c : Thread nD τ).loc main_arg13)) (m ((c : Thread nD τ).loc main_arg14))) (midCtx (F := Ideal) (m ((c : Thread nD τ).loc main_arg1)) (m ((c : Thread nD τ).loc main_arg3)) (m ((c : Thread nD τ).loc main_arg5)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg15)))

/-- The reference's normed and modulated stream, of the arguments. -/
def refNorm (c : Dev nD) : FVec Ideal S16896x1024 .f32 :=
  joined (normLat (F := Ideal) (midLat (F := Ideal) (m ((c : Thread nD τ).loc main_arg0)) (m ((c : Thread nD τ).loc main_arg2)) (m ((c : Thread nD τ).loc main_arg4)) (m ((c : Thread nD τ).loc main_arg6)) (m ((c : Thread nD τ).loc main_arg8)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg14)) (m ((c : Thread nD τ).loc main_arg16)))
    (normCtx (F := Ideal) (midCtx (F := Ideal) (m ((c : Thread nD τ).loc main_arg1)) (m ((c : Thread nD τ).loc main_arg3)) (m ((c : Thread nD τ).loc main_arg5)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg15))) (m ((c : Thread nD τ).loc main_arg15)) (m ((c : Thread nD τ).loc main_arg16)))

/-- A row of the reference's stream is the row that the kernel's body computes of its inputs. -/
theorem refMid_at (c : Dev nD) (t : Fin cfg0.N) (r : Fin 256) (n : Fin 1024) :
    refMid m c (ix2 ⟨t.val * 256 + r.val, by have := pt_lt t; omega⟩ n) = xmid (rowAt m c t r) (argWts (m ((c : Thread nD τ).loc main_arg10)) (m ((c : Thread nD τ).loc main_arg11)) (m ((c : Thread nD τ).loc main_arg12)) (m ((c : Thread nD τ).loc main_arg13)) (m ((c : Thread nD τ).loc main_arg16))) n := by
  have hlt := pt_lt t
  unfold refMid
  by_cases h : t.val < 64
  · have e : t.val * 256 + r.val = (⟨(t.val * 256 + r.val) / 8192, by omega⟩ : Fin 2).val * 8192 + (⟨(t.val * 256 + r.val) % 8192, by omega⟩ : Fin 8192).val := by
      show t.val * 256 + r.val = (t.val * 256 + r.val) / 8192 * 8192 + (t.val * 256 + r.val) % 8192; omega
    rw [joined_lat _ _ _ _ n _ e, midLat_at _ _ _ _ _ _ _ _ _ _ (m ((c : Thread nD τ).loc main_arg16))]
    exact congrArg (fun R => xmid R (argWts (m ((c : Thread nD τ).loc main_arg10)) (m ((c : Thread nD τ).loc main_arg11)) (m ((c : Thread nD τ).loc main_arg12)) (m ((c : Thread nD τ).loc main_arg13)) (m ((c : Thread nD τ).loc main_arg16))) n) (row_lat m c t r _ _ e).symm
  · have e : t.val * 256 + r.val = 16384 + (⟨(t.val * 256 + r.val - 16384) / 256, by omega⟩ : Fin 2).val * 256 + (⟨(t.val * 256 + r.val - 16384) % 256, by omega⟩ : Fin 256).val := by
      show t.val * 256 + r.val = 16384 + (t.val * 256 + r.val - 16384) / 256 * 256 + (t.val * 256 + r.val - 16384) % 256; omega
    rw [joined_ctx _ _ _ _ n _ e, midCtx_at _ _ _ _ _ _ _ _ _ _ (m ((c : Thread nD τ).loc main_arg16))]
    exact congrArg (fun R => xmid R (argWts (m ((c : Thread nD τ).loc main_arg10)) (m ((c : Thread nD τ).loc main_arg11)) (m ((c : Thread nD τ).loc main_arg12)) (m ((c : Thread nD τ).loc main_arg13)) (m ((c : Thread nD τ).loc main_arg16))) n) (row_ctx m c t r _ _ e).symm

/-- A row of the reference's normed stream is the row that the kernel's body computes of its inputs. -/
theorem refNorm_at (c : Dev nD) (t : Fin cfg0.N) (r : Fin 256) (n : Fin 1024) :
    refNorm m c (ix2 ⟨t.val * 256 + r.val, by have := pt_lt t; omega⟩ n) = hmid (rowAt m c t r) (argWts (m ((c : Thread nD τ).loc main_arg10)) (m ((c : Thread nD τ).loc main_arg11)) (m ((c : Thread nD τ).loc main_arg12)) (m ((c : Thread nD τ).loc main_arg13)) (m ((c : Thread nD τ).loc main_arg16))) n := by
  have hlt := pt_lt t
  unfold refNorm
  by_cases h : t.val < 64
  · have e : t.val * 256 + r.val = (⟨(t.val * 256 + r.val) / 8192, by omega⟩ : Fin 2).val * 8192 + (⟨(t.val * 256 + r.val) % 8192, by omega⟩ : Fin 8192).val := by
      show t.val * 256 + r.val = (t.val * 256 + r.val) / 8192 * 8192 + (t.val * 256 + r.val) % 8192; omega
    rw [joined_lat _ _ _ _ n _ e, normLat_at]
    exact congrArg (fun R => hmid R (argWts (m ((c : Thread nD τ).loc main_arg10)) (m ((c : Thread nD τ).loc main_arg11)) (m ((c : Thread nD τ).loc main_arg12)) (m ((c : Thread nD τ).loc main_arg13)) (m ((c : Thread nD τ).loc main_arg16))) n) (row_lat m c t r _ _ e).symm
  · have e : t.val * 256 + r.val = 16384 + (⟨(t.val * 256 + r.val - 16384) / 256, by omega⟩ : Fin 2).val * 256 + (⟨(t.val * 256 + r.val - 16384) % 256, by omega⟩ : Fin 256).val := by
      show t.val * 256 + r.val = 16384 + (t.val * 256 + r.val - 16384) / 256 * 256 + (t.val * 256 + r.val - 16384) % 256; omega
    rw [joined_ctx _ _ _ _ n _ e, normCtx_at]
    exact congrArg (fun R => hmid R (argWts (m ((c : Thread nD τ).loc main_arg10)) (m ((c : Thread nD τ).loc main_arg11)) (m ((c : Thread nD τ).loc main_arg12)) (m ((c : Thread nD τ).loc main_arg13)) (m ((c : Thread nD τ).loc main_arg16))) n) (row_ctx m c t r _ _ e).symm

/-- Two arrays with equal entries in every row block are equal. -/
theorem rows_ext {w : Nat} {φ : FTy} (f g : FVec Ideal ⟨2, ![16896, w]⟩ φ)
    (h : ∀ (t : Fin cfg0.N) (r : Fin 256) (n : Fin w) (hb : t.val * 256 + r.val < 16896), f (ix2 ⟨t.val * 256 + r.val, hb⟩ n) = g (ix2 ⟨t.val * 256 + r.val, hb⟩ n)) : f = g := by
  funext y
  obtain ⟨R, N, rfl⟩ : ∃ (R : Fin 16896) (N : Fin w), y = ix2 R N := ⟨y 0, y 1, by funext a; fin_cases a <;> rfl⟩
  have hk := h ⟨R.val / 256, by have := R.isLt; show R.val / 256 < 66; omega⟩ ⟨R.val % 256, by omega⟩ N (by show R.val / 256 * 256 + R.val % 256 < 16896; omega)
  have hR : (⟨R.val / 256 * 256 + R.val % 256, by omega⟩ : Fin 16896) = R := Fin.ext (by show R.val / 256 * 256 + R.val % 256 = R.val; omega)
  simp only [hR] at hk
  exact hk

/-- The kernel's stream after the run is the reference's. -/
theorem eq18 (c : Dev nD) : ((dats m 0 c).arrAt 18 cfg0.N : FVec Ideal S16896x1024 .f32) = refMid m c :=
  rows_ext _ _ fun t r n _ => (final18_at m c t r n).trans (refMid_at m c t r n).symm

/-- The kernel's normed stream after the run is the reference's. -/
theorem eq19 (c : Dev nD) : ((dats m 0 c).arrAt 19 cfg0.N : FVec Ideal S16896x1024 .bf16) = truncf .bf16 (refNorm m c) bitsLt_bf16_f32 :=
  rows_ext _ _ fun t r n _ => (final19_at m c t r n).trans (refNorm_at m c t r n).symm

/-- Each place where the idealized merge reads a pair of short floats packed in a word as the pair is one of its rules' statements. -/
theorem preserves : Cert.preserves_KernelMerge_KernelMergeIdeal :=
  ⟨IdealRules.bf16_pair.bufferStatement S16896x2x256 S16896x1x256, IdealRules.bf16_pair.bufferStatement S256x2x256 S256x1x256,
    IdealRules.bf16_pair.statement S256x2x256 S256x1x256, IdealRules.bf16_pack.statement S256x256⟩

/-- The reference of the merge runs, leaves its arguments as they were, and ends with every semaphore counter at zero, there being none. -/
theorem frame_ri : Cert.quiescent_ReferenceMergeIdeal := fun m ρ _ =>
  (θ_run Cert.ReferenceMergeIdeal.defs _ _).mono (fun r h => ⟨fun c => (h c).2.2, sem_eq_zero_of_no_sems (by decide) r.2⟩)
    (Cert.ReferenceMergeIdeal.Value.run (F := Ideal) m ρ)

/-- From arguments that agree, the idealized merge and its reference end with equal results. -/
theorem algebraic : Cert.algebraic_KernelMergeIdeal_ReferenceMergeIdeal := by
  intro m ρ m' ρ' _ hagree
  refine ⟨_, _, (θ_run Cert.KernelMergeIdeal.defs _ _).mono (fun _ h c => ⟨(h c).1, (h c).2.1, (h c).2.2.2.2⟩) (run_blocks m ρ), ?_⟩
  refine (θ_run Cert.ReferenceMergeIdeal.defs _ _).mono (fun _ h c => ?_)
    (Cert.ReferenceMergeIdeal.Value.run (F := Ideal) m' ρ')
  obtain ⟨h0, h1, hk⟩ := h c
  obtain ⟨e0, e1, e2, e3, e4, e5, e6, e7, e8, e9, e10, e11, e12, e13, e14, e15, e16⟩ := hagree c
  have em : joined (midLat (F := Ideal) (m' ((c : Thread nD τ).loc Cert.ReferenceMergeIdeal.main_arg0)) (m' ((c : Thread nD τ).loc Cert.ReferenceMergeIdeal.main_arg2)) (m' ((c : Thread nD τ).loc Cert.ReferenceMergeIdeal.main_arg4)) (m' ((c : Thread nD τ).loc Cert.ReferenceMergeIdeal.main_arg6)) (m' ((c : Thread nD τ).loc Cert.ReferenceMergeIdeal.main_arg8)) (m' ((c : Thread nD τ).loc Cert.ReferenceMergeIdeal.main_arg10)) (m' ((c : Thread nD τ).loc Cert.ReferenceMergeIdeal.main_arg11)) (m' ((c : Thread nD τ).loc Cert.ReferenceMergeIdeal.main_arg12)) (m' ((c : Thread nD τ).loc Cert.ReferenceMergeIdeal.main_arg13)) (m' ((c : Thread nD τ).loc Cert.ReferenceMergeIdeal.main_arg14))) (midCtx (F := Ideal) (m' ((c : Thread nD τ).loc Cert.ReferenceMergeIdeal.main_arg1)) (m' ((c : Thread nD τ).loc Cert.ReferenceMergeIdeal.main_arg3)) (m' ((c : Thread nD τ).loc Cert.ReferenceMergeIdeal.main_arg5)) (m' ((c : Thread nD τ).loc Cert.ReferenceMergeIdeal.main_arg7)) (m' ((c : Thread nD τ).loc Cert.ReferenceMergeIdeal.main_arg9)) (m' ((c : Thread nD τ).loc Cert.ReferenceMergeIdeal.main_arg10)) (m' ((c : Thread nD τ).loc Cert.ReferenceMergeIdeal.main_arg11)) (m' ((c : Thread nD τ).loc Cert.ReferenceMergeIdeal.main_arg12)) (m' ((c : Thread nD τ).loc Cert.ReferenceMergeIdeal.main_arg13)) (m' ((c : Thread nD τ).loc Cert.ReferenceMergeIdeal.main_arg15))) = refMid m c := by
    rw [e0, e1, e2, e3, e4, e5, e6, e7, e8, e9, e10, e11, e12, e13, e14, e15]; rfl
  have en : truncf .bf16 (joined (normLat (F := Ideal) (midLat (F := Ideal) (m' ((c : Thread nD τ).loc Cert.ReferenceMergeIdeal.main_arg0)) (m' ((c : Thread nD τ).loc Cert.ReferenceMergeIdeal.main_arg2)) (m' ((c : Thread nD τ).loc Cert.ReferenceMergeIdeal.main_arg4)) (m' ((c : Thread nD τ).loc Cert.ReferenceMergeIdeal.main_arg6)) (m' ((c : Thread nD τ).loc Cert.ReferenceMergeIdeal.main_arg8)) (m' ((c : Thread nD τ).loc Cert.ReferenceMergeIdeal.main_arg10)) (m' ((c : Thread nD τ).loc Cert.ReferenceMergeIdeal.main_arg11)) (m' ((c : Thread nD τ).loc Cert.ReferenceMergeIdeal.main_arg12)) (m' ((c : Thread nD τ).loc Cert.ReferenceMergeIdeal.main_arg13)) (m' ((c : Thread nD τ).loc Cert.ReferenceMergeIdeal.main_arg14))) (m' ((c : Thread nD τ).loc Cert.ReferenceMergeIdeal.main_arg14)) (m' ((c : Thread nD τ).loc Cert.ReferenceMergeIdeal.main_arg16))) (normCtx (F := Ideal) (midCtx (F := Ideal) (m' ((c : Thread nD τ).loc Cert.ReferenceMergeIdeal.main_arg1)) (m' ((c : Thread nD τ).loc Cert.ReferenceMergeIdeal.main_arg3)) (m' ((c : Thread nD τ).loc Cert.ReferenceMergeIdeal.main_arg5)) (m' ((c : Thread nD τ).loc Cert.ReferenceMergeIdeal.main_arg7)) (m' ((c : Thread nD τ).loc Cert.ReferenceMergeIdeal.main_arg9)) (m' ((c : Thread nD τ).loc Cert.ReferenceMergeIdeal.main_arg10)) (m' ((c : Thread nD τ).loc Cert.ReferenceMergeIdeal.main_arg11)) (m' ((c : Thread nD τ).loc Cert.ReferenceMergeIdeal.main_arg12)) (m' ((c : Thread nD τ).loc Cert.ReferenceMergeIdeal.main_arg13)) (m' ((c : Thread nD τ).loc Cert.ReferenceMergeIdeal.main_arg15))) (m' ((c : Thread nD τ).loc Cert.ReferenceMergeIdeal.main_arg15)) (m' ((c : Thread nD τ).loc Cert.ReferenceMergeIdeal.main_arg16)))) bitsLt_bf16_f32 = truncf .bf16 (refNorm m c) bitsLt_bf16_f32 := by
    rw [e0, e1, e2, e3, e4, e5, e6, e7, e8, e9, e10, e11, e12, e13, e14, e15, e16]; rfl
  exact ⟨h0.trans (Eq.trans em (eq18 m c).symm), h1.trans (Eq.trans en (eq19 m c).symm), hk⟩

end Cert.MergeClaims

end
-- ==== Proof.lean ====
module

public import proofs.«01_k».proof.Defs
public import proofs.«01_k».proof.Proof.Final
public import proofs.«01_k».proof.Proof.ProjSame
public import proofs.«01_k».proof.Proof.MergeSame
public import proofs.«01_k».proof.Proof.Gen.KernelProj.Frame
public import proofs.«01_k».proof.Proof.Gen.KernelMerge.Frame
public import Idealize.ShloMosaic.Adequacy
public import Idealize.ShloMosaic.Init

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts,
    Cert.KernelProj.Gen.facts, Cert.KernelProjIdeal.Gen.facts, Cert.ReferenceProjIdeal.Gen.facts,
    Cert.KernelMerge.Gen.facts, Cert.KernelMergeIdeal.Gen.facts, Cert.ReferenceMergeIdeal.Gen.facts, Cert.Pre_finite.Own.facts,
    fun m ρ _ => Cert.Kernel.Own.frame m ρ,
    fun m ρ _ => Cert.KernelIdeal.Own.frame m ρ,
    fun m ρ _ => Cert.KernelIdeal.Own.frame m ρ,
    Cert.AttnClaims.frame_ri,
    fun m ρ _ => Cert.AttnClaims.frame_ri m ρ trivial,
    fun m ρ _ => Cert.KernelProj.Gen.frame m ρ,
    fun m ρ _ => Cert.KernelProjIdeal.Gen.frame m ρ,
    Cert.ProjClaims.frame_ri,
    fun m ρ _ => Cert.KernelMerge.Gen.frame m ρ,
    fun m ρ _ => Cert.KernelMergeIdeal.Gen.frame m ρ,
    Cert.MergeClaims.frame_ri,
    Cert.AttnClaims.preserves,
    Cert.AttnClaims.algebraic,
    trivial,
    Cert.ProjClaims.algebraic,
    Cert.MergeClaims.preserves,
    Cert.MergeClaims.algebraic⟩

end Cert.Proof

end
